-- ==== Defs.lean ====
def Pre_Kernel [hPre_groups : Cert.Pre_groups.Facts] (m : (ℓ : Loc Cert.Kernel.nD Cert.Kernel.τ Cert.Kernel.sig) → Buf (Elt Bits) ℓ) : Prop :=
  ∀ c : Dev Cert.Kernel.nD,
    (Cert.Pre_groups.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_groups : Cert.Pre_groups.Facts] (m : (ℓ : Loc Cert.KernelIdeal.nD Cert.KernelIdeal.τ Cert.KernelIdeal.sig) → Buf (Elt Ideal) ℓ) : Prop :=
  ∀ c : Dev Cert.KernelIdeal.nD,
    (Cert.Pre_groups.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_groups_and_finite [hPre_groups_and_finite : Cert.Pre_groups_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_groups_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_and_finite [hPre_groups_and_finite : Cert.Pre_groups_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_groups : Cert.Pre_groups.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_groups : Cert.Pre_groups.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_groups_and_finite [hKernelIdeal : Cert.KernelIdeal.Facts] [hPre_groups_and_finite : Cert.Pre_groups_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_groups_and_finite [hReferenceIdeal : Cert.ReferenceIdeal.Facts] [hPre_groups_and_finite : Cert.Pre_groups_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_groups_and_finite [hKernelIdeal : Cert.KernelIdeal.Facts] [hReferenceIdeal : Cert.ReferenceIdeal.Facts] [hPre_groups_and_finite : Cert.Pre_groups_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_groups : Cert.Pre_groups.Facts) (hPre_groups_and_finite : Cert.Pre_groups_and_finite.Facts),
    quiescent_Kernel (hKernel := hKernel) (hPre_groups := hPre_groups)
    ∧ quiescent_KernelIdeal (hKernelIdeal := hKernelIdeal) (hPre_groups := hPre_groups)
    ∧ quiescent_KernelIdeal_pre_groups_and_finite (hKernelIdeal := hKernelIdeal) (hPre_groups_and_finite := hPre_groups_and_finite)
    ∧ quiescent_ReferenceIdeal (hReferenceIdeal := hReferenceIdeal)
    ∧ quiescent_ReferenceIdeal_pre_groups_and_finite (hReferenceIdeal := hReferenceIdeal) (hPre_groups_and_finite := hPre_groups_and_finite)
    ∧ preserves_Kernel_KernelIdeal
    ∧ algebraic_KernelIdeal_ReferenceIdeal_pre_groups_and_finite (hKernelIdeal := hKernelIdeal) (hReferenceIdeal := hReferenceIdeal) (hPre_groups_and_finite := hPre_groups_and_finite)
-- ==== Pre_groups.lean ====
abbrev S32768x2816 : Shape := ⟨2, ![32768, 2816]⟩
abbrev S8 : Shape := ⟨1, ![8]⟩
abbrev S8x2816x2816 : Shape := ⟨3, ![8, 2816, 2816]⟩
abbrev S8x2816 : Shape := ⟨2, ![8, 2816]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S32768x2816 .bf16) (main_arg1 : IVec S8 32) (main_arg2 : FVec F S8x2816x2816 .fp8e4m3) (main_arg3 : FVec F S8x2816 .f32) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 1 := constantI S_ 1 1#1
  let main_v2 : IVec S_ 1 := (fun x v => Host.reduce IntOp.andi x v reducesTo_S8_S_d0 h_S_) main_v1 main_c_0
  let main_c_1 : IVec S_ 32 := constantI S_ 32 32768#32
  let main_v3 : IVec S8 32 := broadcastInDim S8 ![] bcast_S_S8 main_c_1
  let main_v4 : IVec S8 1 := cmpi .sle main_arg1 main_v3
  let main_c_2 : IVec S_ 1 := constantI S_ 1 1#1
  let main_v5 : IVec S_ 1 := (fun x v => Host.reduce IntOp.andi x v reducesTo_S8_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S8_S_d0 h_S_) main_arg1 main_c_3
  let main_c_4 : IVec S_ 32 := constantI S_ 32 32768#32
  let main_v8 : IVec S_ 1 := cmpi .eq main_v7 main_c_4
  let main_v9 : IVec S_ 1 := andi main_v6 main_v8
  main_v9
-- ==== Pre_groups_and_finite.lean ====
abbrev S32768x2816 : Shape := ⟨2, ![32768, 2816]⟩
abbrev S8 : Shape := ⟨1, ![8]⟩
abbrev S8x2816x2816 : Shape := ⟨3, ![8, 2816, 2816]⟩
abbrev S8x2816 : Shape := ⟨2, ![8, 2816]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bitsLt_bf16_f32 : FTy.bits .bf16 < FTy.bits .f32
  bcast_S_S32768x2816 : S_.BroadcastsInDim S32768x2816 (![] : Fin 0 → Fin S32768x2816.rank)
  reducesTo_S32768x2816_S_d0_1 : S32768x2816.ReducesTo [0, 1] S_

variable [Facts]

def fn {F : FTy → Type} [FloatOps F] (main_arg0 : FVec F S32768x2816 .bf16) (main_arg1 : IVec S8 32) (main_arg2 : FVec F S8x2816x2816 .fp8e4m3) (main_arg3 : FVec F S8x2816 .f32) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 1 := constantI S_ 1 1#1
  let main_v2 : IVec S_ 1 := (fun x v => Host.reduce IntOp.andi x v reducesTo_S8_S_d0 h_S_) main_v1 main_c_0
  let main_c_1 : IVec S_ 32 := constantI S_ 32 32768#32
  let main_v3 : IVec S8 32 := broadcastInDim S8 ![] bcast_S_S8 main_c_1
  let main_v4 : IVec S8 1 := cmpi .sle main_arg1 main_v3
  let main_c_2 : IVec S_ 1 := constantI S_ 1 1#1
  let main_v5 : IVec S_ 1 := (fun x v => Host.reduce IntOp.andi x v reducesTo_S8_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S8_S_d0 h_S_) main_arg1 main_c_3
  let main_c_4 : IVec S_ 32 := constantI S_ 32 32768#32
  let main_v8 : IVec S_ 1 := cmpi .eq main_v7 main_c_4
  let main_v9 : IVec S_ 1 := andi main_v6 main_v8
  let main_v10 : FVec F S32768x2816 .f32 := (extf .f32 · bitsLt_bf16_f32) main_arg0
  let main_v11 : FVec F S32768x2816 .f32 := Host.absf main_v10
  let main_cst : FVec F S_ .f32 := constant S_ .f32 0x7F7F0000#32
  let main_v12 : FVec F S32768x2816 .f32 := broadcastInDim S32768x2816 ![] bcast_S_S32768x2816 main_cst
  let main_v13 : IVec S32768x2816 1 := cmpf .ole main_v11 main_v12
  let main_c_5 : IVec S_ 1 := constantI S_ 1 1#1
  let main_v14 : IVec S_ 1 := (fun x v => Host.reduce IntOp.andi x v reducesTo_S32768x2816_S_d0_1 h_S_) main_v13 main_c_5
  let main_v15 : IVec S_ 1 := andi main_v9 main_v14
  main_v15
-- ==== Kernel.lean ====
abbrev S32768x2816 : Shape := ⟨2, ![32768, 2816]⟩
abbrev S8 : Shape := ⟨1, ![8]⟩
abbrev S8x2816x2816 : Shape := ⟨3, ![8, 2816, 2816]⟩
abbrev S8x2816 : Shape := ⟨2, ![8, 2816]⟩
abbrev S_ : Shape := ⟨0, ![]⟩
abbrev S71 : Shape := ⟨1, ![71]⟩
abbrev S1 : Shape := ⟨1, ![1]⟩
abbrev S71x1 : Shape := ⟨2, ![71, 1]⟩
abbrev S1x8 : Shape := ⟨2, ![1, 8]⟩
abbrev S71x8 : Shape := ⟨2, ![71, 8]⟩
abbrev S8x1x2816 : Shape := ⟨3, ![8, 1, 2816]⟩
abbrev S512x2816 : Shape := ⟨2, ![512, 2816]⟩
abbrev S1x2816x2816 : Shape := ⟨3, ![1, 2816, 2816]⟩
abbrev S1x1x2816 : Shape := ⟨3, ![1, 1, 2816]⟩
abbrev S512 : Shape := ⟨1, ![512]⟩
abbrev S512x1 : Shape := ⟨2, ![512, 1]⟩
abbrev S1x255 : Shape := ⟨2, ![1, 255]⟩
abbrev S512x255 : Shape := ⟨2, ![512, 255]⟩
abbrev S1x2816x256 : Shape := ⟨3, ![1, 2816, 256]⟩
abbrev S2816x256 : Shape := ⟨2, ![2816, 256]⟩
abbrev S512x256 : Shape := ⟨2, ![512, 256]⟩
abbrev S1x1x256 : Shape := ⟨3, ![1, 1, 256]⟩
abbrev S1x256 : Shape := ⟨2, ![1, 256]⟩

abbrev nBuf : Space → Nat
  | .hbm => 150
  | .vmem => 9
  | .smem => 5
  | _ => 0

abbrev hbmTy0_0 (i : Nat) : BufTy := match i % 128 with
  | 0 => ⟨S32768x2816, .bf16⟩
  | 1 => ⟨S8, .i32⟩
  | 2 => ⟨S8x2816x2816, .fp8e4m3⟩
  | 3 => ⟨S8x2816, .f32⟩
  | 4 => ⟨S_, .i32⟩
  | 5 => ⟨S_, .i32⟩
  | 6 => ⟨S8, .i32⟩
  | 7 => ⟨S8, .i32⟩
  | 8 => ⟨S_, .i32⟩
  | 9 => ⟨S_, .i32⟩
  | 10 => ⟨S8, .i32⟩
  | 11 => ⟨S8, .i32⟩
  | 12 => ⟨S8, .i32⟩
  | 13 => ⟨S_, .i32⟩
  | 14 => ⟨S8, .i32⟩
  | 15 => ⟨S8, .i1⟩
  | 16 => ⟨S8, .i32⟩
  | 17 => ⟨S8, .i32⟩
  | 18 => ⟨S_, .i32⟩
  | 19 => ⟨S8, .i32⟩
  | 20 => ⟨S8, .i1⟩
  | 21 => ⟨S8, .i1⟩
  | 22 => ⟨S_, .i32⟩
  | 23 => ⟨S8, .i32⟩
  | 24 => ⟨S8, .i32⟩
  | 25 => ⟨S8, .i32⟩
  | 26 => ⟨S_, .i32⟩
  | 27 => ⟨S8, .i32⟩
  | 28 => ⟨S8, .i1⟩
  | 29 => ⟨S_, .i32⟩
  | 30 => ⟨S8, .i32⟩
  | 31 => ⟨S8, .i32⟩
  | 32 => ⟨S_, .i32⟩
  | 33 => ⟨S_, .i32⟩
  | 34 => ⟨S8, .i32⟩
  | 35 => ⟨S8, .i32⟩
  | 36 => ⟨S8, .i32⟩
  | 37 => ⟨S_, .i32⟩
  | 38 => ⟨S8, .i32⟩
  | 39 => ⟨S8, .i1⟩
  | 40 => ⟨S8, .i32⟩
  | 41 => ⟨S8, .i32⟩
  | 42 => ⟨S_, .i32⟩
  | 43 => ⟨S8, .i32⟩
  | 44 => ⟨S8, .i1⟩
  | 45 => ⟨S8, .i1⟩
  | 46 => ⟨S_, .i32⟩
  | 47 => ⟨S8, .i32⟩
  | 48 => ⟨S8, .i32⟩
  | 49 => ⟨S8, .i32⟩
  | 50 => ⟨S_, .i32⟩
  | 51 => ⟨S8, .i32⟩
  | 52 => ⟨S8, .i32⟩
  | 53 => ⟨S8, .i32⟩
  | 54 => ⟨S8, .i32⟩
  | 55 => ⟨S_, .i32⟩
  | 56 => ⟨S8, .i32⟩
  | 57 => ⟨S8, .i32⟩
  | 58 => ⟨S_, .i32⟩
  | 59 => ⟨S_, .i32⟩
  | 60 => ⟨S8, .i32⟩
  | 61 => ⟨S71, .i32⟩
  | 62 => ⟨S1, .i32⟩
  | 63 => ⟨S_, .i32⟩
  | 64 => ⟨S71, .i32⟩
  | 65 => ⟨S71, .i1⟩
  | 66 => ⟨S1, .i32⟩
  | 67 => ⟨S_, .i32⟩
  | 68 => ⟨S_, .i32⟩
  | 69 => ⟨S_, .i32⟩
  | 70 => ⟨S71, .i32⟩
  | 71 => ⟨S71, .i32⟩
  | 72 => ⟨S71x1, .i32⟩
  | 73 => ⟨S1x8, .i32⟩
  | 74 => ⟨S71x8, .i32⟩
  | 75 => ⟨S71x8, .i32⟩
  | 76 => ⟨S71x8, .i1⟩
  | 77 => ⟨S71x8, .i32⟩
  | 78 => ⟨S_, .i32⟩
  | 79 => ⟨S_, .i32⟩
  | 80 => ⟨S71, .i32⟩
  | 81 => ⟨S71, .i1⟩
  | 82 => ⟨S_, .i32⟩
  | 83 => ⟨S71, .i32⟩
  | 84 => ⟨S71, .i32⟩
  | 85 => ⟨S71, .i32⟩
  | 86 => ⟨S71x1, .i32⟩
  | 87 => ⟨S71, .i32⟩
  | 88 => ⟨S71, .i32⟩
  | 89 => ⟨S8, .i32⟩
  | 90 => ⟨S_, .i32⟩
  | 91 => ⟨S71, .i32⟩
  | 92 => ⟨S71, .i1⟩
  | 93 => ⟨S_, .i32⟩
  | 94 => ⟨S71, .i32⟩
  | 95 => ⟨S71, .i32⟩
  | 96 => ⟨S71, .i32⟩
  | 97 => ⟨S71x1, .i32⟩
  | 98 => ⟨S71, .i32⟩
  | 99 => ⟨S_, .i32⟩
  | 100 => ⟨S71, .i32⟩
  | 101 => ⟨S71, .i1⟩
  | 102 => ⟨S_, .i32⟩
  | 103 => ⟨S71, .i32⟩
  | 104 => ⟨S71, .i32⟩
  | 105 => ⟨S71, .i32⟩
  | 106 => ⟨S71x1, .i32⟩
  | 107 => ⟨S71, .i32⟩
  | 108 => ⟨S_, .i32⟩
  | 109 => ⟨S71, .i32⟩
  | 110 => ⟨S71, .i32⟩
  | 111 => ⟨S71, .i32⟩
  | 112 => ⟨S_, .i32⟩
  | 113 => ⟨S_, .i32⟩
  | 114 => ⟨S_, .i32⟩
  | 115 => ⟨S71, .i32⟩
  | 116 => ⟨S71, .i32⟩
  | 117 => ⟨S_, .i32⟩
  | 118 => ⟨S71, .i32⟩
  | 119 => ⟨S_, .i32⟩
  | 120 => ⟨S71, .i32⟩
  | 121 => ⟨S71, .i1⟩
  | 122 => ⟨S_, .i32⟩
  | 123 => ⟨S71, .i32⟩
  | 124 => ⟨S71, .i32⟩
  | 125 => ⟨S71, .i32⟩
  | 126 => ⟨S71x1, .i32⟩
  | 127 => ⟨S71, .i32⟩
  | _ => ⟨S32768x2816, .bf16⟩

abbrev hbmTy0_1 (i : Nat) : BufTy := match i % 128 with
  | 0 => ⟨S_, .i32⟩
  | 1 => ⟨S71, .i32⟩
  | 2 => ⟨S71, .i32⟩
  | 3 => ⟨S71, .i32⟩
  | 4 => ⟨S_, .i32⟩
  | 5 => ⟨S_, .i32⟩
  | 6 => ⟨S_, .i32⟩
  | 7 => ⟨S71, .i32⟩
  | 8 => ⟨S71, .i32⟩
  | 9 => ⟨S_, .i32⟩
  | 10 => ⟨S71, .i32⟩
  | 11 => ⟨S71, .i32⟩
  | 12 => ⟨S_, .i32⟩
  | 13 => ⟨S71, .i32⟩
  | 14 => ⟨S71, .i1⟩
  | 15 => ⟨S71, .i1⟩
  | 16 => ⟨S_, .i32⟩
  | 17 => ⟨S_, .i32⟩
  | 18 => ⟨S71, .i32⟩
  | 19 => ⟨S71, .i32⟩
  | 20 => ⟨S8x1x2816, .f32⟩
  | 21 => ⟨S32768x2816, .bf16⟩
  | _ => ⟨S32768x2816, .bf16⟩

abbrev hbmTy (i : Nat) : BufTy := match i / 128 with
  | 0 => hbmTy0_0 i
  | 1 => hbmTy0_1 i
  | _ => ⟨S32768x2816, .bf16⟩

abbrev bufTy : (tb : Table) → Fin (tcTables nBuf tb) → BufTy
  | .hbm, ⟨i, _⟩ => hbmTy i
  | .local _ .vmem, ⟨0, _⟩ => ⟨S512x2816, .bf16⟩
  | .local _ .vmem, ⟨1, _⟩ => ⟨S512x2816, .bf16⟩
  | .local _ .vmem, ⟨2, _⟩ => ⟨S1x2816x2816, .fp8e4m3⟩
  | .local _ .vmem, ⟨3, _⟩ => ⟨S1x2816x2816, .fp8e4m3⟩
  | .local _ .vmem, ⟨4, _⟩ => ⟨S1x1x2816, .f32⟩
  | .local _ .vmem, ⟨5, _⟩ => ⟨S1x1x2816, .f32⟩
  | .local _ .vmem, ⟨6, _⟩ => ⟨S512x2816, .bf16⟩
  | .local _ .vmem, ⟨7, _⟩ => ⟨S512x2816, .bf16⟩
  | .local _ .vmem, ⟨8, _⟩ => ⟨S512x2816, .fp8e4m3⟩
  | .local _ .smem, ⟨0, _⟩ => ⟨S71, .i32⟩
  | .local _ .smem, ⟨1, _⟩ => ⟨S71, .i32⟩
  | .local _ .smem, ⟨2, _⟩ => ⟨S71, .i32⟩
  | .local _ .smem, ⟨3, _⟩ => ⟨S71, .i32⟩
  | .local _ .smem, ⟨4, _⟩ => ⟨S71, .i32⟩
  | _, _ => ⟨S32768x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_c : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_0 : Ref sig .tc := ⟨.hbm, 46, rfl⟩
abbrev main_call2_v12 : Ref sig .tc := ⟨.hbm, 47, rfl⟩
abbrev main_call2_v13 : Ref sig .tc := ⟨.hbm, 48, rfl⟩
abbrev main_v7 : Ref sig .tc := ⟨.hbm, 49, rfl⟩
abbrev main_c_3 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_c_4 : Ref sig .tc := ⟨.hbm, 55, rfl⟩
abbrev main_v12 : Ref sig .tc := ⟨.hbm, 56, rfl⟩
abbrev main_v13 : Ref sig .tc := ⟨.hbm, 57, rfl⟩
abbrev main_call4_call0_c : Ref sig .tc := ⟨.hbm, 58, rfl⟩
abbrev main_call4_call0_v0 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_c_5 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_c_6 : Ref sig .tc := ⟨.hbm, 78, rfl⟩
abbrev main_c_7 : Ref sig .tc := ⟨.hbm, 79, rfl⟩
abbrev main_v32 : Ref sig .tc := ⟨.hbm, 80, rfl⟩
abbrev main_v33 : Ref sig .tc := ⟨.hbm, 81, rfl⟩
abbrev main_c_8 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_c_9 : Ref sig .tc := ⟨.hbm, 90, rfl⟩
abbrev main_v41 : Ref sig .tc := ⟨.hbm, 91, rfl⟩
abbrev main_v42 : Ref sig .tc := ⟨.hbm, 92, rfl⟩
abbrev main_c_10 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_c_11 : Ref sig .tc := ⟨.hbm, 99, rfl⟩
abbrev main_v49 : Ref sig .tc := ⟨.hbm, 100, rfl⟩
abbrev main_v50 : Ref sig .tc := ⟨.hbm, 101, rfl⟩
abbrev main_c_12 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_c_13 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_c_14 : Ref sig .tc := ⟨.hbm, 112, rfl⟩
abbrev main_c_15 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_c_16 : Ref sig .tc := ⟨.hbm, 119, rfl⟩
abbrev main_v60 : Ref sig .tc := ⟨.hbm, 120, rfl⟩
abbrev main_v61 : Ref sig .tc := ⟨.hbm, 121, rfl⟩
abbrev main_c_17 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_c_18 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_c_19 : Ref sig .tc := ⟨.hbm, 132, rfl⟩
abbrev main_c_20 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_call6_v3 : Ref sig .tc := ⟨.hbm, 137, rfl⟩
abbrev main_call6_v4 : Ref sig .tc := ⟨.hbm, 138, rfl⟩
abbrev main_v70 : Ref sig .tc := ⟨.hbm, 139, rfl⟩
abbrev main_c_21 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_c_22 : Ref sig .tc := ⟨.hbm, 144, rfl⟩
abbrev main_c_23 : Ref sig .tc := ⟨.hbm, 145, rfl⟩
abbrev main_call8_v0 : Ref sig .tc := ⟨.hbm, 146, rfl⟩
abbrev main_call8_v1 : Ref sig .tc := ⟨.hbm, 147, rfl⟩
abbrev main_v76 : Ref sig .tc := ⟨.hbm, 148, rfl⟩
abbrev main_v77 : Ref sig .tc := ⟨.hbm, 149, rfl⟩
abbrev main_v48 : Ref sig .tc := ⟨.smem, 0, rfl⟩
abbrev main_v31 : Ref sig .tc := ⟨.smem, 1, rfl⟩
abbrev main_v75 : Ref sig .tc := ⟨.smem, 2, rfl⟩
abbrev main_v59 : Ref sig .tc := ⟨.smem, 3, rfl⟩
abbrev main_v71 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![71], ![false]⟩

abbrev pre0 : Pipeline.Prefetch sig := ⟨5, ![main_v48.idx, main_v31.idx, main_v75.idx, main_v59.idx, main_v71.idx], fun | 0 => main_v48.names | 1 => main_v31.names | 2 => main_v75.names | 3 => main_v59.names | 4 => main_v71.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_cond1 (v5 : BitVec 32) : BitVec 1 :=
  let c1_i32 : BitVec 32 := 1#32
  let v6 : BitVec 1 := Scalar.cmpi .eq v5 c1_i32
  let v7 : BitVec 32 := Scalar.extui v6
  let c0_i32 : BitVec 32 := 0#32
  let v8 : BitVec 1 := Scalar.cmpi .ne v7 c0_i32
  v8

def k0_cond2 (v1 : BitVec 32) (v3 : BitVec 32) (v10 : BitVec 32) : BitVec 1 :=
  let c0_i32_0 : BitVec 32 := 0#32
  let v11 : BitVec 1 := Scalar.cmpi .eq v10 c0_i32_0
  let v12 : BitVec 1 := Scalar.cmpi .sgt v3 v1
  let v13 : BitVec 1 := Scalar.andi v11 v12
  let v14 : BitVec 32 := Scalar.extui v13
  let c0_i32_1 : BitVec 32 := 0#32
  let v15 : BitVec 1 := Scalar.cmpi .ne v14 c0_i32_1
  v15

def cc0_transform_0 (k0_off1_inb : ∀ i : grid0.Coords, ∀ a, (k0_off1 i) a + S1.size a ≤ S71.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S71) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S71.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S71) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S71.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S71) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S71.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S71) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2816x2816 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32768x2816 : Shape := ⟨2, ![32768, 2816]⟩
abbrev S8 : Shape := ⟨1, ![8]⟩
abbrev S8x2816x2816 : Shape := ⟨3, ![8, 2816, 2816]⟩
abbrev S8x2816 : Shape := ⟨2, ![8, 2816]⟩
abbrev S_ : Shape := ⟨0, ![]⟩
abbrev S32768x1 : Shape := ⟨2, ![32768, 1]⟩
abbrev S7 : Shape := ⟨1, ![7]⟩
abbrev S1x7 : Shape := ⟨2, ![1, 7]⟩
abbrev S32768x7 : Shape := ⟨2, ![32768, 7]⟩
abbrev S32768 : Shape := ⟨1, ![32768]⟩
abbrev S1x2816x2816 : Shape := ⟨3, ![1, 2816, 2816]⟩
abbrev S2816x2816 : Shape := ⟨2, ![2816, 2816]⟩
abbrev S1x2816 : Shape := ⟨2, ![1, 2816]⟩

abbrev nBuf : Space → Nat
  | .hbm => 18
  | .vmem => 5
  | .smem => 0
  | _ => 0

abbrev bufTy : (tb : Table) → Fin (tcTables nBuf tb) → BufTy
  | .hbm, ⟨0, _⟩ => ⟨S32768x2816, .bf16⟩
  | .hbm, ⟨1, _⟩ => ⟨S8, .i32⟩
  | .hbm, ⟨2, _⟩ => ⟨S8x2816x2816, .fp8e4m3⟩
  | .hbm, ⟨3, _⟩ => ⟨S8x2816, .f32⟩
  | .hbm, ⟨4, _⟩ => ⟨S_, .i32⟩
  | .hbm, ⟨5, _⟩ => ⟨S_, .i32⟩
  | .hbm, ⟨6, _⟩ => ⟨S8, .i32⟩
  | .hbm, ⟨7, _⟩ => ⟨S32768x1, .i32⟩
  | .hbm, ⟨8, _⟩ => ⟨S7, .i32⟩
  | .hbm, ⟨9, _⟩ => ⟨S1x7, .i32⟩
  | .hbm, ⟨10, _⟩ => ⟨S32768x7, .i32⟩
  | .hbm, ⟨11, _⟩ => ⟨S32768x7, .i32⟩
  | .hbm, ⟨12, _⟩ => ⟨S32768x7, .i1⟩
  | .hbm, ⟨13, _⟩ => ⟨S32768x7, .i32⟩
  | .hbm, ⟨14, _⟩ => ⟨S_, .i32⟩
  | .hbm, ⟨15, _⟩ => ⟨S32768, .i32⟩
  | .hbm, ⟨16, _⟩ => ⟨S32768x1, .i32⟩
  | .hbm, ⟨17, _⟩ => ⟨S32768x2816, .bf16⟩
  | .local _ .vmem, ⟨0, _⟩ => ⟨S32768x2816, .bf16⟩
  | .local _ .vmem, ⟨1, _⟩ => ⟨S32768x1, .i32⟩
  | .local _ .vmem, ⟨2, _⟩ => ⟨S8x2816x2816, .fp8e4m3⟩
  | .local _ .vmem, ⟨3, _⟩ => ⟨S8x2816, .f32⟩
  | .local _ .vmem, ⟨4, _⟩ => ⟨S32768x2816, .bf16⟩
  | _, _ => ⟨S32768x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S32768x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2816x2816 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Body.lean ====
module

public import proofs.«01_k».proof.Proof.Gen.Kernel.Launch
public import proofs.«01_k».proof.Proof.Gen.Kernel.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Stretches
public import Idealize.ShloMosaic.Lib.WordCmp
public import Idealize.ShloMosaic.Lib.VecWindow

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

abbrev tb1 : Memref sig .tc .smem S71 .i32 := Memref.whole main_v48
abbrev tb2 : Memref sig .tc .smem S71 .i32 := Memref.whole main_v31
abbrev tb3 : Memref sig .tc .smem S71 .i32 := Memref.whole main_v75
abbrev tb4 : Memref sig .tc .smem S71 .i32 := Memref.whole main_v59
abbrev tb5 : Memref sig .tc .smem S71 .i32 := Memref.whole main_v71
abbrev scr : Memref sig .tc .vmem S512x2816 .fp8e4m3 := Memref.whole cc0_scratch0

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word of a table that the body reads at point `i`. -/
abbrev wd (c : Dev nD) (i : grid0.Coords) (M : Memref sig .tc .smem S71 .i32) (f : TbBuf (F := F) c M) : Elt F .i32 :=
  View.readAt (Elt F) M.view (Rect.unit (s := S71) (k0_off1 i) S1.size (k0_off1_inb i)).toLoadRect f
    (Shape.Idx.first (numel1_S1.symm ▸ Nat.one_pos))

/-- The eight-bit codes of a block of rows, and the rows' scales, as the kernel computes them. -/
def codes (x : Vec F S512x2816 .bf16) : FVec F S512x2816 .fp8e4m3 := k0_pay7 (k0_pay6 x)
def rsc (x : Vec F S512x2816 .bf16) : FVec F S512x1 .f32 := k0_pay8 (F := F) (k0_pay5 x)

theorem inbO (k : Fin 11) : ∀ a, (![0, 256 * k.val] : Fin 2 → ℕ) a + S512x256.size a ≤ S512x2816.size a := by
  revert k; decide
theorem inbW (k : Fin 11) : ∀ a, (![0, 0, 256 * k.val] : Fin 3 → ℕ) a + S1x2816x256.size a ≤ S1x2816x2816.size a := by
  revert k; decide
theorem inbS (k : Fin 11) : ∀ a, (![0, 0, 256 * k.val] : Fin 3 → ℕ) a + S1x1x256.size a ≤ S1x1x2816.size a := by
  revert k; decide
/-- Column piece `k` of the output block, of the weights' block and of the weights' scales. -/
abbrev rO (k : Fin 11) : Rect S512x2816 := Rect.unit (s := S512x2816) ![0, 256 * k.val] S512x256.size (inbO k)
abbrev rW (k : Fin 11) : Rect S1x2816x2816 := Rect.unit (s := S1x2816x2816) ![0, 0, 256 * k.val] S1x2816x256.size (inbW k)
abbrev rS (k : Fin 11) : Rect S1x1x2816 := Rect.unit (s := S1x1x2816) ![0, 0, 256 * k.val] S1x1x256.size (inbS k)

/-- The product of piece `k`, scaled, before it is rounded. -/
def newPc (x : Vec F S512x2816 .bf16) (w : Vec F S1x2816x2816 .fp8e4m3) (ws : Vec F S1x1x2816 .f32) (k : Fin 11) : FVec F S512x256 .f32 :=
  k0_pay39 (rsc x) (codes x) (View.ld w (rW k)) (View.ld ws (rS k))
/-- Piece `k` as the whole tile is written. -/
def firstPc (x : Vec F S512x2816 .bf16) (w : Vec F S1x2816x2816 .fp8e4m3) (ws : Vec F S1x1x2816 .f32) (k : Fin 11) : FVec F S512x256 .bf16 :=
  truncf .bf16 (newPc x w ws k) bitsLt_bf16_f32
/-- Piece `k` as only the rows from `l` to `h` are written over `prev`. -/
def maskPc (l h : BitVec 32) (x : Vec F S512x2816 .bf16) (w : Vec F S1x2816x2816 .fp8e4m3) (ws : Vec F S1x1x2816 .f32)
    (prev : Vec F S512x2816 .bf16) (k : Fin 11) : FVec F S512x256 .bf16 :=
  k0_pay3 (k0_pay25 (F := F) l h) (newPc x w ws k) (View.ld prev (rO k))

/-- An entry's place in its column piece. -/
def colIx (y : S512x2816.Idx) : S512x256.Idx := fun a => match a with
  | ⟨0, _⟩ => ⟨(y 0).val, (y 0).isLt⟩
  | ⟨1, _⟩ => ⟨(y 1).val % 256, Nat.mod_lt _ (by decide)⟩

/-- The block whose column pieces are `P`. -/
def outOf (P : Fin 11 → FVec F S512x256 .bf16) : Vec F S512x2816 .bf16 := fun y =>
  P ⟨(y 1).val / 256, by have h : (y 1).val < 2816 := (y 1).isLt; omega⟩ (colIx y)

/-- The stores of the pieces below `n`, the last first. -/
def pcs (P : Fin 11 → FVec F S512x256 .bf16) : (n : ℕ) → n ≤ 11 → List (View.Piece (Elt F) S512x2816 .bf16)
  | 0, _ => []
  | n + 1, h => ⟨rO ⟨n, h⟩, P ⟨n, h⟩⟩ :: pcs P n (Nat.le_of_succ_le h)

theorem read_pcs {sp : Space} (v : View sig .tc sp S512x2816 .bf16) (f : v.ty.Contents (Elt F)) (P : Fin 11 → FVec F S512x256 .bf16) (y : S512x2816.Idx) :
    ∀ (n : ℕ) (h : n ≤ 11), (y 1).val < 256 * n → v.read (Elt F) (v.writes (Elt F) f (pcs P n h)) y = outOf P y
  | 0, _, hy => absurd hy (by omega)
  | n + 1, h, hy => by
    by_cases hc : 256 * n ≤ (y 1).val
    · have e : (rO ⟨n, h⟩).emb (colIx y) = y := by
        funext a
        refine Fin.ext ?_
        match a with
        | ⟨0, _⟩ => show 0 + 1 * (y 0).val = (y 0).val; omega
        | ⟨1, _⟩ => show 256 * n + 1 * ((y 1).val % 256) = (y 1).val; omega
      have hk : (y 1).val / 256 = n := by omega
      unfold pcs
      conv_lhs => rw [← e]
      rw [View.read_writes_cons_emb]
      unfold outOf
      have : (⟨(y 1).val / 256, by omega⟩ : Fin 11) = ⟨n, h⟩ := Fin.ext hk
      rw [this]
    · unfold pcs
      rw [View.writes_cons, View.read_slice_write_of_not_mem]
      · exact read_pcs v f P y n _ (by omega)
      · rw [Rect.map_emb_univ]
        intro hm
        obtain ⟨z, hz⟩ := (rO ⟨n, h⟩).exists_idx_of_mem hm
        have h1 := congrArg (fun q : S512x2816.Idx => (q 1).val) hz
        have h2 : 256 * n + 1 * (z 1).val = (y 1).val := h1
        omega

theorem read_cols {sp : Space} (v : View sig .tc sp S512x2816 .bf16) (f : v.ty.Contents (Elt F)) (P : Fin 11 → FVec F S512x256 .bf16) :
    v.read (Elt F) (v.writes (Elt F) f (pcs P 11 (Nat.le_refl _))) = outOf P :=
  funext fun y => read_pcs v f P y 11 _ (by have h : (y 1).val < 2816 := (y 1).isLt; omega)

theorem cons11 (P : Fin 11 → FVec F S512x256 .bf16) {p0 p1 p2 p3 p4 p5 p6 p7 p8 p9 p10 : FVec F S512x256 .bf16}
    (h0 : p0 = P ⟨0, by decide⟩)
    (h1 : p1 = P ⟨1, by decide⟩)
    (h2 : p2 = P ⟨2, by decide⟩)
    (h3 : p3 = P ⟨3, by decide⟩)
    (h4 : p4 = P ⟨4, by decide⟩)
    (h5 : p5 = P ⟨5, by decide⟩)
    (h6 : p6 = P ⟨6, by decide⟩)
    (h7 : p7 = P ⟨7, by decide⟩)
    (h8 : p8 = P ⟨8, by decide⟩)
    (h9 : p9 = P ⟨9, by decide⟩)
    (h10 : p10 = P ⟨10, by decide⟩) :
    ([⟨Rect.unit (s := S512x2816) ![0, 2560] S512x256.size inb_S512x2816_S512x256_0_2560, p10⟩, ⟨Rect.unit (s := S512x2816) ![0, 2304] S512x256.size inb_S512x2816_S512x256_0_2304, p9⟩, ⟨Rect.unit (s := S512x2816) ![0, 2048] S512x256.size inb_S512x2816_S512x256_0_2048, p8⟩, ⟨Rect.unit (s := S512x2816) ![0, 1792] S512x256.size inb_S512x2816_S512x256_0_1792, p7⟩, ⟨Rect.unit (s := S512x2816) ![0, 1536] S512x256.size inb_S512x2816_S512x256_0_1536, p6⟩, ⟨Rect.unit (s := S512x2816) ![0, 1280] S512x256.size inb_S512x2816_S512x256_0_1280, p5⟩, ⟨Rect.unit (s := S512x2816) ![0, 1024] S512x256.size inb_S512x2816_S512x256_0_1024, p4⟩, ⟨Rect.unit (s := S512x2816) ![0, 768] S512x256.size inb_S512x2816_S512x256_0_768, p3⟩, ⟨Rect.unit (s := S512x2816) ![0, 512] S512x256.size inb_S512x2816_S512x256_0_512, p2⟩, ⟨Rect.unit (s := S512x2816) ![0, 256] S512x256.size inb_S512x2816_S512x256_0_256, p1⟩, ⟨Rect.unit (s := S512x2816) ![0, 0] S512x256.size inb_S512x2816_S512x256_0_0, p0⟩] : List (View.Piece (Elt F) S512x2816 .bf16))
      = pcs P 11 (Nat.le_refl _) := by
  subst h0 h1 h2 h3 h4 h5 h6 h7 h8 h9 h10
  rfl

set_option pp.maxSteps 40 in
set_option maxHeartbeats 1000000 in
/-- At a point that computes nothing, the output block stays as it was. -/
theorem body_idle (c : Dev nD) (E : Set ℕ) (i : grid0.Coords)
    (arg6 : Memref sig .tc .vmem S512x2816 .bf16) (harg6 : arg6.IsWhole)
    (arg7 : Memref sig .tc .vmem S1x2816x2816 .fp8e4m3) (harg7 : arg7.IsWhole)
    (arg8 : Memref sig .tc .vmem S1x1x2816 .f32) (harg8 : arg8.IsWhole)
    (arg9 : Memref sig .tc .vmem S512x2816 .bf16) (harg9 : arg9.IsWhole)
    (x : Vec F S512x2816 .bf16) (w : Vec F S1x2816x2816 .fp8e4m3) (ws : Vec F S1x1x2816 .f32) (prev : Vec F S512x2816 .bf16)
    (f3 : TbBuf (F := F) c tb3) (f4 : TbBuf (F := F) c tb4) (f5 : TbBuf (F := F) c tb5)
    (h1 : ¬ k0_cond1 (wd c i tb3 f3) = 1#1) (h2 : ¬ k0_cond2 (wd c i tb4 f4) (wd c i tb5 f5) (wd c i tb3 f3) = 1#1)
    (K : PUnit → sProp 𝕄) :
    iprop(owns (c : Thread nD τ) arg6 fullShare x ∗ owns (c : Thread nD τ) arg7 fullShare w ∗ owns (c : Thread nD τ) arg8 fullShare ws
        ∗ owns (c : Thread nD τ) arg9 fullShare prev
        ∗ (∃ d, owns (c : Thread nD τ) scr fullShare d)
        ∗ tbPt c tb3 f3 ∗ tbPt c tb4 f4 ∗ tbPt c tb5 f5
        ∗ (iprop(owns (c : Thread nD τ) arg6 fullShare x ∗ owns (c : Thread nD τ) arg7 fullShare w ∗ owns (c : Thread nD τ) arg8 fullShare ws
            ∗ owns (c : Thread nD τ) arg9 fullShare (prev)
            ∗ (∃ d, owns (c : Thread nD τ) scr fullShare d)
            ∗ tbPt c tb3 f3 ∗ tbPt c tb4 f4 ∗ tbPt c tb5 f5) -∗ K ⟨⟩))
      ⊢ wp frame (wpE (defs₀ (F := F)) Variants.none c none) E
          (cc0_grouped_fp8_matmul i tb1 (Memref.isWhole_whole _) tb2 (Memref.isWhole_whole _) tb3 (Memref.isWhole_whole _)
            tb4 (Memref.isWhole_whole _) tb5 (Memref.isWhole_whole _) arg6 harg6 arg7 harg7 arg8 harg8 arg9 harg9 scr (Memref.isWhole_whole _)) K := by
  simp only [cc0_grouped_fp8_matmul_eq_skeleton]; unfold cc0_grouped_fp8_matmul_skel
  unfold owns
  iintro ⟨⟨%g6, %hg6, H6⟩, ⟨%g7, %hg7, H7⟩, ⟨%g8, %hg8, H8⟩, ⟨%g9, %hg9, H9⟩, ⟨%d10, %g10, -, H10⟩, T3, T4, T5, Hk⟩
  subst hg6 hg7 hg8 hg9
  sl_exec
  sl_step
  iapply Hk
  isplitl [H6]
  · iexists g6; isplitr; · ipureintro; rfl
    iexact H6
  isplitl [H7]
  · iexists g7; isplitr; · ipureintro; rfl
    iexact H7
  isplitl [H8]
  · iexists g8; isplitr; · ipureintro; rfl
    iexact H8
  isplitl [H9]
  · iexists _; isplitr
    swap; · iexact H9
    ipureintro
    rfl
  isplitl [H10]
  · iexists _; iexists _; isplitr
    swap; · iexact H10
    ipureintro; rfl
  isplitl [T3]; · iexact T3
  isplitl [T4]; · iexact T4
  iexact T5

set_option pp.maxSteps 40 in
set_option maxHeartbeats 1000000 in
/-- At a tile's first point the whole block is written. -/
theorem body_first (c : Dev nD) (E : Set ℕ) (i : grid0.Coords)
    (arg6 : Memref sig .tc .vmem S512x2816 .bf16) (harg6 : arg6.IsWhole)
    (arg7 : Memref sig .tc .vmem S1x2816x2816 .fp8e4m3) (harg7 : arg7.IsWhole)
    (arg8 : Memref sig .tc .vmem S1x1x2816 .f32) (harg8 : arg8.IsWhole)
    (arg9 : Memref sig .tc .vmem S512x2816 .bf16) (harg9 : arg9.IsWhole)
    (x : Vec F S512x2816 .bf16) (w : Vec F S1x2816x2816 .fp8e4m3) (ws : Vec F S1x1x2816 .f32) (prev : Vec F S512x2816 .bf16)
    (f3 : TbBuf (F := F) c tb3) (f4 : TbBuf (F := F) c tb4) (f5 : TbBuf (F := F) c tb5)
    (h1 : k0_cond1 (wd c i tb3 f3) = 1#1) (h2 : ¬ k0_cond2 (wd c i tb4 f4) (wd c i tb5 f5) (wd c i tb3 f3) = 1#1)
    (K : PUnit → sProp 𝕄) :
    iprop(owns (c : Thread nD τ) arg6 fullShare x ∗ owns (c : Thread nD τ) arg7 fullShare w ∗ owns (c : Thread nD τ) arg8 fullShare ws
        ∗ owns (c : Thread nD τ) arg9 fullShare prev
        ∗ (∃ d, owns (c : Thread nD τ) scr fullShare d)
        ∗ tbPt c tb3 f3 ∗ tbPt c tb4 f4 ∗ tbPt c tb5 f5
        ∗ (iprop(owns (c : Thread nD τ) arg6 fullShare x ∗ owns (c : Thread nD τ) arg7 fullShare w ∗ owns (c : Thread nD τ) arg8 fullShare ws
            ∗ owns (c : Thread nD τ) arg9 fullShare (outOf (firstPc x w ws))
            ∗ (∃ d, owns (c : Thread nD τ) scr fullShare d)
            ∗ tbPt c tb3 f3 ∗ tbPt c tb4 f4 ∗ tbPt c tb5 f5) -∗ K ⟨⟩))
      ⊢ wp frame (wpE (defs₀ (F := F)) Variants.none c none) E
          (cc0_grouped_fp8_matmul i tb1 (Memref.isWhole_whole _) tb2 (Memref.isWhole_whole _) tb3 (Memref.isWhole_whole _)
            tb4 (Memref.isWhole_whole _) tb5 (Memref.isWhole_whole _) arg6 harg6 arg7 harg7 arg8 harg8 arg9 harg9 scr (Memref.isWhole_whole _)) K := by
  simp only [cc0_grouped_fp8_matmul_eq_skeleton]; unfold cc0_grouped_fp8_matmul_skel
  unfold owns
  iintro ⟨⟨%g6, %hg6, H6⟩, ⟨%g7, %hg7, H7⟩, ⟨%g8, %hg8, H8⟩, ⟨%g9, %hg9, H9⟩, ⟨%d10, %g10, -, H10⟩, T3, T4, T5, Hk⟩
  subst hg6 hg7 hg8 hg9
  sl_exec
  sl_step
  iapply Hk
  isplitl [H6]
  · iexists g6; isplitr; · ipureintro; rfl
    iexact H6
  isplitl [H7]
  · iexists g7; isplitr; · ipureintro; rfl
    iexact H7
  isplitl [H8]
  · iexists g8; isplitr; · ipureintro; rfl
    iexact H8
  isplitl [H9]
  · iexists _; isplitr
    swap; · iexact H9
    ipureintro
    refine Eq.trans (congrArg (fun L => View.read (Elt F) arg9.view (arg9.view.writes (Elt F) g9 L)) ?_) (read_cols arg9.view g9 _)
    sl_open_run
    simp only [View.readCov_cons_toLoadRect]
    have hx : View.readAt (Elt F) arg6.view (Rect.unit (s := S512x2816) ![0, 0] ![512, 2816] inb_S512x2816_S512x2816_0_0).toLoadRect g6
        = View.read (Elt F) arg6.view g6 := View.readAt_full _ _ _
    rw [hx]
    refine cons11 _ ?_ ?_ ?_ ?_ ?_ ?_ ?_ ?_ ?_ ?_ ?_
    all_goals
      unfold firstPc newPc codes rsc
      generalize k0_pay7 (k0_pay6 (View.read (Elt F) arg6.view g6)) = q
      generalize k0_pay5 (View.read (Elt F) arg6.view g6) = a
      with_unfolding_all rfl
  isplitl [H10]
  · iexists _; iexists _; isplitr
    swap; · iexact H10
    ipureintro; rfl
  isplitl [T3]; · iexact T3
  isplitl [T4]; · iexact T4
  iexact T5

end Cert.Kernel.Own
-- ==== Proof.Host.lean ====
module

public import proofs.«01_k».proof.Proof.Body
public import proofs.«01_k».proof.Proof.Gen.Kernel.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Stretches
public import Idealize.ShloMosaic.Lib.WordCmp
public import Idealize.ShloMosaic.Lib.VecWindow

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the kernel. -/
abbrev allOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- The buffers' contents when the kernel is entered. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

set_option maxHeartbeats 1600000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The tables as the kernel finds them. -/
def tbl : pre0.Contents (Elt F) := fun j => V m (0 : Dev nD) (pre0.ref j)
theorem V_pre (c : Dev nD) (j : Fin 5) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves the region hands the body, one by one. -/
theorem PhiT0_eq (c : Dev nD) : (Pipeline.ΦT pre0 (tbl m) c : sProp 𝕄)
    = iprop(tbPt c tb1 (tbl m 0) ∗ tbPt c tb2 (tbl m 1) ∗ tbPt c tb3 (tbl m 2) ∗ tbPt c tb4 (tbl m 3) ∗ tbPt c tb5 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The tables' words -/

def ix71 (t : ℕ) (h : t < 71) : S71.Idx := fun a => match a with | ⟨0, _⟩ => ⟨t, h⟩

/-- The word of table `k` for point `t`. -/
def tw (pf : pre0.Contents (Elt F)) (k : Fin 5) (t : ℕ) (h : t < 71) : BitVec 32 :=
  match k with
  | ⟨0, _⟩ => (pf 0 : Vec F S71 .i32) (ix71 t h)
  | ⟨1, _⟩ => (pf 1 : Vec F S71 .i32) (ix71 t h)
  | ⟨2, _⟩ => (pf 2 : Vec F S71 .i32) (ix71 t h)
  | ⟨3, _⟩ => (pf 3 : Vec F S71 .i32) (ix71 t h)
  | ⟨4, _⟩ => (pf 4 : Vec F S71 .i32) (ix71 t h)

theorem off1_eq (i : grid0.Coords) : k0_off1 i = ![(i 0).val] := by
  revert i; decide
theorem coords0 (t : Fin grid0.N) : ((grid0.coords t) 0).val = t.val := by
  revert t; decide

end Cert.Kernel.Own
-- ==== Proof.BodyM.lean ====
module

public import proofs.«01_k».proof.Proof.Body
public import proofs.«01_k».proof.Proof.Gen.Kernel.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Stretches
public import Idealize.ShloMosaic.Lib.WordCmp
public import Idealize.ShloMosaic.Lib.VecWindow

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The later points compute codes and scales by the same operations as the first. -/
theorem pay21_eq (x : Vec F S512x2816 .bf16) : k0_pay21 x = k0_pay5 x := rfl
theorem pay22_eq (x : Vec F S512x2816 .bf16) : k0_pay22 x = k0_pay6 x := rfl
theorem pay23_eq (x : FVec F S512x2816 .f32) : k0_pay23 x = k0_pay7 x := rfl
theorem pay24_eq (x : IVec S512x1 32) : k0_pay24 (F := F) x = k0_pay8 x := rfl

set_option pp.maxSteps 40 in
set_option maxHeartbeats 1000000 in
/-- At a tile's later points only the rows of the point's expert are written. -/
theorem body_mask (c : Dev nD) (E : Set ℕ) (i : grid0.Coords)
    (arg6 : Memref sig .tc .vmem S512x2816 .bf16) (harg6 : arg6.IsWhole)
    (arg7 : Memref sig .tc .vmem S1x2816x2816 .fp8e4m3) (harg7 : arg7.IsWhole)
    (arg8 : Memref sig .tc .vmem S1x1x2816 .f32) (harg8 : arg8.IsWhole)
    (arg9 : Memref sig .tc .vmem S512x2816 .bf16) (harg9 : arg9.IsWhole)
    (x : Vec F S512x2816 .bf16) (w : Vec F S1x2816x2816 .fp8e4m3) (ws : Vec F S1x1x2816 .f32) (prev : Vec F S512x2816 .bf16)
    (f3 : TbBuf (F := F) c tb3) (f4 : TbBuf (F := F) c tb4) (f5 : TbBuf (F := F) c tb5)
    (h1 : ¬ k0_cond1 (wd c i tb3 f3) = 1#1) (h2 : k0_cond2 (wd c i tb4 f4) (wd c i tb5 f5) (wd c i tb3 f3) = 1#1)
    (K : PUnit → sProp 𝕄) :
    iprop(owns (c : Thread nD τ) arg6 fullShare x ∗ owns (c : Thread nD τ) arg7 fullShare w ∗ owns (c : Thread nD τ) arg8 fullShare ws
        ∗ owns (c : Thread nD τ) arg9 fullShare prev
        ∗ (∃ d, owns (c : Thread nD τ) scr fullShare d)
        ∗ tbPt c tb3 f3 ∗ tbPt c tb4 f4 ∗ tbPt c tb5 f5
        ∗ (iprop(owns (c : Thread nD τ) arg6 fullShare x ∗ owns (c : Thread nD τ) arg7 fullShare w ∗ owns (c : Thread nD τ) arg8 fullShare ws
            ∗ owns (c : Thread nD τ) arg9 fullShare (outOf (maskPc (wd c i tb4 f4) (wd c i tb5 f5) x w ws prev))
            ∗ (∃ d, owns (c : Thread nD τ) scr fullShare d)
            ∗ tbPt c tb3 f3 ∗ tbPt c tb4 f4 ∗ tbPt c tb5 f5) -∗ K ⟨⟩))
      ⊢ wp frame (wpE (defs₀ (F := F)) Variants.none c none) E
          (cc0_grouped_fp8_matmul i tb1 (Memref.isWhole_whole _) tb2 (Memref.isWhole_whole _) tb3 (Memref.isWhole_whole _)
            tb4 (Memref.isWhole_whole _) tb5 (Memref.isWhole_whole _) arg6 harg6 arg7 harg7 arg8 harg8 arg9 harg9 scr (Memref.isWhole_whole _)) K := by
  simp only [cc0_grouped_fp8_matmul_eq_skeleton]; unfold cc0_grouped_fp8_matmul_skel
  unfold owns
  iintro ⟨⟨%g6, %hg6, H6⟩, ⟨%g7, %hg7, H7⟩, ⟨%g8, %hg8, H8⟩, ⟨%g9, %hg9, H9⟩, ⟨%d10, %g10, -, H10⟩, T3, T4, T5, Hk⟩
  subst hg6 hg7 hg8 hg9
  sl_exec
  sl_step
  iapply Hk
  isplitl [H6]
  · iexists g6; isplitr; · ipureintro; rfl
    iexact H6
  isplitl [H7]
  · iexists g7; isplitr; · ipureintro; rfl
    iexact H7
  isplitl [H8]
  · iexists g8; isplitr; · ipureintro; rfl
    iexact H8
  isplitl [H9]
  · iexists _; isplitr
    swap; · iexact H9
    ipureintro
    refine Eq.trans (congrArg (fun L => View.read (Elt F) arg9.view (arg9.view.writes (Elt F) g9 L)) ?_) (read_cols arg9.view g9 _)
    sl_open_run
    simp only [View.readCov_cons_toLoadRect]
    have hx : View.readAt (Elt F) arg6.view (Rect.unit (s := S512x2816) ![0, 0] ![512, 2816] inb_S512x2816_S512x2816_0_0).toLoadRect g6
        = View.read (Elt F) arg6.view g6 := View.readAt_full _ _ _
    rw [hx]
    simp only [pay21_eq, pay22_eq, pay23_eq, pay24_eq]
    refine cons11 _ ?_ ?_ ?_ ?_ ?_ ?_ ?_ ?_ ?_ ?_ ?_
    all_goals
      unfold maskPc newPc codes rsc
      generalize k0_pay7 (k0_pay6 (View.read (Elt F) arg6.view g6)) = q
      generalize k0_pay5 (View.read (Elt F) arg6.view g6) = a
      with_unfolding_all rfl
  isplitl [H10]
  · iexists _; iexists _; isplitr
    swap; · iexact H10
    ipureintro; rfl
  isplitl [T3]; · iexact T3
  isplitl [T4]; · iexact T4
  iexact T5

end Cert.Kernel.Own
-- ==== Proof.Words.lean ====
module

public import proofs.«01_k».proof.Proof.Host
public import proofs.«01_k».proof.Proof.BodyM
public import Idealize.ShloMosaic.Lib.Pipeline.TableIdle
public import proofs.«01_k».proof.Proof.Gen.Kernel.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Stretches
public import Idealize.ShloMosaic.Lib.WordCmp
public import Idealize.ShloMosaic.Lib.VecWindow

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What is known of the tables when the groups fill the rows. -/
structure TabFacts (pf : pre0.Contents (Elt F)) : Prop where
  tile_lt : ∀ t h, (tw pf 0 t h).toNat < 64
  ex_lt : ∀ t h, (tw pf 1 t h).toNat < 8
  first0 : k0_cond1 (tw pf 2 0 (by decide)) = 1#1
  step : ∀ t (h : t + 1 < 71), tw pf 0 (t + 1) h ≠ tw pf 0 t (by omega) → k0_cond1 (tw pf 2 (t + 1) h) = 1#1

theorem lt71 (i : grid0.Coords) : (i 0).val < 71 := (i 0).isLt

theorem at_eq {S : Type} (f : S71.Idx → S) (i : grid0.Coords) (inb) (h1 : 0 < (Rect.unit (s := S71) (k0_off1 i) S1.size inb).shape.numel) :
    f ((Rect.unit (s := S71) (k0_off1 i) S1.size inb).emb (Shape.Idx.first h1)) = f (ix71 (i 0).val (lt71 i)) := by
  congr 1
  funext a
  match a with
  | ⟨0, _⟩ =>
    refine Fin.ext ?_
    show k0_off1 i 0 + 1 * 0 = (i 0).val
    rw [off1_eq]; rfl

theorem tr0_eq (pf : pre0.Contents (Elt F)) (i : grid0.Coords) :
    cc0_transform_0 k0_off1_inb numel1_S1 pf i = ![(tw pf 0 (i 0).val (lt71 i)).toNat, 0] := by
  unfold cc0_transform_0
  exact congrArg (fun w : BitVec 32 => ![w.toNat, 0]) (at_eq (pf 0 : Vec F S71 .i32) i _ _)
theorem tr3_eq (pf : pre0.Contents (Elt F)) (i : grid0.Coords) :
    cc0_transform_3 k0_off1_inb numel1_S1 pf i = ![(tw pf 0 (i 0).val (lt71 i)).toNat, 0] := by
  unfold cc0_transform_3
  exact congrArg (fun w : BitVec 32 => ![w.toNat, 0]) (at_eq (pf 0 : Vec F S71 .i32) i _ _)
theorem tr1_eq (pf : pre0.Contents (Elt F)) (i : grid0.Coords) :
    cc0_transform_1 k0_off1_inb numel1_S1 pf i = ![(tw pf 1 (i 0).val (lt71 i)).toNat, 0, 0] := by
  unfold cc0_transform_1
  exact congrArg (fun w : BitVec 32 => ![w.toNat, 0, 0]) (at_eq (pf 1 : Vec F S71 .i32) i _ _)
theorem tr2_eq (pf : pre0.Contents (Elt F)) (i : grid0.Coords) :
    cc0_transform_2 k0_off1_inb numel1_S1 pf i = ![(tw pf 1 (i 0).val (lt71 i)).toNat, 0, 0] := by
  unfold cc0_transform_2
  exact congrArg (fun w : BitVec 32 => ![w.toNat, 0, 0]) (at_eq (pf 1 : Vec F S71 .i32) i _ _)

theorem ok_tile (T : ℕ) (hT : T < 64) : ∃ h : (∀ a, ((![T, 0] : Fin 2 → ℕ) a + 1) * S512x2816.size a ≤ S32768x2816.size a),
    EltTy.bits .bf16 = 32 ∨ (Rect.block (s := S32768x2816) S512x2816.size ![T, 0] h).WholeWords (EltTy.packing .bf16) := by
  refine ⟨fun a => ?_, .inr (.inl (.inr ⟨by decide, rfl, .inl ⟨?_, ?_⟩⟩))⟩
  · match a with
    | ⟨0, _⟩ => show (T + 1) * 512 ≤ 32768; omega
    | ⟨1, _⟩ => show (0 + 1) * 2816 ≤ 2816; omega
  · show 2 ∣ T * 512
    omega
  · show 2 ∣ 512
    decide

theorem ok_ex (T : ℕ) (hT : T < 8) : ∃ h : (∀ a, ((![T, 0, 0] : Fin 3 → ℕ) a + 1) * S1x2816x2816.size a ≤ S8x2816x2816.size a),
    EltTy.bits .fp8e4m3 = 32 ∨ (Rect.block (s := S8x2816x2816) S1x2816x2816.size ![T, 0, 0] h).WholeWords (EltTy.packing .fp8e4m3) := by
  refine ⟨fun a => ?_, .inr (.inr ⟨by decide, rfl, ?_, rfl⟩)⟩
  · match a with
    | ⟨0, _⟩ => show (T + 1) * 1 ≤ 8; omega
    | ⟨1, _⟩ => show (0 + 1) * 2816 ≤ 2816; omega
    | ⟨2, _⟩ => show (0 + 1) * 2816 ≤ 2816; omega
  · show 0 * 2816 = 0
    omega

theorem ok_sc (T : ℕ) (hT : T < 8) : ∃ h : (∀ a, ((![T, 0, 0] : Fin 3 → ℕ) a + 1) * S1x1x2816.size a ≤ S8x1x2816.size a),
    EltTy.bits .f32 = 32 ∨ (Rect.block (s := S8x1x2816) S1x1x2816.size ![T, 0, 0] h).WholeWords (EltTy.packing .f32) := by
  refine ⟨fun a => ?_, .inl rfl⟩
  match a with
  | ⟨0, _⟩ => show (T + 1) * 1 ≤ 8; omega
  | ⟨1, _⟩ => show (0 + 1) * 1 ≤ 1; omega
  | ⟨2, _⟩ => show (0 + 1) * 2816 ≤ 2816; omega

theorem ok_of_facts (pf : pre0.Contents (Elt F)) (h : TabFacts pf) : ok0 pf := by
  refine ⟨fun i => ?_, fun i => ?_, fun i => ?_, fun i => ?_⟩
  · rw [tr0_eq]; exact ok_tile _ (h.tile_lt _ _)
  · rw [tr1_eq]; exact ok_ex _ (h.ex_lt _ _)
  · rw [tr2_eq]; exact ok_sc _ (h.ex_lt _ _)
  · rw [tr3_eq]; exact ok_tile _ (h.tile_lt _ _)

theorem wd_eq (c : Dev nD) (i : grid0.Coords) (pf : pre0.Contents (Elt F)) :
    wd c i tb3 (pf 2) = tw pf 2 (i 0).val (lt71 i) ∧ wd c i tb4 (pf 3) = tw pf 3 (i 0).val (lt71 i) ∧ wd c i tb5 (pf 4) = tw pf 4 (i 0).val (lt71 i) :=
  ⟨at_eq (pf 2 : Vec F S71 .i32) i _ _, at_eq (pf 3 : Vec F S71 .i32) i _ _, at_eq (pf 4 : Vec F S71 .i32) i _ _⟩

theorem atD_eq (f : S71.Idx → BitVec 32) (i : grid0.Coords) :
    (if h : ∀ a, k0_off1 i a + 1 ≤ S71.size a then f (fun a => ⟨k0_off1 i a, h a⟩) else default) = f (ix71 (i 0).val (lt71 i)) := by
  have e := off1_eq i
  rw [dif_pos (fun a => by match a with | ⟨0, _⟩ => (have := lt71 i; rw [e]; exact this))]
  congr 1
  funext a
  match a with
  | ⟨0, _⟩ =>
    refine Fin.ext ?_
    show k0_off1 i 0 = (i 0).val
    rw [e]; rfl

theorem idle_eq (pf : pre0.Contents (Elt F)) (i : grid0.Coords) :
    idle0 pf 3 i = (!(k0_cond1 (tw pf 2 (i 0).val (lt71 i)) == 1#1)
      && !(k0_cond2 (tw pf 3 (i 0).val (lt71 i)) (tw pf 4 (i 0).val (lt71 i)) (tw pf 2 (i 0).val (lt71 i)) == 1#1)) := by
  have e2 : pf.atD 2 (k0_off1 i) = tw pf 2 (i 0).val (lt71 i) := atD_eq (pf 2 : Vec F S71 .i32) i
  have e3 : pf.atD 3 (k0_off1 i) = tw pf 3 (i 0).val (lt71 i) := atD_eq (pf 3 : Vec F S71 .i32) i
  have e4 : pf.atD 4 (k0_off1 i) = tw pf 4 (i 0).val (lt71 i) := atD_eq (pf 4 : Vec F S71 .i32) i
  have e2' : pf.atD 2 (k0_off2 i) = tw pf 2 (i 0).val (lt71 i) := e2
  unfold idle0
  simp only [e2, e3, e4, e2']

theorem cond1_iff (w : BitVec 32) : k0_cond1 w = 1#1 ↔ w = 1#32 := by
  unfold k0_cond1
  simp only [Scalar.cmpi, Scalar.extui, IntOp.cmpi]
  by_cases h : w = 1#32
  · subst h; decide
  · have : (w == 1#32) = false := by simpa using h
    simp [h, this]

theorem cond2_iff (a b w : BitVec 32) : k0_cond2 a b w = 1#1 ↔ w = 0#32 ∧ a.slt b = true := by
  unfold k0_cond2
  simp only [Scalar.cmpi, Scalar.extui, Scalar.andi, IntOp.cmpi, IntOp.andi]
  by_cases h : w = 0#32
  · subst h
    cases hab : a.slt b <;> simp [hab]
  · have : (w == 0#32) = false := by simpa using h
    simp [h, this]

/-- The two branches exclude one another. -/
theorem cond_excl (a b w : BitVec 32) (h : k0_cond1 w = 1#1) : ¬ k0_cond2 a b w = 1#1 := by
  rw [cond1_iff] at h
  rw [cond2_iff]
  rintro ⟨h0, -⟩
  rw [h] at h0
  exact absurd h0 (by decide)

end Cert.Kernel.Own
-- ==== Proof.Run.lean ====
module

public import proofs.«01_k».proof.Proof.Words
public import Idealize.ShloMosaic.Lib.Pipeline.TableIdle
public import proofs.«01_k».proof.Proof.Gen.Kernel.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Stretches
public import Idealize.ShloMosaic.Lib.WordCmp
public import Idealize.ShloMosaic.Lib.VecWindow

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (hO : Ok m)

/-- Window `w`'s block at point `t`, as the kernel finds it. -/
def iblk (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

theorem before0_of {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The grid's point `n`. -/
def pt (n : ℕ) (h : n < 71) : Fin (cfgM m hO).N := ⟨n, by show n < grid0.N; rw [N_0]; exact h⟩
theorem ptlt (t : Fin (cfgM m hO).N) : t.val < 71 := by
  have h : t.val < grid0.N := t.isLt
  rwa [N_0] at h

/-- What point `n` leaves in the output block, given what it found there. -/
def stepAt (c : Dev nD) (n : ℕ) (h : n < 71) (prev : Vec F S512x2816 .bf16) : Vec F S512x2816 .bf16 :=
  if k0_cond1 (tw (tbl m) 2 n h) = 1#1 then
    outOf (firstPc (iblk m hO c 0 (pt m hO n h)) (iblk m hO c 1 (pt m hO n h)) (iblk m hO c 2 (pt m hO n h)))
  else if k0_cond2 (tw (tbl m) 3 n h) (tw (tbl m) 4 n h) (tw (tbl m) 2 n h) = 1#1 then
    outOf (maskPc (tw (tbl m) 3 n h) (tw (tbl m) 4 n h) (iblk m hO c 0 (pt m hO n h)) (iblk m hO c 1 (pt m hO n h)) (iblk m hO c 2 (pt m hO n h)) prev)
  else prev

/-- The output block after point `n`. -/
def aft (c : Dev nD) : (n : ℕ) → n < 71 → Vec F S512x2816 .bf16
  | 0, h => outOf (firstPc (iblk m hO c 0 (pt m hO 0 h)) (iblk m hO c 1 (pt m hO 0 h)) (iblk m hO c 2 (pt m hO 0 h)))
  | n + 1, h => stepAt m hO c (n + 1) h (aft c n (Nat.lt_of_succ_lt h))

def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => aft m hO c t.val (ptlt m hO t)
  Φ _ := iprop(Pipeline.ΦA spec0 c ∗ Pipeline.ΦT pre0 (tbl m) c)
  q _ := fullShare
  owed _ := 0

theorem A_eq (c : Dev nD) (w : Fin (cfgM m hO).W) : (dats m hO 0 c).A w = V m c (Pipeline.arrRef spec0 w) := by
  dsimp only [dats]
theorem after0 (c : Dev nD) (t : Fin (cfgM m hO).N) : (dats m hO 0 c).after 0 t = iblk m hO c 0 t := by dsimp only [dats]; rfl
theorem after1 (c : Dev nD) (t : Fin (cfgM m hO).N) : (dats m hO 0 c).after 1 t = iblk m hO c 1 t := by dsimp only [dats]; rfl
theorem after2 (c : Dev nD) (t : Fin (cfgM m hO).N) : (dats m hO 0 c).after 2 t = iblk m hO c 2 t := by dsimp only [dats]; rfl
theorem after3 (c : Dev nD) (t : Fin (cfgM m hO).N) : (dats m hO 0 c).after 3 t = aft m hO c t.val (ptlt m hO t) := by dsimp only [dats]; rfl
theorem before0 (c : Dev nD) (t : Fin (cfgM m hO).N) (d) : (dats m hO 0 c).before 0 t d = iblk m hO c 0 t :=
  before0_of m hO (dats m hO 0 c) (A_eq m hO c 0) (after0 m hO c) t d
theorem before1 (c : Dev nD) (t : Fin (cfgM m hO).N) (d) : (dats m hO 0 c).before 1 t d = iblk m hO c 1 t :=
  before1_of m hO (dats m hO 0 c) (A_eq m hO c 1) (after1 m hO c) t d
theorem before2 (c : Dev nD) (t : Fin (cfgM m hO).N) (d) : (dats m hO 0 c).before 2 t d = iblk m hO c 2 t :=
  before2_of m hO (dats m hO 0 c) (A_eq m hO c 2) (after2 m hO c) t d

variable (hT : TabFacts (tbl m))

abbrev C1 (n : ℕ) (h : n < 71) : Prop := k0_cond1 (tw (tbl m) 2 n h) = 1#1
abbrev C2 (n : ℕ) (h : n < 71) : Prop := k0_cond2 (tw (tbl m) 3 n h) (tw (tbl m) 4 n h) (tw (tbl m) 2 n h) = 1#1

theorem idle_cfg (a : (pcfg0 (F := F)).Adm) (i : grid0.Coords) : (cfg0 a).idle 3 i = idle0 a.1 3 i := rfl
theorem index_cfg (a : (pcfg0 (F := F)).Adm) (t : Fin grid0.N) :
    ((cfg0 a).win 3).index t = cc0_transform_3 k0_off1_inb numel1_S1 a.1 (grid0.coords t) := rfl
theorem tw_coords (pf : pre0.Contents (Elt F)) (k : Fin 5) (t : Fin grid0.N) (h : t.val < 71) :
    tw pf k ((grid0.coords t) 0).val (lt71 _) = tw pf k t.val h := by
  have e := coords0 t
  simp only [e]
theorem idle_cfg' (a : (pcfg0 (F := F)).Adm) (t : Fin grid0.N) (h : t.val < 71) : (cfg0 a).idle 3 (grid0.coords t) = true
    ↔ ¬ k0_cond1 (tw a.1 2 t.val h) = 1#1 ∧ ¬ k0_cond2 (tw a.1 3 t.val h) (tw a.1 4 t.val h) (tw a.1 2 t.val h) = 1#1 := by
  rw [idle_cfg, idle_eq, tw_coords _ 2 t h, tw_coords _ 3 t h, tw_coords _ 4 t h]
  simp only [Bool.and_eq_true, Bool.not_eq_true', beq_eq_false_iff_ne, ne_eq]
theorem index_cfg' (a : (pcfg0 (F := F)).Adm) (t : Fin grid0.N) (h : t.val < 71) :
    ((cfg0 a).win 3).index t = ![(tw a.1 0 t.val h).toNat, 0] := by
  rw [index_cfg, tr3_eq, tw_coords _ 0 t h]

theorem idle3 (t : Fin (cfgM m hO).N) : (cfgM m hO).idle 3 ((cfgM m hO).grid.coords t) = true
    ↔ ¬ C1 m t.val (ptlt m hO t) ∧ ¬ C2 m t.val (ptlt m hO t) := idle_cfg' (adm m hO) t _

theorem index3 (t : Fin (cfgM m hO).N) : ((cfgM m hO).win 3).index t = ![(tw (tbl m) 0 t.val (ptlt m hO t)).toNat, 0] :=
  index_cfg' (adm m hO) t _

include hT in
theorem fresh_c1 : ∀ (n : ℕ) (h : n < 71), (cfgM m hO).fresh 3 n = true → C1 m n h
  | 0, h, _ => hT.first0
  | n + 1, h, hf => by
    have hn : n < 71 := by omega
    have hN : n < (cfgM m hO).N := (pt m hO n hn).isLt
    rw [(cfgM m hO).fresh_succ 3 n hN, Bool.or_eq_true, Bool.and_eq_true] at hf
    rcases hf with hf | ⟨hi, hf⟩
    · refine hT.step n h fun he => ?_
      rw [Pipeline.Window.flush_eq_flushF] at hf
      unfold Pipeline.Window.flushF at hf
      rw [Bool.and_eq_true, Bool.or_eq_true] at hf
      rcases hf.2 with h2 | h2
      · have h3 : n + 1 = grid0.N := of_decide_eq_true h2
        rw [N_0] at h3; omega
      · obtain ⟨h3, a, h4⟩ := of_decide_eq_true h2
        apply h4
        have e1 := index3 m hO ⟨n + 1, h3⟩
        have e2 := index3 m hO ⟨n, hN⟩
        rw [e1, e2]
        show (![(tw (tbl m) 0 (n + 1) _).toNat, 0] : Fin 2 → ℕ) a = (![(tw (tbl m) 0 n _).toNat, 0] : Fin 2 → ℕ) a
        rw [he]
    · exact absurd (fresh_c1 n hn hf) ((idle3 m hO ⟨n, hN⟩).1 hi).1

theorem aft_carry (c : Dev nD) (n : ℕ) (h : n < 71) (h0 : n ≠ 0) (h1 : ¬ C1 m n h) (h2 : ¬ C2 m n h) :
    aft m hO c n h = aft m hO c (n - 1) (by omega) := by
  obtain ⟨k, rfl⟩ := Nat.exists_eq_succ_of_ne_zero h0
  show stepAt m hO c (k + 1) h _ = _
  unfold stepAt
  rw [if_neg h1, if_neg h2]
  rfl

include hT in
/-- What the body finds in the output's buffer. -/
theorem before3 (c : Dev nD) (t : Fin (cfgM m hO).N) (d) : (dats m hO 0 c).before 3 t d
    = if (cfgM m hO).fresh 3 t.val then d else (dats m hO 0 c).after 3 ⟨t.val - 1, by omega⟩ :=
  (dats m hO 0 c).before_out_traj 3 rfl (fun _ _ => rfl) (fun t ht hi _ => by
    rw [after3, after3]
    exact aft_carry m hO c t.val _ ht ((idle3 m hO t).1 hi).1 ((idle3 m hO t).1 hi).2) t.val t rfl d

include hT in
theorem aft_first (c : Dev nD) (n : ℕ) (h : n < 71) (h1 : C1 m n h) :
    aft m hO c n h = outOf (firstPc (iblk m hO c 0 (pt m hO n h)) (iblk m hO c 1 (pt m hO n h)) (iblk m hO c 2 (pt m hO n h))) := by
  cases n with
  | zero => rfl
  | succ k => show stepAt m hO c (k + 1) h _ = _; unfold stepAt; rw [if_pos h1]

theorem aft_mask (c : Dev nD) (n : ℕ) (h : n < 71) (h0 : n ≠ 0) (h1 : ¬ C1 m n h) (h2 : C2 m n h) :
    aft m hO c n h = outOf (maskPc (tw (tbl m) 3 n h) (tw (tbl m) 4 n h) (iblk m hO c 0 (pt m hO n h)) (iblk m hO c 1 (pt m hO n h))
      (iblk m hO c 2 (pt m hO n h)) (aft m hO c (n - 1) (by omega))) := by
  obtain ⟨k, rfl⟩ := Nat.exists_eq_succ_of_ne_zero h0
  show stepAt m hO c (k + 1) h _ = _
  unfold stepAt
  rw [if_neg h1, if_pos h2]
  rfl

end Cert.Kernel.Own
-- ==== Proof.RunL.lean ====
module

public import proofs.«01_k».proof.Proof.Run
public import Idealize.ShloMosaic.Lib.Pipeline.TableIdle
public import proofs.«01_k».proof.Proof.Gen.Kernel.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Stretches
public import Idealize.ShloMosaic.Lib.WordCmp
public import Idealize.ShloMosaic.Lib.VecWindow

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (hO : Ok m) (hT : TabFacts (tbl m))

abbrev st0 (t : Fin (cfgM m hO).N) := ((cfgM m hO).win 0).stage ((cfgM m hO).slots t 0)
abbrev st1 (t : Fin (cfgM m hO).N) := ((cfgM m hO).win 1).stage ((cfgM m hO).slots t 1)
abbrev st2 (t : Fin (cfgM m hO).N) := ((cfgM m hO).win 2).stage ((cfgM m hO).slots t 2)
abbrev st3 (t : Fin (cfgM m hO).N) := ((cfgM m hO).win 3).stage ((cfgM m hO).slots t 3)

/-- The body at point `t`. -/
def bodyAt (t : Fin (cfgM m hO).N) : Prog (TpuEff nD τ sig (Elt F) Λ₀ .tc) PUnit :=
  cc0_grouped_fp8_matmul (grid0.coords t) tb1 (Memref.isWhole_whole _) tb2 (Memref.isWhole_whole _) tb3 (Memref.isWhole_whole _)
    tb4 (Memref.isWhole_whole _) tb5 (Memref.isWhole_whole _) (st0 m hO t) (hstage0_0 (((cfgM m hO).slots t 0).cast nbuf0_0))
    (st1 m hO t) (hstage0_1 (((cfgM m hO).slots t 1).cast nbuf0_1)) (st2 m hO t) (hstage0_2 (((cfgM m hO).slots t 2).cast nbuf0_2))
    (st3 m hO t) (hstage0_3 (((cfgM m hO).slots t 3).cast nbuf0_3)) scr (Memref.isWhole_whole _)

/-- The output's buffer as the body must leave it. -/
def post3 (c : Dev nD) (t : Fin (cfgM m hO).N) : sProp 𝕄 :=
  match (cfgM m hO).idle 3 ((cfgM m hO).grid.coords t) with
  | true =>
    match ((cfgM m hO).win 3).flush t with
    | false => iprop(∃ d, owns (c : Thread nD τ) (st3 m hO t) fullShare ((dats m hO 0 c).before 3 t d))
    | true => owns (c : Thread nD τ) (st3 m hO t) fullShare ((dats m hO 0 c).after 3 t)
  | false => owns (c : Thread nD τ) (st3 m hO t) fullShare ((dats m hO 0 c).after 3 t)

def bodyPre (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d)))

def bodyPost (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ post3 m hO c t)

theorem Phi_eq (c : Dev nD) (t : Fin ((cfgM m hO).N + 1)) : (dats m hO 0 c).Φ t
    = iprop((((∃ f : Buf (Elt F) ((c : Thread nD τ).loc cc0_scratch0), ((c : Thread nD τ).loc cc0_scratch0) ↦{fullShare} f)) ∗ (∃ r, prngReg c r))
      ∗ (tbPt c tb1 (tbl m 0) ∗ tbPt c tb2 (tbl m 1) ∗ tbPt c tb3 (tbl m 2) ∗ tbPt c tb4 (tbl m 3) ∗ tbPt c tb5 (tbl m 4))) := by
  show iprop(Pipeline.ΦA spec0 c ∗ Pipeline.ΦT pre0 (tbl m) c) = _
  rw [PhiT0_eq]
  unfold Pipeline.ΦA
  rw [scopedRest0_eq]

theorem wds (pf : pre0.Contents (Elt F)) (c : Dev nD) (t : Fin grid0.N) (h : t.val < 71) :
    wd c (grid0.coords t) tb3 (pf 2) = tw pf 2 t.val h ∧ wd c (grid0.coords t) tb4 (pf 3) = tw pf 3 t.val h
      ∧ wd c (grid0.coords t) tb5 (pf 4) = tw pf 4 t.val h := by
  have := wd_eq c (grid0.coords t) pf
  rwa [tw_coords _ 2 t h, tw_coords _ 3 t h, tw_coords _ 4 t h] at this

theorem scr_in (c : Dev nD) : (iprop(∃ f : Buf (Elt F) ((c : Thread nD τ).loc cc0_scratch0), ((c : Thread nD τ).loc cc0_scratch0) ↦{fullShare} f) : sProp 𝕄)
    ⊢ iprop(∃ d, owns (c : Thread nD τ) scr fullShare d) := by
  iintro ⟨%g, Hs⟩
  iexists g
  iapply (Entails.of_eq (owns_whole (c : Thread nD τ) cc0_scratch0 fullShare g).symm)
  iexact Hs
theorem scr_out (c : Dev nD) : (iprop(∃ d, owns (c : Thread nD τ) scr fullShare d) : sProp 𝕄)
    ⊢ iprop(∃ f : Buf (Elt F) ((c : Thread nD τ).loc cc0_scratch0), ((c : Thread nD τ).loc cc0_scratch0) ↦{fullShare} f) := by
  iintro ⟨%g, Hs⟩
  iexists g
  iapply (Entails.of_eq (owns_whole (c : Thread nD τ) cc0_scratch0 fullShare g))
  iexact Hs

/-- The parts of the state that the body needs, handed to it and taken back. -/
theorem shuffle {M : Type} [URA M] {α β0 β1 β2 β3 : Type} (S S' R T1 T2 T3 T4 T5 O A0 A1 A2 : sProp M) (A3 : α → sProp M) (P3 : sProp M)
    (bef : β0 → α) (out : α → α) {W : (PUnit → sProp M) → sProp M} (hin : S ⊢ S') (hout : S' ⊢ S)
    (hb : ∀ prev (K : PUnit → sProp M), iprop(A0 ∗ A1 ∗ A2 ∗ A3 prev ∗ S' ∗ T3 ∗ T4 ∗ T5
        ∗ (iprop(A0 ∗ A1 ∗ A2 ∗ A3 (out prev) ∗ S' ∗ T3 ∗ T4 ∗ T5) -∗ K ⟨⟩)) ⊢ W K)
    (hpost : ∀ d, A3 (out (bef d)) ⊢ P3) :
    iprop(((S ∗ R) ∗ (T1 ∗ T2 ∗ T3 ∗ T4 ∗ T5)) ∗ O ∗ (∃ _d : β1, A0) ∗ (∃ _d : β2, A1) ∗ (∃ _d : β3, A2) ∗ (∃ d : β0, A3 (bef d)))
      ⊢ W (fun _ => iprop(((S ∗ R) ∗ (T1 ∗ T2 ∗ T3 ∗ T4 ∗ T5)) ∗ O ∗ A0 ∗ A1 ∗ A2 ∗ P3)) := by
  iintro ⟨⟨⟨Hs, Hr⟩, T1, T2, T3, T4, T5⟩, Ho, ⟨%d0, H0⟩, ⟨%d1, H1⟩, ⟨%d2, H2⟩, ⟨%d3, H3⟩⟩
  iapply (hb (bef d3) _)
  isplitl [H0]; · iexact H0
  isplitl [H1]; · iexact H1
  isplitl [H2]; · iexact H2
  isplitl [H3]; · iexact H3
  isplitl [Hs]; · iapply hin; iexact Hs
  isplitl [T3]; · iexact T3
  isplitl [T4]; · iexact T4
  isplitl [T5]; · iexact T5
  iintro ⟨H0, H1, H2, H3, Hs, T3, T4, T5⟩
  isplitl [Hs Hr T1 T2 T3 T4 T5]
  · isplitl [Hs Hr]
    · isplitl [Hs]; · iapply hout; iexact Hs
      iexact Hr
    isplitl [T1]; · iexact T1
    isplitl [T2]; · iexact T2
    isplitl [T3]; · iexact T3
    isplitl [T4]; · iexact T4
    iexact T5
  isplitl [Ho]; · iexact Ho
  isplitl [H0]; · iexact H0
  isplitl [H1]; · iexact H1
  isplitl [H2]; · iexact H2
  iapply (hpost d3)
  iexact H3

/-- The body's triple from what each case proves of it. -/
theorem sound_of (c : Dev nD) (t : Fin (cfgM m hO).N) (out : Vec F S512x2816 .bf16 → Vec F S512x2816 .bf16)
    (hb : ∀ (prev : Vec F S512x2816 .bf16) (K : PUnit → sProp 𝕄),
      iprop(owns (c : Thread nD τ) (st0 m hO t) fullShare (iblk m hO c 0 t) ∗ owns (c : Thread nD τ) (st1 m hO t) fullShare (iblk m hO c 1 t)
        ∗ owns (c : Thread nD τ) (st2 m hO t) fullShare (iblk m hO c 2 t)
        ∗ owns (c : Thread nD τ) (st3 m hO t) fullShare prev
        ∗ (∃ d, owns (c : Thread nD τ) scr fullShare d)
        ∗ tbPt c tb3 (tbl m 2) ∗ tbPt c tb4 (tbl m 3) ∗ tbPt c tb5 (tbl m 4)
        ∗ (iprop(owns (c : Thread nD τ) (st0 m hO t) fullShare (iblk m hO c 0 t) ∗ owns (c : Thread nD τ) (st1 m hO t) fullShare (iblk m hO c 1 t)
            ∗ owns (c : Thread nD τ) (st2 m hO t) fullShare (iblk m hO c 2 t)
            ∗ owns (c : Thread nD τ) (st3 m hO t) fullShare (out prev)
            ∗ (∃ d, owns (c : Thread nD τ) scr fullShare d)
            ∗ tbPt c tb3 (tbl m 2) ∗ tbPt c tb4 (tbl m 3) ∗ tbPt c tb5 (tbl m 4)) -∗ K ⟨⟩))
      ⊢ wp frame (wpE (defs₀ (F := F)) Variants.none c none) Set.univ (bodyAt m hO t) K)
    (hpost : ∀ d, owns (c : Thread nD τ) (st3 m hO t) fullShare (out ((dats m hO 0 c).before 3 t d)) ⊢ post3 m hO c t) :
    bodyPre m hO c t ⊢ wp frame (wpE (defs₀ (F := F)) Variants.none c none) Set.univ (bodyAt m hO t) (fun _ => bodyPost m hO c t) := by
  unfold bodyPre bodyPost
  simp only [before0, before1, before2]
  rw [show (dats m hO 0 c).owesAt () t.succ = (dats m hO 0 c).owesAt () t.castSucc from rfl,
    after0, after1, after2, Phi_eq, Phi_eq]
  exact shuffle _ _ _ _ _ _ _ _ _ _ _ _ _ _ _ _ (scr_in c) (scr_out c) hb hpost

theorem defs₀_row (t : Fin (cfgM m hO).N) :
    defs₀ (F := F) .tc (cfgM m hO).body ((cfgM m hO).bodyArgs t ((cfgM m hO).slots t)) = bodyAt m hO t := by
  unfold defs₀; rw [Defs.onTc_tc]; rfl

include hT in
theorem sound_body (c : Dev nD) (t : Fin (cfgM m hO).N) :
    bodyPre m hO c t ⊢ wp frame (wpE (defs₀ (F := F)) Variants.none c none) Set.univ (bodyAt m hO t) (fun _ => bodyPost m hO c t) := by
  have h := ptlt m hO t
  obtain ⟨w2, w3, w4⟩ := wds (tbl m) c t h
  by_cases h1 : C1 m t.val h
  · have hi : (cfgM m hO).idle 3 ((cfgM m hO).grid.coords t) = false := by
      rw [← Bool.not_eq_true, idle3]; exact fun h => h.1 h1
    refine sound_of m hO c t (fun _ => outOf (firstPc (iblk m hO c 0 t) (iblk m hO c 1 t) (iblk m hO c 2 t))) (fun prev K => ?_) (fun d => ?_)
    · exact body_first c Set.univ (grid0.coords t) _ _ _ _ _ _ _ _ _ _ _ prev (tbl m 2) (tbl m 3) (tbl m 4)
        (by rw [w2]; exact h1) (by rw [w2, w3, w4]; exact cond_excl _ _ _ h1) K
    · unfold post3; rw [hi]; rw [after3, aft_first m hO hT c t.val h h1]; exact .rfl
  · have hf : (cfgM m hO).fresh 3 t.val = false := by
      rw [← Bool.not_eq_true]; exact fun hf => h1 (fresh_c1 m hO hT t.val h hf)
    have h0 : t.val ≠ 0 := fun h0 => by
      rw [h0] at hf; exact Bool.false_ne_true (hf.symm.trans ((cfgM m hO).fresh_zero 3))
    have hbf : ∀ d, (dats m hO 0 c).before 3 t d = aft m hO c (t.val - 1) (by omega) := fun d => by
      rw [before3 m hO hT, hf, after3]; rfl
    by_cases h2 : C2 m t.val h
    · have hi : (cfgM m hO).idle 3 ((cfgM m hO).grid.coords t) = false := by
        rw [← Bool.not_eq_true, idle3]; exact fun h => h.2 h2
      refine sound_of m hO c t (fun prev => outOf (maskPc (tw (tbl m) 3 t.val h) (tw (tbl m) 4 t.val h) (iblk m hO c 0 t) (iblk m hO c 1 t) (iblk m hO c 2 t) prev)) (fun prev K => ?_) (fun d => ?_)
      · have := body_mask c Set.univ (grid0.coords t) (st0 m hO t) (hstage0_0 (((cfgM m hO).slots t 0).cast nbuf0_0))
          (st1 m hO t) (hstage0_1 (((cfgM m hO).slots t 1).cast nbuf0_1)) (st2 m hO t) (hstage0_2 (((cfgM m hO).slots t 2).cast nbuf0_2))
          (st3 m hO t) (hstage0_3 (((cfgM m hO).slots t 3).cast nbuf0_3))
          (iblk m hO c 0 t) (iblk m hO c 1 t) (iblk m hO c 2 t) prev (tbl m 2) (tbl m 3) (tbl m 4)
          (by rw [w2]; exact h1) (by rw [w2, w3, w4]; exact h2) K
        rw [w3, w4] at this
        exact this
      · unfold post3; rw [hi]; rw [hbf, after3, aft_mask m hO c t.val h h0 h1 h2]; exact .rfl
    · have hi : (cfgM m hO).idle 3 ((cfgM m hO).grid.coords t) = true := by
        rw [idle3]; exact ⟨h1, h2⟩
      refine sound_of m hO c t (fun prev => prev) (fun prev K => ?_) (fun d => ?_)
      · exact body_idle c Set.univ (grid0.coords t) _ _ _ _ _ _ _ _ _ _ _ prev (tbl m 2) (tbl m 3) (tbl m 4)
          (by rw [w2]; exact h1) (by rw [w2, w3, w4]; exact h2) K
      · unfold post3; rw [hi]
        cases ((cfgM m hO).win 3).flush t with
        | false => iintro H; iexists d; iexact H
        | true => rw [hbf, after3, aft_carry m hO c t.val h h0 h1 h2]

include hT in
theorem body_obligation (c : Dev nD) : BodyObligation (dats (F := F) m hO 0 c) (defs₀ (F := F)) Variants.none () Set.univ := fun t => by
  rw [bigSep_W0, bigSep_W0, defs₀_row]
  exact triple_restated (sound_body m hO hT c t) rfl .rfl fun _ => .rfl

set_option backward.isDefEq.respectTransparency.types false in
set_option maxHeartbeats 800000 in
include hT in
theorem run_post : θ_run defs (onTc (τ := τ) (main (F := F))) (s₀ m ρ)
    (fun r => (Pipeline.FramePost (Pipeline.pin pcfgs (fun _ => adm m hO)) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO hT c).loose) (hshare := fun c => (dats m hO 0 c).share_full fun _ => rfl)
    (howed := fun _ _ => rfl) (V := V m) (hmain := hmain m Variants.none) (hA := A_eq m hO) (hpf := V_pre m) (hΦ := fun _ _ => rfl)

theorem rest1 : main_arg1 ∈ Pipeline.restRefs sig spec0 := Pipeline.mem_restRefs_of main_arg1 (by decide) (by decide)
theorem rest3 : main_arg3 ∈ Pipeline.restRefs sig spec0 := Pipeline.mem_restRefs_of main_arg3 (by decide) (by decide)

include hO hT in
/-- With tables of the right kind every run ends with its arguments unchanged and its counters at zero. -/
theorem frame_of_tab : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats m hO 0 c).arrAt_in 0 rfl _).trans ((A_eq m hO c 0).trans (V_main_arg0 m c))),
      ((h.1 c).2 main_arg1 (rest1)).trans (V_main_arg1 m c),
      ((h.1 c).1 1).trans (((dats m hO 0 c).arrAt_in 1 rfl _).trans ((A_eq m hO c 1).trans (V_main_arg2 m c))),
      ((h.1 c).2 main_arg3 (rest3)).trans (V_main_arg3 m c)⟩, h.2⟩) (run_post m ρ hO hT)

end Cert.Kernel.Own
-- ==== Proof.Reads.lean ====
module

public import proofs.«01_k».proof.Proof.Host
public import Idealize.ShloMosaic.Lib.StableHlo.RunRead
public import Idealize.ShloMosaic.Lib.Routing.Words
public import Idealize.ShloMosaic.Lib.Routing.OpsSearch
public import Idealize.ShloMosaic.Lib.Routing.OpsPair
public import Idealize.ShloMosaic.Lib.Pipeline.TableIdle
public import proofs.«01_k».proof.Proof.Gen.Kernel.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Stretches
public import Idealize.ShloMosaic.Lib.WordCmp
public import Idealize.ShloMosaic.Lib.VecWindow

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Host operations run one list after the other. -/
theorem after_app {τ : Topo} {sig : RefSig} {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => exact ih _

/-- The buffers before any host operation. -/
def W0 (m : (ℓ : Loc nD τ sig) → Buf (Elt F) ℓ) (c : Dev nD) : Valuation τ sig (Elt F) := fun b => m (c, b)
/-- The buffers after 1 of the host's stretches. -/
def W1 (m : (ℓ : Loc nD τ sig) → Buf (Elt F) ℓ) (c : Dev nD) : Valuation τ sig (Elt F) := StableHlo.after hostOps0 (W0 m c)
/-- The buffers after 2 of the host's stretches. -/
def W2 (m : (ℓ : Loc nD τ sig) → Buf (Elt F) ℓ) (c : Dev nD) : Valuation τ sig (Elt F) := StableHlo.after hostOps0_1 (W1 m c)
/-- The buffers after 3 of the host's stretches. -/
def W3 (m : (ℓ : Loc nD τ sig) → Buf (Elt F) ℓ) (c : Dev nD) : Valuation τ sig (Elt F) := StableHlo.after hostOps0_2 (W2 m c)
/-- The buffers after 4 of the host's stretches. -/
def W4 (m : (ℓ : Loc nD τ sig) → Buf (Elt F) ℓ) (c : Dev nD) : Valuation τ sig (Elt F) := StableHlo.after hostOps0_3 (W3 m c)
/-- The buffers after 5 of the host's stretches. -/
def W5 (m : (ℓ : Loc nD τ sig) → Buf (Elt F) ℓ) (c : Dev nD) : Valuation τ sig (Elt F) := StableHlo.after hostOps0_4 (W4 m c)
/-- The buffers after 6 of the host's stretches. -/
def W6 (m : (ℓ : Loc nD τ sig) → Buf (Elt F) ℓ) (c : Dev nD) : Valuation τ sig (Elt F) := StableHlo.after hostOps0_5 (W5 m c)
/-- The buffers after 7 of the host's stretches. -/
def W7 (m : (ℓ : Loc nD τ sig) → Buf (Elt F) ℓ) (c : Dev nD) : Valuation τ sig (Elt F) := StableHlo.after hostOps0_6 (W6 m c)
/-- The buffers after 8 of the host's stretches. -/
def W8 (m : (ℓ : Loc nD τ sig) → Buf (Elt F) ℓ) (c : Dev nD) : Valuation τ sig (Elt F) := StableHlo.after hostOps0_7 (W7 m c)
/-- The buffers after 9 of the host's stretches. -/
def W9 (m : (ℓ : Loc nD τ sig) → Buf (Elt F) ℓ) (c : Dev nD) : Valuation τ sig (Elt F) := StableHlo.after hostOps0_8 (W8 m c)
/-- The buffers after 10 of the host's stretches. -/
def W10 (m : (ℓ : Loc nD τ sig) → Buf (Elt F) ℓ) (c : Dev nD) : Valuation τ sig (Elt F) := StableHlo.after hostOps0_9 (W9 m c)
/-- The buffers after 11 of the host's stretches. -/
def W11 (m : (ℓ : Loc nD τ sig) → Buf (Elt F) ℓ) (c : Dev nD) : Valuation τ sig (Elt F) := StableHlo.after hostOps0_10 (W10 m c)
/-- The buffers after 12 of the host's stretches. -/
def W12 (m : (ℓ : Loc nD τ sig) → Buf (Elt F) ℓ) (c : Dev nD) : Valuation τ sig (Elt F) := StableHlo.after hostOps0_11 (W11 m c)
/-- The buffers after 13 of the host's stretches. -/
def W13 (m : (ℓ : Loc nD τ sig) → Buf (Elt F) ℓ) (c : Dev nD) : Valuation τ sig (Elt F) := StableHlo.after hostOps0_12 (W12 m c)
/-- The buffers after 14 of the host's stretches. -/
def W14 (m : (ℓ : Loc nD τ sig) → Buf (Elt F) ℓ) (c : Dev nD) : Valuation τ sig (Elt F) := StableHlo.after hostOps0_13 (W13 m c)
/-- The buffers after 15 of the host's stretches. -/
def W15 (m : (ℓ : Loc nD τ sig) → Buf (Elt F) ℓ) (c : Dev nD) : Valuation τ sig (Elt F) := StableHlo.after hostOps0_14 (W14 m c)
/-- The buffers after 16 of the host's stretches. -/
def W16 (m : (ℓ : Loc nD τ sig) → Buf (Elt F) ℓ) (c : Dev nD) : Valuation τ sig (Elt F) := StableHlo.after hostOps0_15 (W15 m c)
/-- The buffers after 17 of the host's stretches. -/
def W17 (m : (ℓ : Loc nD τ sig) → Buf (Elt F) ℓ) (c : Dev nD) : Valuation τ sig (Elt F) := StableHlo.after hostOps0_16 (W16 m c)

theorem V_W17 (m : (ℓ : Loc nD τ sig) → Buf (Elt F) ℓ) (c : Dev nD) (r : Ref sig .tc) : V m c r = W17 m c (Proc.devRef .tc r) := by
  show StableHlo.after (List.flatten _) _ _ = _
  simp only [List.flatten_cons, List.flatten_nil, List.append_nil, after_app]
  rfl

theorem up0 (m : (ℓ : Loc nD τ sig) → Buf (Elt F) ℓ) (c : Dev nD) (r : Ref sig .tc) (h : r ∉ ([main_call0_call0_c, main_call0_call0_v0, main_v0] : List (Ref sig .tc))) :
    W1 m c (Proc.devRef .tc r) = W0 m c (Proc.devRef .tc r) :=
  StableHlo.after_of_writes_sub hostOps0 _ (StableHlo.forall_writes_sub_of_map rfl) h

theorem up1 (m : (ℓ : Loc nD τ sig) → Buf (Elt F) ℓ) (c : Dev nD) (r : Ref sig .tc) (h : r ∉ ([main_v1, main_c] : List (Ref sig .tc))) :
    W2 m c (Proc.devRef .tc r) = W1 m c (Proc.devRef .tc r) :=
  StableHlo.after_of_writes_sub hostOps0_1 _ (StableHlo.forall_writes_sub_of_map rfl) h

theorem up2 (m : (ℓ : Loc nD τ sig) → Buf (Elt F) ℓ) (c : Dev nD) (r : Ref sig .tc) (h : r ∉ ([main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v2] : List (Ref sig .tc))) :
    W3 m c (Proc.devRef .tc r) = W2 m c (Proc.devRef .tc r) :=
  StableHlo.after_of_writes_sub hostOps0_2 _ (StableHlo.forall_writes_sub_of_map rfl) h

theorem up3 (m : (ℓ : Loc nD τ sig) → Buf (Elt F) ℓ) (c : Dev nD) (r : Ref sig .tc) (h : r ∉ ([main_c_0, main_v3, main_v4, main_c_1, main_v5, main_v6, main_c_2] : List (Ref sig .tc))) :
    W4 m c (Proc.devRef .tc r) = W3 m c (Proc.devRef .tc r) :=
  StableHlo.after_of_writes_sub hostOps0_3 _ (StableHlo.forall_writes_sub_of_map rfl) h

theorem up4 (m : (ℓ : Loc nD τ sig) → Buf (Elt F) ℓ) (c : Dev nD) (r : Ref sig .tc) (h : r ∉ ([main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v7] : List (Ref sig .tc))) :
    W5 m c (Proc.devRef .tc r) = W4 m c (Proc.devRef .tc r) :=
  StableHlo.after_of_writes_sub hostOps0_4 _ (StableHlo.forall_writes_sub_of_map rfl) h

theorem up5 (m : (ℓ : Loc nD τ sig) → Buf (Elt F) ℓ) (c : Dev nD) (r : Ref sig .tc) (h : r ∉ ([main_c_3, main_v8, main_v9] : List (Ref sig .tc))) :
    W6 m c (Proc.devRef .tc r) = W5 m c (Proc.devRef .tc r) :=
  StableHlo.after_of_writes_sub hostOps0_5 _ (StableHlo.forall_writes_sub_of_map rfl) h

theorem up6 (m : (ℓ : Loc nD τ sig) → Buf (Elt F) ℓ) (c : Dev nD) (r : Ref sig .tc) (h : r ∉ ([main_v10] : List (Ref sig .tc))) :
    W7 m c (Proc.devRef .tc r) = W6 m c (Proc.devRef .tc r) :=
  StableHlo.after_of_writes_sub hostOps0_6 _ (StableHlo.forall_writes_sub_of_map rfl) h

theorem up7 (m : (ℓ : Loc nD τ sig) → Buf (Elt F) ℓ) (c : Dev nD) (r : Ref sig .tc) (h : r ∉ ([main_v11, main_c_4, main_v12, main_v13] : List (Ref sig .tc))) :
    W8 m c (Proc.devRef .tc r) = W7 m c (Proc.devRef .tc r) :=
  StableHlo.after_of_writes_sub hostOps0_7 _ (StableHlo.forall_writes_sub_of_map rfl) h

theorem up8 (m : (ℓ : Loc nD τ sig) → Buf (Elt F) ℓ) (c : Dev nD) (r : Ref sig .tc) (h : r ∉ ([main_call4_call0_c, main_call4_call0_v0, main_v14] : List (Ref sig .tc))) :
    W9 m c (Proc.devRef .tc r) = W8 m c (Proc.devRef .tc r) :=
  StableHlo.after_of_writes_sub hostOps0_8 _ (StableHlo.forall_writes_sub_of_map rfl) h

theorem up9 (m : (ℓ : Loc nD τ sig) → Buf (Elt F) ℓ) (c : Dev nD) (r : Ref sig .tc) (h : r ∉ ([main_v15, main_v16, main_v17, main_v18, main_v19, main_v20, main_v21, main_c_5, main_v22, main_v23, main_v24, main_v25, main_v26, main_v27, main_v28, main_v29, main_v30, main_c_6, main_v31, main_c_7, main_v32, main_v33, main_c_8, main_v34, main_v35, main_v36, main_v37, main_v38, main_v39, main_v40, main_c_9, main_v41, main_v42, main_c_10, main_v43, main_v44, main_v45, main_v46, main_v47, main_v48, main_c_11, main_v49, main_v50, main_c_12, main_v51, main_v52, main_v53, main_v54, main_v55, main_c_13, main_v56, main_v57, main_v58, main_c_14, main_c_15] : List (Ref sig .tc))) :
    W10 m c (Proc.devRef .tc r) = W9 m c (Proc.devRef .tc r) :=
  StableHlo.after_of_writes_sub hostOps0_9 _ (StableHlo.forall_writes_sub_of_map rfl) h

theorem up10 (m : (ℓ : Loc nD τ sig) → Buf (Elt F) ℓ) (c : Dev nD) (r : Ref sig .tc) (h : r ∉ ([main_call5_v0, main_call5_v1, main_call5_v2, main_call5_v3, main_call5_v4, main_v59] : List (Ref sig .tc))) :
    W11 m c (Proc.devRef .tc r) = W10 m c (Proc.devRef .tc r) :=
  StableHlo.after_of_writes_sub hostOps0_10 _ (StableHlo.forall_writes_sub_of_map rfl) h

theorem up11 (m : (ℓ : Loc nD τ sig) → Buf (Elt F) ℓ) (c : Dev nD) (r : Ref sig .tc) (h : r ∉ ([main_c_16, main_v60, main_v61, main_c_17, main_v62, main_v63, main_v64, main_v65, main_v66, main_c_18, main_v67, main_v68, main_v69, main_c_19, main_c_20] : List (Ref sig .tc))) :
    W12 m c (Proc.devRef .tc r) = W11 m c (Proc.devRef .tc r) :=
  StableHlo.after_of_writes_sub hostOps0_11 _ (StableHlo.forall_writes_sub_of_map rfl) h

theorem up12 (m : (ℓ : Loc nD τ sig) → Buf (Elt F) ℓ) (c : Dev nD) (r : Ref sig .tc) (h : r ∉ ([main_call6_v0, main_call6_v1, main_call6_v2, main_call6_v3, main_call6_v4, main_v70] : List (Ref sig .tc))) :
    W13 m c (Proc.devRef .tc r) = W12 m c (Proc.devRef .tc r) :=
  StableHlo.after_of_writes_sub hostOps0_12 _ (StableHlo.forall_writes_sub_of_map rfl) h

theorem up13 (m : (ℓ : Loc nD τ sig) → Buf (Elt F) ℓ) (c : Dev nD) (r : Ref sig .tc) (h : r ∉ ([main_v71] : List (Ref sig .tc))) :
    W14 m c (Proc.devRef .tc r) = W13 m c (Proc.devRef .tc r) :=
  StableHlo.after_of_writes_sub hostOps0_13 _ (StableHlo.forall_writes_sub_of_map rfl) h

theorem up14 (m : (ℓ : Loc nD τ sig) → Buf (Elt F) ℓ) (c : Dev nD) (r : Ref sig .tc) (h : r ∉ ([main_c_21, main_v72, main_v73, main_v74, main_c_22, main_c_23] : List (Ref sig .tc))) :
    W15 m c (Proc.devRef .tc r) = W14 m c (Proc.devRef .tc r) :=
  StableHlo.after_of_writes_sub hostOps0_14 _ (StableHlo.forall_writes_sub_of_map rfl) h

theorem up15 (m : (ℓ : Loc nD τ sig) → Buf (Elt F) ℓ) (c : Dev nD) (r : Ref sig .tc) (h : r ∉ ([main_call8_v0, main_call8_v1, main_v75] : List (Ref sig .tc))) :
    W16 m c (Proc.devRef .tc r) = W15 m c (Proc.devRef .tc r) :=
  StableHlo.after_of_writes_sub hostOps0_15 _ (StableHlo.forall_writes_sub_of_map rfl) h

theorem up16 (m : (ℓ : Loc nD τ sig) → Buf (Elt F) ℓ) (c : Dev nD) (r : Ref sig .tc) (h : r ∉ ([main_v76] : List (Ref sig .tc))) :
    W17 m c (Proc.devRef .tc r) = W16 m c (Proc.devRef .tc r) :=
  StableHlo.after_of_writes_sub hostOps0_16 _ (StableHlo.forall_writes_sub_of_map rfl) h

theorem at0_arg1 (m : (ℓ : Loc nD τ sig) → Buf (Elt F) ℓ) (c : Dev nD) : V m c main_arg1 = W0 m c (Proc.devRef .tc main_arg1) := by
  rw [V_W17 m c main_arg1, up16 m c main_arg1 (by decide), up15 m c main_arg1 (by decide), up14 m c main_arg1 (by decide), up13 m c main_arg1 (by decide), up12 m c main_arg1 (by decide), up11 m c main_arg1 (by decide), up10 m c main_arg1 (by decide), up9 m c main_arg1 (by decide), up8 m c main_arg1 (by decide), up7 m c main_arg1 (by decide), up6 m c main_arg1 (by decide), up5 m c main_arg1 (by decide), up4 m c main_arg1 (by decide), up3 m c main_arg1 (by decide), up2 m c main_arg1 (by decide), up1 m c main_arg1 (by decide), up0 m c main_arg1 (by decide)]

theorem at1_arg1 (m : (ℓ : Loc nD τ sig) → Buf (Elt F) ℓ) (c : Dev nD) : V m c main_arg1 = W1 m c (Proc.devRef .tc main_arg1) := by
  rw [V_W17 m c main_arg1, up16 m c main_arg1 (by decide), up15 m c main_arg1 (by decide), up14 m c main_arg1 (by decide), up13 m c main_arg1 (by decide), up12 m c main_arg1 (by decide), up11 m c main_arg1 (by decide), up10 m c main_arg1 (by decide), up9 m c main_arg1 (by decide), up8 m c main_arg1 (by decide), up7 m c main_arg1 (by decide), up6 m c main_arg1 (by decide), up5 m c main_arg1 (by decide), up4 m c main_arg1 (by decide), up3 m c main_arg1 (by decide), up2 m c main_arg1 (by decide), up1 m c main_arg1 (by decide)]

theorem at3_arg1 (m : (ℓ : Loc nD τ sig) → Buf (Elt F) ℓ) (c : Dev nD) : V m c main_arg1 = W3 m c (Proc.devRef .tc main_arg1) := by
  rw [V_W17 m c main_arg1, up16 m c main_arg1 (by decide), up15 m c main_arg1 (by decide), up14 m c main_arg1 (by decide), up13 m c main_arg1 (by decide), up12 m c main_arg1 (by decide), up11 m c main_arg1 (by decide), up10 m c main_arg1 (by decide), up9 m c main_arg1 (by decide), up8 m c main_arg1 (by decide), up7 m c main_arg1 (by decide), up6 m c main_arg1 (by decide), up5 m c main_arg1 (by decide), up4 m c main_arg1 (by decide), up3 m c main_arg1 (by decide)]

theorem at2_c (m : (ℓ : Loc nD τ sig) → Buf (Elt F) ℓ) (c : Dev nD) : V m c main_c = W2 m c (Proc.devRef .tc main_c) := by
  rw [V_W17 m c main_c, up16 m c main_c (by decide), up15 m c main_c (by decide), up14 m c main_c (by decide), up13 m c main_c (by decide), up12 m c main_c (by decide), up11 m c main_c (by decide), up10 m c main_c (by decide), up9 m c main_c (by decide), up8 m c main_c (by decide), up7 m c main_c (by decide), up6 m c main_c (by decide), up5 m c main_c (by decide), up4 m c main_c (by decide), up3 m c main_c (by decide), up2 m c main_c (by decide)]

theorem at4_c (m : (ℓ : Loc nD τ sig) → Buf (Elt F) ℓ) (c : Dev nD) : V m c main_c = W4 m c (Proc.devRef .tc main_c) := by
  rw [V_W17 m c main_c, up16 m c main_c (by decide), up15 m c main_c (by decide), up14 m c main_c (by decide), up13 m c main_c (by decide), up12 m c main_c (by decide), up11 m c main_c (by decide), up10 m c main_c (by decide), up9 m c main_c (by decide), up8 m c main_c (by decide), up7 m c main_c (by decide), up6 m c main_c (by decide), up5 m c main_c (by decide), up4 m c main_c (by decide)]

theorem at10_c (m : (ℓ : Loc nD τ sig) → Buf (Elt F) ℓ) (c : Dev nD) : V m c main_c = W10 m c (Proc.devRef .tc main_c) := by
  rw [V_W17 m c main_c, up16 m c main_c (by decide), up15 m c main_c (by decide), up14 m c main_c (by decide), up13 m c main_c (by decide), up12 m c main_c (by decide), up11 m c main_c (by decide), up10 m c main_c (by decide)]

theorem at12_c (m : (ℓ : Loc nD τ sig) → Buf (Elt F) ℓ) (c : Dev nD) : V m c main_c = W12 m c (Proc.devRef .tc main_c) := by
  rw [V_W17 m c main_c, up16 m c main_c (by decide), up15 m c main_c (by decide), up14 m c main_c (by decide), up13 m c main_c (by decide), up12 m c main_c (by decide)]

theorem at15_c (m : (ℓ : Loc nD τ sig) → Buf (Elt F) ℓ) (c : Dev nD) : V m c main_c = W15 m c (Proc.devRef .tc main_c) := by
  rw [V_W17 m c main_c, up16 m c main_c (by decide), up15 m c main_c (by decide)]

theorem at4_c_2 (m : (ℓ : Loc nD τ sig) → Buf (Elt F) ℓ) (c : Dev nD) : V m c main_c_2 = W4 m c (Proc.devRef .tc main_c_2) := by
  rw [V_W17 m c main_c_2, up16 m c main_c_2 (by decide), up15 m c main_c_2 (by decide), up14 m c main_c_2 (by decide), up13 m c main_c_2 (by decide), up12 m c main_c_2 (by decide), up11 m c main_c_2 (by decide), up10 m c main_c_2 (by decide), up9 m c main_c_2 (by decide), up8 m c main_c_2 (by decide), up7 m c main_c_2 (by decide), up6 m c main_c_2 (by decide), up5 m c main_c_2 (by decide), up4 m c main_c_2 (by decide)]

theorem at12_c_2 (m : (ℓ : Loc nD τ sig) → Buf (Elt F) ℓ) (c : Dev nD) : V m c main_c_2 = W12 m c (Proc.devRef .tc main_c_2) := by
  rw [V_W17 m c main_c_2, up16 m c main_c_2 (by decide), up15 m c main_c_2 (by decide), up14 m c main_c_2 (by decide), up13 m c main_c_2 (by decide), up12 m c main_c_2 (by decide)]

theorem at15_c_2 (m : (ℓ : Loc nD τ sig) → Buf (Elt F) ℓ) (c : Dev nD) : V m c main_c_2 = W15 m c (Proc.devRef .tc main_c_2) := by
  rw [V_W17 m c main_c_2, up16 m c main_c_2 (by decide), up15 m c main_c_2 (by decide)]

theorem at10_c_14 (m : (ℓ : Loc nD τ sig) → Buf (Elt F) ℓ) (c : Dev nD) : V m c main_c_14 = W10 m c (Proc.devRef .tc main_c_14) := by
  rw [V_W17 m c main_c_14, up16 m c main_c_14 (by decide), up15 m c main_c_14 (by decide), up14 m c main_c_14 (by decide), up13 m c main_c_14 (by decide), up12 m c main_c_14 (by decide), up11 m c main_c_14 (by decide), up10 m c main_c_14 (by decide)]

theorem at10_c_15 (m : (ℓ : Loc nD τ sig) → Buf (Elt F) ℓ) (c : Dev nD) : V m c main_c_15 = W10 m c (Proc.devRef .tc main_c_15) := by
  rw [V_W17 m c main_c_15, up16 m c main_c_15 (by decide), up15 m c main_c_15 (by decide), up14 m c main_c_15 (by decide), up13 m c main_c_15 (by decide), up12 m c main_c_15 (by decide), up11 m c main_c_15 (by decide), up10 m c main_c_15 (by decide)]

theorem at12_c_19 (m : (ℓ : Loc nD τ sig) → Buf (Elt F) ℓ) (c : Dev nD) : V m c main_c_19 = W12 m c (Proc.devRef .tc main_c_19) := by
  rw [V_W17 m c main_c_19, up16 m c main_c_19 (by decide), up15 m c main_c_19 (by decide), up14 m c main_c_19 (by decide), up13 m c main_c_19 (by decide), up12 m c main_c_19 (by decide)]

theorem at12_c_20 (m : (ℓ : Loc nD τ sig) → Buf (Elt F) ℓ) (c : Dev nD) : V m c main_c_20 = W12 m c (Proc.devRef .tc main_c_20) := by
  rw [V_W17 m c main_c_20, up16 m c main_c_20 (by decide), up15 m c main_c_20 (by decide), up14 m c main_c_20 (by decide), up13 m c main_c_20 (by decide), up12 m c main_c_20 (by decide)]

theorem at15_c_22 (m : (ℓ : Loc nD τ sig) → Buf (Elt F) ℓ) (c : Dev nD) : V m c main_c_22 = W15 m c (Proc.devRef .tc main_c_22) := by
  rw [V_W17 m c main_c_22, up16 m c main_c_22 (by decide), up15 m c main_c_22 (by decide)]

theorem at15_c_23 (m : (ℓ : Loc nD τ sig) → Buf (Elt F) ℓ) (c : Dev nD) : V m c main_c_23 = W15 m c (Proc.devRef .tc main_c_23) := by
  rw [V_W17 m c main_c_23, up16 m c main_c_23 (by decide), up15 m c main_c_23 (by decide)]

theorem at6_v9 (m : (ℓ : Loc nD τ sig) → Buf (Elt F) ℓ) (c : Dev nD) : V m c main_v9 = W6 m c (Proc.devRef .tc main_v9) := by
  rw [V_W17 m c main_v9, up16 m c main_v9 (by decide), up15 m c main_v9 (by decide), up14 m c main_v9 (by decide), up13 m c main_v9 (by decide), up12 m c main_v9 (by decide), up11 m c main_v9 (by decide), up10 m c main_v9 (by decide), up9 m c main_v9 (by decide), up8 m c main_v9 (by decide), up7 m c main_v9 (by decide), up6 m c main_v9 (by decide)]

theorem at13_v70 (m : (ℓ : Loc nD τ sig) → Buf (Elt F) ℓ) (c : Dev nD) : V m c main_v70 = W13 m c (Proc.devRef .tc main_v70) := by
  rw [V_W17 m c main_v70, up16 m c main_v70 (by decide), up15 m c main_v70 (by decide), up14 m c main_v70 (by decide), up13 m c main_v70 (by decide)]

theorem at15_v74 (m : (ℓ : Loc nD τ sig) → Buf (Elt F) ℓ) (c : Dev nD) : V m c main_v74 = W15 m c (Proc.devRef .tc main_v74) := by
  rw [V_W17 m c main_v74, up16 m c main_v74 (by decide), up15 m c main_v74 (by decide)]

theorem at1_v0 (m : (ℓ : Loc nD τ sig) → Buf (Elt F) ℓ) (c : Dev nD) : V m c main_v0 = W1 m c (Proc.devRef .tc main_v0) := by
  rw [V_W17 m c main_v0, up16 m c main_v0 (by decide), up15 m c main_v0 (by decide), up14 m c main_v0 (by decide), up13 m c main_v0 (by decide), up12 m c main_v0 (by decide), up11 m c main_v0 (by decide), up10 m c main_v0 (by decide), up9 m c main_v0 (by decide), up8 m c main_v0 (by decide), up7 m c main_v0 (by decide), up6 m c main_v0 (by decide), up5 m c main_v0 (by decide), up4 m c main_v0 (by decide), up3 m c main_v0 (by decide), up2 m c main_v0 (by decide), up1 m c main_v0 (by decide)]

theorem at3_v0 (m : (ℓ : Loc nD τ sig) → Buf (Elt F) ℓ) (c : Dev nD) : V m c main_v0 = W3 m c (Proc.devRef .tc main_v0) := by
  rw [V_W17 m c main_v0, up16 m c main_v0 (by decide), up15 m c main_v0 (by decide), up14 m c main_v0 (by decide), up13 m c main_v0 (by decide), up12 m c main_v0 (by decide), up11 m c main_v0 (by decide), up10 m c main_v0 (by decide), up9 m c main_v0 (by decide), up8 m c main_v0 (by decide), up7 m c main_v0 (by decide), up6 m c main_v0 (by decide), up5 m c main_v0 (by decide), up4 m c main_v0 (by decide), up3 m c main_v0 (by decide)]

theorem at11_v0 (m : (ℓ : Loc nD τ sig) → Buf (Elt F) ℓ) (c : Dev nD) : V m c main_v0 = W11 m c (Proc.devRef .tc main_v0) := by
  rw [V_W17 m c main_v0, up16 m c main_v0 (by decide), up15 m c main_v0 (by decide), up14 m c main_v0 (by decide), up13 m c main_v0 (by decide), up12 m c main_v0 (by decide), up11 m c main_v0 (by decide)]

theorem at2_v1 (m : (ℓ : Loc nD τ sig) → Buf (Elt F) ℓ) (c : Dev nD) : V m c main_v1 = W2 m c (Proc.devRef .tc main_v1) := by
  rw [V_W17 m c main_v1, up16 m c main_v1 (by decide), up15 m c main_v1 (by decide), up14 m c main_v1 (by decide), up13 m c main_v1 (by decide), up12 m c main_v1 (by decide), up11 m c main_v1 (by decide), up10 m c main_v1 (by decide), up9 m c main_v1 (by decide), up8 m c main_v1 (by decide), up7 m c main_v1 (by decide), up6 m c main_v1 (by decide), up5 m c main_v1 (by decide), up4 m c main_v1 (by decide), up3 m c main_v1 (by decide), up2 m c main_v1 (by decide)]

theorem at7_v1 (m : (ℓ : Loc nD τ sig) → Buf (Elt F) ℓ) (c : Dev nD) : V m c main_v1 = W7 m c (Proc.devRef .tc main_v1) := by
  rw [V_W17 m c main_v1, up16 m c main_v1 (by decide), up15 m c main_v1 (by decide), up14 m c main_v1 (by decide), up13 m c main_v1 (by decide), up12 m c main_v1 (by decide), up11 m c main_v1 (by decide), up10 m c main_v1 (by decide), up9 m c main_v1 (by decide), up8 m c main_v1 (by decide), up7 m c main_v1 (by decide)]

theorem at8_v1 (m : (ℓ : Loc nD τ sig) → Buf (Elt F) ℓ) (c : Dev nD) : V m c main_v1 = W8 m c (Proc.devRef .tc main_v1) := by
  rw [V_W17 m c main_v1, up16 m c main_v1 (by decide), up15 m c main_v1 (by decide), up14 m c main_v1 (by decide), up13 m c main_v1 (by decide), up12 m c main_v1 (by decide), up11 m c main_v1 (by decide), up10 m c main_v1 (by decide), up9 m c main_v1 (by decide), up8 m c main_v1 (by decide)]

theorem at9_v1 (m : (ℓ : Loc nD τ sig) → Buf (Elt F) ℓ) (c : Dev nD) : V m c main_v1 = W9 m c (Proc.devRef .tc main_v1) := by
  rw [V_W17 m c main_v1, up16 m c main_v1 (by decide), up15 m c main_v1 (by decide), up14 m c main_v1 (by decide), up13 m c main_v1 (by decide), up12 m c main_v1 (by decide), up11 m c main_v1 (by decide), up10 m c main_v1 (by decide), up9 m c main_v1 (by decide)]

theorem at13_v1 (m : (ℓ : Loc nD τ sig) → Buf (Elt F) ℓ) (c : Dev nD) : V m c main_v1 = W13 m c (Proc.devRef .tc main_v1) := by
  rw [V_W17 m c main_v1, up16 m c main_v1 (by decide), up15 m c main_v1 (by decide), up14 m c main_v1 (by decide), up13 m c main_v1 (by decide)]

theorem at14_v1 (m : (ℓ : Loc nD τ sig) → Buf (Elt F) ℓ) (c : Dev nD) : V m c main_v1 = W14 m c (Proc.devRef .tc main_v1) := by
  rw [V_W17 m c main_v1, up16 m c main_v1 (by decide), up15 m c main_v1 (by decide), up14 m c main_v1 (by decide)]

theorem at3_v2 (m : (ℓ : Loc nD τ sig) → Buf (Elt F) ℓ) (c : Dev nD) : V m c main_v2 = W3 m c (Proc.devRef .tc main_v2) := by
  rw [V_W17 m c main_v2, up16 m c main_v2 (by decide), up15 m c main_v2 (by decide), up14 m c main_v2 (by decide), up13 m c main_v2 (by decide), up12 m c main_v2 (by decide), up11 m c main_v2 (by decide), up10 m c main_v2 (by decide), up9 m c main_v2 (by decide), up8 m c main_v2 (by decide), up7 m c main_v2 (by decide), up6 m c main_v2 (by decide), up5 m c main_v2 (by decide), up4 m c main_v2 (by decide), up3 m c main_v2 (by decide)]

theorem at5_v2 (m : (ℓ : Loc nD τ sig) → Buf (Elt F) ℓ) (c : Dev nD) : V m c main_v2 = W5 m c (Proc.devRef .tc main_v2) := by
  rw [V_W17 m c main_v2, up16 m c main_v2 (by decide), up15 m c main_v2 (by decide), up14 m c main_v2 (by decide), up13 m c main_v2 (by decide), up12 m c main_v2 (by decide), up11 m c main_v2 (by decide), up10 m c main_v2 (by decide), up9 m c main_v2 (by decide), up8 m c main_v2 (by decide), up7 m c main_v2 (by decide), up6 m c main_v2 (by decide), up5 m c main_v2 (by decide)]

theorem at7_v2 (m : (ℓ : Loc nD τ sig) → Buf (Elt F) ℓ) (c : Dev nD) : V m c main_v2 = W7 m c (Proc.devRef .tc main_v2) := by
  rw [V_W17 m c main_v2, up16 m c main_v2 (by decide), up15 m c main_v2 (by decide), up14 m c main_v2 (by decide), up13 m c main_v2 (by decide), up12 m c main_v2 (by decide), up11 m c main_v2 (by decide), up10 m c main_v2 (by decide), up9 m c main_v2 (by decide), up8 m c main_v2 (by decide), up7 m c main_v2 (by decide)]

theorem at9_v2 (m : (ℓ : Loc nD τ sig) → Buf (Elt F) ℓ) (c : Dev nD) : V m c main_v2 = W9 m c (Proc.devRef .tc main_v2) := by
  rw [V_W17 m c main_v2, up16 m c main_v2 (by decide), up15 m c main_v2 (by decide), up14 m c main_v2 (by decide), up13 m c main_v2 (by decide), up12 m c main_v2 (by decide), up11 m c main_v2 (by decide), up10 m c main_v2 (by decide), up9 m c main_v2 (by decide)]

theorem at4_v4 (m : (ℓ : Loc nD τ sig) → Buf (Elt F) ℓ) (c : Dev nD) : V m c main_v4 = W4 m c (Proc.devRef .tc main_v4) := by
  rw [V_W17 m c main_v4, up16 m c main_v4 (by decide), up15 m c main_v4 (by decide), up14 m c main_v4 (by decide), up13 m c main_v4 (by decide), up12 m c main_v4 (by decide), up11 m c main_v4 (by decide), up10 m c main_v4 (by decide), up9 m c main_v4 (by decide), up8 m c main_v4 (by decide), up7 m c main_v4 (by decide), up6 m c main_v4 (by decide), up5 m c main_v4 (by decide), up4 m c main_v4 (by decide)]

theorem at6_v4 (m : (ℓ : Loc nD τ sig) → Buf (Elt F) ℓ) (c : Dev nD) : V m c main_v4 = W6 m c (Proc.devRef .tc main_v4) := by
  rw [V_W17 m c main_v4, up16 m c main_v4 (by decide), up15 m c main_v4 (by decide), up14 m c main_v4 (by decide), up13 m c main_v4 (by decide), up12 m c main_v4 (by decide), up11 m c main_v4 (by decide), up10 m c main_v4 (by decide), up9 m c main_v4 (by decide), up8 m c main_v4 (by decide), up7 m c main_v4 (by decide), up6 m c main_v4 (by decide)]

theorem at9_v4 (m : (ℓ : Loc nD τ sig) → Buf (Elt F) ℓ) (c : Dev nD) : V m c main_v4 = W9 m c (Proc.devRef .tc main_v4) := by
  rw [V_W17 m c main_v4, up16 m c main_v4 (by decide), up15 m c main_v4 (by decide), up14 m c main_v4 (by decide), up13 m c main_v4 (by decide), up12 m c main_v4 (by decide), up11 m c main_v4 (by decide), up10 m c main_v4 (by decide), up9 m c main_v4 (by decide)]

theorem at11_v4 (m : (ℓ : Loc nD τ sig) → Buf (Elt F) ℓ) (c : Dev nD) : V m c main_v4 = W11 m c (Proc.devRef .tc main_v4) := by
  rw [V_W17 m c main_v4, up16 m c main_v4 (by decide), up15 m c main_v4 (by decide), up14 m c main_v4 (by decide), up13 m c main_v4 (by decide), up12 m c main_v4 (by decide), up11 m c main_v4 (by decide)]

theorem at4_v6 (m : (ℓ : Loc nD τ sig) → Buf (Elt F) ℓ) (c : Dev nD) : V m c main_v6 = W4 m c (Proc.devRef .tc main_v6) := by
  rw [V_W17 m c main_v6, up16 m c main_v6 (by decide), up15 m c main_v6 (by decide), up14 m c main_v6 (by decide), up13 m c main_v6 (by decide), up12 m c main_v6 (by decide), up11 m c main_v6 (by decide), up10 m c main_v6 (by decide), up9 m c main_v6 (by decide), up8 m c main_v6 (by decide), up7 m c main_v6 (by decide), up6 m c main_v6 (by decide), up5 m c main_v6 (by decide), up4 m c main_v6 (by decide)]

theorem at11_v6 (m : (ℓ : Loc nD τ sig) → Buf (Elt F) ℓ) (c : Dev nD) : V m c main_v6 = W11 m c (Proc.devRef .tc main_v6) := by
  rw [V_W17 m c main_v6, up16 m c main_v6 (by decide), up15 m c main_v6 (by decide), up14 m c main_v6 (by decide), up13 m c main_v6 (by decide), up12 m c main_v6 (by decide), up11 m c main_v6 (by decide)]

theorem at12_v6 (m : (ℓ : Loc nD τ sig) → Buf (Elt F) ℓ) (c : Dev nD) : V m c main_v6 = W12 m c (Proc.devRef .tc main_v6) := by
  rw [V_W17 m c main_v6, up16 m c main_v6 (by decide), up15 m c main_v6 (by decide), up14 m c main_v6 (by decide), up13 m c main_v6 (by decide), up12 m c main_v6 (by decide)]

theorem at5_v7 (m : (ℓ : Loc nD τ sig) → Buf (Elt F) ℓ) (c : Dev nD) : V m c main_v7 = W5 m c (Proc.devRef .tc main_v7) := by
  rw [V_W17 m c main_v7, up16 m c main_v7 (by decide), up15 m c main_v7 (by decide), up14 m c main_v7 (by decide), up13 m c main_v7 (by decide), up12 m c main_v7 (by decide), up11 m c main_v7 (by decide), up10 m c main_v7 (by decide), up9 m c main_v7 (by decide), up8 m c main_v7 (by decide), up7 m c main_v7 (by decide), up6 m c main_v7 (by decide), up5 m c main_v7 (by decide)]

theorem at6_v7 (m : (ℓ : Loc nD τ sig) → Buf (Elt F) ℓ) (c : Dev nD) : V m c main_v7 = W6 m c (Proc.devRef .tc main_v7) := by
  rw [V_W17 m c main_v7, up16 m c main_v7 (by decide), up15 m c main_v7 (by decide), up14 m c main_v7 (by decide), up13 m c main_v7 (by decide), up12 m c main_v7 (by decide), up11 m c main_v7 (by decide), up10 m c main_v7 (by decide), up9 m c main_v7 (by decide), up8 m c main_v7 (by decide), up7 m c main_v7 (by decide), up6 m c main_v7 (by decide)]

theorem at13_v7 (m : (ℓ : Loc nD τ sig) → Buf (Elt F) ℓ) (c : Dev nD) : V m c main_v7 = W13 m c (Proc.devRef .tc main_v7) := by
  rw [V_W17 m c main_v7, up16 m c main_v7 (by decide), up15 m c main_v7 (by decide), up14 m c main_v7 (by decide), up13 m c main_v7 (by decide)]

theorem at15_v7 (m : (ℓ : Loc nD τ sig) → Buf (Elt F) ℓ) (c : Dev nD) : V m c main_v7 = W15 m c (Proc.devRef .tc main_v7) := by
  rw [V_W17 m c main_v7, up16 m c main_v7 (by decide), up15 m c main_v7 (by decide)]

theorem at7_v10 (m : (ℓ : Loc nD τ sig) → Buf (Elt F) ℓ) (c : Dev nD) : V m c main_v10 = W7 m c (Proc.devRef .tc main_v10) := by
  rw [V_W17 m c main_v10, up16 m c main_v10 (by decide), up15 m c main_v10 (by decide), up14 m c main_v10 (by decide), up13 m c main_v10 (by decide), up12 m c main_v10 (by decide), up11 m c main_v10 (by decide), up10 m c main_v10 (by decide), up9 m c main_v10 (by decide), up8 m c main_v10 (by decide), up7 m c main_v10 (by decide)]

theorem at8_v13 (m : (ℓ : Loc nD τ sig) → Buf (Elt F) ℓ) (c : Dev nD) : V m c main_v13 = W8 m c (Proc.devRef .tc main_v13) := by
  rw [V_W17 m c main_v13, up16 m c main_v13 (by decide), up15 m c main_v13 (by decide), up14 m c main_v13 (by decide), up13 m c main_v13 (by decide), up12 m c main_v13 (by decide), up11 m c main_v13 (by decide), up10 m c main_v13 (by decide), up9 m c main_v13 (by decide), up8 m c main_v13 (by decide)]

theorem at9_v13 (m : (ℓ : Loc nD τ sig) → Buf (Elt F) ℓ) (c : Dev nD) : V m c main_v13 = W9 m c (Proc.devRef .tc main_v13) := by
  rw [V_W17 m c main_v13, up16 m c main_v13 (by decide), up15 m c main_v13 (by decide), up14 m c main_v13 (by decide), up13 m c main_v13 (by decide), up12 m c main_v13 (by decide), up11 m c main_v13 (by decide), up10 m c main_v13 (by decide), up9 m c main_v13 (by decide)]

theorem at9_v14 (m : (ℓ : Loc nD τ sig) → Buf (Elt F) ℓ) (c : Dev nD) : V m c main_v14 = W9 m c (Proc.devRef .tc main_v14) := by
  rw [V_W17 m c main_v14, up16 m c main_v14 (by decide), up15 m c main_v14 (by decide), up14 m c main_v14 (by decide), up13 m c main_v14 (by decide), up12 m c main_v14 (by decide), up11 m c main_v14 (by decide), up10 m c main_v14 (by decide), up9 m c main_v14 (by decide)]

theorem at10_v17 (m : (ℓ : Loc nD τ sig) → Buf (Elt F) ℓ) (c : Dev nD) : V m c main_v17 = W10 m c (Proc.devRef .tc main_v17) := by
  rw [V_W17 m c main_v17, up16 m c main_v17 (by decide), up15 m c main_v17 (by decide), up14 m c main_v17 (by decide), up13 m c main_v17 (by decide), up12 m c main_v17 (by decide), up11 m c main_v17 (by decide), up10 m c main_v17 (by decide)]

theorem at10_v19 (m : (ℓ : Loc nD τ sig) → Buf (Elt F) ℓ) (c : Dev nD) : V m c main_v19 = W10 m c (Proc.devRef .tc main_v19) := by
  rw [V_W17 m c main_v19, up16 m c main_v19 (by decide), up15 m c main_v19 (by decide), up14 m c main_v19 (by decide), up13 m c main_v19 (by decide), up12 m c main_v19 (by decide), up11 m c main_v19 (by decide), up10 m c main_v19 (by decide)]

theorem at13_v19 (m : (ℓ : Loc nD τ sig) → Buf (Elt F) ℓ) (c : Dev nD) : V m c main_v19 = W13 m c (Proc.devRef .tc main_v19) := by
  rw [V_W17 m c main_v19, up16 m c main_v19 (by decide), up15 m c main_v19 (by decide), up14 m c main_v19 (by decide), up13 m c main_v19 (by decide)]

theorem at14_v19 (m : (ℓ : Loc nD τ sig) → Buf (Elt F) ℓ) (c : Dev nD) : V m c main_v19 = W14 m c (Proc.devRef .tc main_v19) := by
  rw [V_W17 m c main_v19, up16 m c main_v19 (by decide), up15 m c main_v19 (by decide), up14 m c main_v19 (by decide)]

theorem at10_v22 (m : (ℓ : Loc nD τ sig) → Buf (Elt F) ℓ) (c : Dev nD) : V m c main_v22 = W10 m c (Proc.devRef .tc main_v22) := by
  rw [V_W17 m c main_v22, up16 m c main_v22 (by decide), up15 m c main_v22 (by decide), up14 m c main_v22 (by decide), up13 m c main_v22 (by decide), up12 m c main_v22 (by decide), up11 m c main_v22 (by decide), up10 m c main_v22 (by decide)]

theorem at10_v24 (m : (ℓ : Loc nD τ sig) → Buf (Elt F) ℓ) (c : Dev nD) : V m c main_v24 = W10 m c (Proc.devRef .tc main_v24) := by
  rw [V_W17 m c main_v24, up16 m c main_v24 (by decide), up15 m c main_v24 (by decide), up14 m c main_v24 (by decide), up13 m c main_v24 (by decide), up12 m c main_v24 (by decide), up11 m c main_v24 (by decide), up10 m c main_v24 (by decide)]

theorem at10_v31 (m : (ℓ : Loc nD τ sig) → Buf (Elt F) ℓ) (c : Dev nD) : V m c main_v31 = W10 m c (Proc.devRef .tc main_v31) := by
  rw [V_W17 m c main_v31, up16 m c main_v31 (by decide), up15 m c main_v31 (by decide), up14 m c main_v31 (by decide), up13 m c main_v31 (by decide), up12 m c main_v31 (by decide), up11 m c main_v31 (by decide), up10 m c main_v31 (by decide)]

theorem at11_v31 (m : (ℓ : Loc nD τ sig) → Buf (Elt F) ℓ) (c : Dev nD) : V m c main_v31 = W11 m c (Proc.devRef .tc main_v31) := by
  rw [V_W17 m c main_v31, up16 m c main_v31 (by decide), up15 m c main_v31 (by decide), up14 m c main_v31 (by decide), up13 m c main_v31 (by decide), up12 m c main_v31 (by decide), up11 m c main_v31 (by decide)]

theorem at10_v38 (m : (ℓ : Loc nD τ sig) → Buf (Elt F) ℓ) (c : Dev nD) : V m c main_v38 = W10 m c (Proc.devRef .tc main_v38) := by
  rw [V_W17 m c main_v38, up16 m c main_v38 (by decide), up15 m c main_v38 (by decide), up14 m c main_v38 (by decide), up13 m c main_v38 (by decide), up12 m c main_v38 (by decide), up11 m c main_v38 (by decide), up10 m c main_v38 (by decide)]

theorem at10_v39 (m : (ℓ : Loc nD τ sig) → Buf (Elt F) ℓ) (c : Dev nD) : V m c main_v39 = W10 m c (Proc.devRef .tc main_v39) := by
  rw [V_W17 m c main_v39, up16 m c main_v39 (by decide), up15 m c main_v39 (by decide), up14 m c main_v39 (by decide), up13 m c main_v39 (by decide), up12 m c main_v39 (by decide), up11 m c main_v39 (by decide), up10 m c main_v39 (by decide)]

theorem at10_v40 (m : (ℓ : Loc nD τ sig) → Buf (Elt F) ℓ) (c : Dev nD) : V m c main_v40 = W10 m c (Proc.devRef .tc main_v40) := by
  rw [V_W17 m c main_v40, up16 m c main_v40 (by decide), up15 m c main_v40 (by decide), up14 m c main_v40 (by decide), up13 m c main_v40 (by decide), up12 m c main_v40 (by decide), up11 m c main_v40 (by decide), up10 m c main_v40 (by decide)]

theorem at10_v47 (m : (ℓ : Loc nD τ sig) → Buf (Elt F) ℓ) (c : Dev nD) : V m c main_v47 = W10 m c (Proc.devRef .tc main_v47) := by
  rw [V_W17 m c main_v47, up16 m c main_v47 (by decide), up15 m c main_v47 (by decide), up14 m c main_v47 (by decide), up13 m c main_v47 (by decide), up12 m c main_v47 (by decide), up11 m c main_v47 (by decide), up10 m c main_v47 (by decide)]

theorem at10_v48 (m : (ℓ : Loc nD τ sig) → Buf (Elt F) ℓ) (c : Dev nD) : V m c main_v48 = W10 m c (Proc.devRef .tc main_v48) := by
  rw [V_W17 m c main_v48, up16 m c main_v48 (by decide), up15 m c main_v48 (by decide), up14 m c main_v48 (by decide), up13 m c main_v48 (by decide), up12 m c main_v48 (by decide), up11 m c main_v48 (by decide), up10 m c main_v48 (by decide)]

theorem at11_v48 (m : (ℓ : Loc nD τ sig) → Buf (Elt F) ℓ) (c : Dev nD) : V m c main_v48 = W11 m c (Proc.devRef .tc main_v48) := by
  rw [V_W17 m c main_v48, up16 m c main_v48 (by decide), up15 m c main_v48 (by decide), up14 m c main_v48 (by decide), up13 m c main_v48 (by decide), up12 m c main_v48 (by decide), up11 m c main_v48 (by decide)]

theorem at10_v55 (m : (ℓ : Loc nD τ sig) → Buf (Elt F) ℓ) (c : Dev nD) : V m c main_v55 = W10 m c (Proc.devRef .tc main_v55) := by
  rw [V_W17 m c main_v55, up16 m c main_v55 (by decide), up15 m c main_v55 (by decide), up14 m c main_v55 (by decide), up13 m c main_v55 (by decide), up12 m c main_v55 (by decide), up11 m c main_v55 (by decide), up10 m c main_v55 (by decide)]

theorem at10_v58 (m : (ℓ : Loc nD τ sig) → Buf (Elt F) ℓ) (c : Dev nD) : V m c main_v58 = W10 m c (Proc.devRef .tc main_v58) := by
  rw [V_W17 m c main_v58, up16 m c main_v58 (by decide), up15 m c main_v58 (by decide), up14 m c main_v58 (by decide), up13 m c main_v58 (by decide), up12 m c main_v58 (by decide), up11 m c main_v58 (by decide), up10 m c main_v58 (by decide)]

theorem at11_v59 (m : (ℓ : Loc nD τ sig) → Buf (Elt F) ℓ) (c : Dev nD) : V m c main_v59 = W11 m c (Proc.devRef .tc main_v59) := by
  rw [V_W17 m c main_v59, up16 m c main_v59 (by decide), up15 m c main_v59 (by decide), up14 m c main_v59 (by decide), up13 m c main_v59 (by decide), up12 m c main_v59 (by decide), up11 m c main_v59 (by decide)]

theorem at13_v59 (m : (ℓ : Loc nD τ sig) → Buf (Elt F) ℓ) (c : Dev nD) : V m c main_v59 = W13 m c (Proc.devRef .tc main_v59) := by
  rw [V_W17 m c main_v59, up16 m c main_v59 (by decide), up15 m c main_v59 (by decide), up14 m c main_v59 (by decide), up13 m c main_v59 (by decide)]

theorem at14_v59 (m : (ℓ : Loc nD τ sig) → Buf (Elt F) ℓ) (c : Dev nD) : V m c main_v59 = W14 m c (Proc.devRef .tc main_v59) := by
  rw [V_W17 m c main_v59, up16 m c main_v59 (by decide), up15 m c main_v59 (by decide), up14 m c main_v59 (by decide)]

theorem at12_v66 (m : (ℓ : Loc nD τ sig) → Buf (Elt F) ℓ) (c : Dev nD) : V m c main_v66 = W12 m c (Proc.devRef .tc main_v66) := by
  rw [V_W17 m c main_v66, up16 m c main_v66 (by decide), up15 m c main_v66 (by decide), up14 m c main_v66 (by decide), up13 m c main_v66 (by decide), up12 m c main_v66 (by decide)]

theorem at12_v69 (m : (ℓ : Loc nD τ sig) → Buf (Elt F) ℓ) (c : Dev nD) : V m c main_v69 = W12 m c (Proc.devRef .tc main_v69) := by
  rw [V_W17 m c main_v69, up16 m c main_v69 (by decide), up15 m c main_v69 (by decide), up14 m c main_v69 (by decide), up13 m c main_v69 (by decide), up12 m c main_v69 (by decide)]

theorem at14_v71 (m : (ℓ : Loc nD τ sig) → Buf (Elt F) ℓ) (c : Dev nD) : V m c main_v71 = W14 m c (Proc.devRef .tc main_v71) := by
  rw [V_W17 m c main_v71, up16 m c main_v71 (by decide), up15 m c main_v71 (by decide), up14 m c main_v71 (by decide)]

theorem at16_v75 (m : (ℓ : Loc nD τ sig) → Buf (Elt F) ℓ) (c : Dev nD) : V m c main_v75 = W16 m c (Proc.devRef .tc main_v75) := by
  rw [V_W17 m c main_v75, up16 m c main_v75 (by decide)]

theorem rd_v0 (m : (ℓ : Loc nD τ sig) → Buf (Elt F) ℓ) (c : Dev nD) : (V m c main_v0 : IVec S8 32) = (Host.reduceWindow IntOp.addi ![8] ![1] ![7] ![0] (V m c main_arg1 : IVec S8 32) ((broadcastInDim S_ ![] bcast_S_S_) (constantI S_ 32 0#32)) reduceWindows_S8_S8_w8s1p7_0 h_S_) := by
  rw [at1_v0 m c, at0_arg1 m c]
  unfold W1
  generalize W0 m c = W
  after_reads_simp
  all_goals try simp -implicitDefEqProofs only [StableHlo.TRef.toBuf, StableHlo.TRef.ofBuf, cast_cast, cast_eq]
  all_goals try rfl

theorem rd_v1 (m : (ℓ : Loc nD τ sig) → Buf (Elt F) ℓ) (c : Dev nD) : (V m c main_v1 : IVec S8 32) = ((subi) (V m c main_v0 : IVec S8 32) (V m c main_arg1 : IVec S8 32)) := by
  rw [at2_v1 m c, at1_arg1 m c, at1_v0 m c]
  unfold W2
  generalize W1 m c = W
  after_reads_simp
  all_goals try simp -implicitDefEqProofs only [StableHlo.TRef.toBuf, StableHlo.TRef.ofBuf, cast_cast, cast_eq]
  all_goals try rfl

theorem rd_c (m : (ℓ : Loc nD τ sig) → Buf (Elt F) ℓ) (c : Dev nD) : (V m c main_c : IVec S_ 32) = (constantI S_ 32 512#32) := by
  rw [at2_c m c]
  unfold W2
  generalize W1 m c = W
  after_reads_simp
  all_goals try simp -implicitDefEqProofs only [StableHlo.TRef.toBuf, StableHlo.TRef.ofBuf, cast_cast, cast_eq]
  all_goals try rfl

theorem rd_v2 (m : (ℓ : Loc nD τ sig) → Buf (Elt F) ℓ) (c : Dev nD) : (V m c main_v2 : IVec S8 32) = Routing.pyDiv bcast_S_S8 (V m c main_v1 : IVec S8 32) (V m c main_c : IVec S_ 32) := by
  rw [at3_v2 m c, at2_c m c, at2_v1 m c]
  unfold W3
  generalize W2 m c = W
  after_reads_simp
  all_goals try simp -implicitDefEqProofs only [StableHlo.TRef.toBuf, StableHlo.TRef.ofBuf, cast_cast, cast_eq]
  all_goals try rfl

theorem rd_v4 (m : (ℓ : Loc nD τ sig) → Buf (Elt F) ℓ) (c : Dev nD) : (V m c main_v4 : IVec S8 1) = ((cmpi .sgt) (V m c main_arg1 : IVec S8 32) ((broadcastInDim S8 ![] bcast_S_S8) (constantI S_ 32 0#32))) := by
  rw [at4_v4 m c, at3_arg1 m c]
  unfold W4
  generalize W3 m c = W
  after_reads_simp
  all_goals try simp -implicitDefEqProofs only [StableHlo.TRef.toBuf, StableHlo.TRef.ofBuf, cast_cast, cast_eq]
  all_goals try rfl

theorem rd_v6 (m : (ℓ : Loc nD τ sig) → Buf (Elt F) ℓ) (c : Dev nD) : (V m c main_v6 : IVec S8 32) = ((subi) (V m c main_v0 : IVec S8 32) ((broadcastInDim S8 ![] bcast_S_S8) (constantI S_ 32 1#32))) := by
  rw [at4_v6 m c, at3_v0 m c]
  unfold W4
  generalize W3 m c = W
  after_reads_simp
  all_goals try simp -implicitDefEqProofs only [StableHlo.TRef.toBuf, StableHlo.TRef.ofBuf, cast_cast, cast_eq]
  all_goals try rfl

theorem rd_c_2 (m : (ℓ : Loc nD τ sig) → Buf (Elt F) ℓ) (c : Dev nD) : (V m c main_c_2 : IVec S_ 32) = (constantI S_ 32 512#32) := by
  rw [at4_c_2 m c]
  unfold W4
  generalize W3 m c = W
  after_reads_simp
  all_goals try simp -implicitDefEqProofs only [StableHlo.TRef.toBuf, StableHlo.TRef.ofBuf, cast_cast, cast_eq]
  all_goals try rfl

theorem rd_v7 (m : (ℓ : Loc nD τ sig) → Buf (Elt F) ℓ) (c : Dev nD) : (V m c main_v7 : IVec S8 32) = Routing.pyDiv bcast_S_S8 (V m c main_v6 : IVec S8 32) (V m c main_c_2 : IVec S_ 32) := by
  rw [at5_v7 m c, at4_c_2 m c, at4_v6 m c]
  unfold W5
  generalize W4 m c = W
  after_reads_simp
  all_goals try simp -implicitDefEqProofs only [StableHlo.TRef.toBuf, StableHlo.TRef.ofBuf, cast_cast, cast_eq]
  all_goals try rfl

theorem rd_v9 (m : (ℓ : Loc nD τ sig) → Buf (Elt F) ℓ) (c : Dev nD) : (V m c main_v9 : IVec S8 32) = ((subi) (V m c main_v2 : IVec S8 32) ((broadcastInDim S8 ![] bcast_S_S8) (constantI S_ 32 1#32))) := by
  rw [at6_v9 m c, at5_v2 m c]
  unfold W6
  generalize W5 m c = W
  after_reads_simp
  all_goals try simp -implicitDefEqProofs only [StableHlo.TRef.toBuf, StableHlo.TRef.ofBuf, cast_cast, cast_eq]
  all_goals try rfl

theorem rd_v10 (m : (ℓ : Loc nD τ sig) → Buf (Elt F) ℓ) (c : Dev nD) : (V m c main_v10 : IVec S8 32) = (select (V m c main_v4 : IVec S8 1) (V m c main_v7 : IVec S8 32) (V m c main_v9 : IVec S8 32)) := by
  rw [at7_v10 m c, at6_v4 m c, at6_v7 m c, at6_v9 m c]
  unfold W7
  generalize W6 m c = W
  after_reads_simp
  all_goals try simp -implicitDefEqProofs only [StableHlo.TRef.toBuf, StableHlo.TRef.ofBuf, cast_cast, cast_eq]
  all_goals try rfl

theorem rd_v13 (m : (ℓ : Loc nD τ sig) → Buf (Elt F) ℓ) (c : Dev nD) : (V m c main_v13 : IVec S8 32) = ((addi) ((subi) (V m c main_v10 : IVec S8 32) (V m c main_v2 : IVec S8 32)) ((broadcastInDim S8 ![] bcast_S_S8) (constantI S_ 32 1#32))) := by
  rw [at8_v13 m c, at7_v10 m c, at7_v2 m c]
  unfold W8
  generalize W7 m c = W
  after_reads_simp
  all_goals try simp -implicitDefEqProofs only [StableHlo.TRef.toBuf, StableHlo.TRef.ofBuf, cast_cast, cast_eq]
  all_goals try rfl

theorem rd_v14 (m : (ℓ : Loc nD τ sig) → Buf (Elt F) ℓ) (c : Dev nD) : (V m c main_v14 : IVec S8 32) = (Host.reduceWindow IntOp.addi ![8] ![1] ![7] ![0] (V m c main_v13 : IVec S8 32) ((broadcastInDim S_ ![] bcast_S_S_) (constantI S_ 32 0#32)) reduceWindows_S8_S8_w8s1p7_0 h_S_) := by
  rw [at9_v14 m c, at8_v13 m c]
  unfold W9
  generalize W8 m c = W
  after_reads_simp
  all_goals try simp -implicitDefEqProofs only [StableHlo.TRef.toBuf, StableHlo.TRef.ofBuf, cast_cast, cast_eq]
  all_goals try rfl

theorem rd_v17 (m : (ℓ : Loc nD τ sig) → Buf (Elt F) ℓ) (c : Dev nD) : (V m c main_v17 : IVec S_ 32) = (shapeCast S_ (((extractStridedSlice S1 ![7] · slices_S8_S1_7)) (V m c main_v14 : IVec S8 32)) shapeCasts_S1_S_) := by
  rw [at10_v17 m c, at9_v14 m c]
  unfold W10
  generalize W9 m c = W
  after_reads_simp
  all_goals try simp -implicitDefEqProofs only [StableHlo.TRef.toBuf, StableHlo.TRef.ofBuf, cast_cast, cast_eq]
  all_goals try rfl

theorem rd_v19 (m : (ℓ : Loc nD τ sig) → Buf (Elt F) ℓ) (c : Dev nD) : (V m c main_v19 : IVec S71 1) = ((cmpi .slt) (iotaInDim S71 32 0) ((broadcastInDim S71 ![] bcast_S_S71) (V m c main_v17 : IVec S_ 32))) := by
  rw [at10_v19 m c, at10_v17 m c]
  unfold W10
  generalize W9 m c = W
  after_reads_simp
  all_goals try simp -implicitDefEqProofs only [StableHlo.TRef.toBuf, StableHlo.TRef.ofBuf, cast_cast, cast_eq]
  all_goals try rfl

theorem rd_v22 (m : (ℓ : Loc nD τ sig) → Buf (Elt F) ℓ) (c : Dev nD) : (V m c main_v22 : IVec S_ 32) = ((subi) (shapeCast S_ (((extractStridedSlice S1 ![7] · slices_S8_S1_7)) (V m c main_v14 : IVec S8 32)) shapeCasts_S1_S_) (constantI S_ 32 1#32)) := by
  rw [at10_v22 m c, at9_v14 m c]
  unfold W10
  generalize W9 m c = W
  after_reads_simp
  all_goals try simp -implicitDefEqProofs only [StableHlo.TRef.toBuf, StableHlo.TRef.ofBuf, cast_cast, cast_eq]
  all_goals try rfl

theorem rd_v24 (m : (ℓ : Loc nD τ sig) → Buf (Elt F) ℓ) (c : Dev nD) : (V m c main_v24 : IVec S71 32) = ((minsi) (iotaInDim S71 32 0) ((broadcastInDim S71 ![] bcast_S_S71) (V m c main_v22 : IVec S_ 32))) := by
  rw [at10_v24 m c, at10_v22 m c]
  unfold W10
  generalize W9 m c = W
  after_reads_simp
  all_goals try simp -implicitDefEqProofs only [StableHlo.TRef.toBuf, StableHlo.TRef.ofBuf, cast_cast, cast_eq]
  all_goals try rfl

theorem rd_v31 (m : (ℓ : Loc nD τ sig) → Buf (Elt F) ℓ) (c : Dev nD) : (V m c main_v31 : IVec S71 32) = (Host.reduce IntOp.addi (((extui 32 · natLt_1_32)) ((cmpi .sge) ((broadcastInDim S71x8 ![0, 1] bcast_S71x1_S71x8_0_1) ((broadcastInDim S71x1 ![0] bcast_S71_S71x1_0) (V m c main_v24 : IVec S71 32))) ((broadcastInDim S71x8 ![0, 1] bcast_S1x8_S71x8_0_1) ((broadcastInDim S1x8 ![1] bcast_S8_S1x8_1) (V m c main_v14 : IVec S8 32))))) (constantI S_ 32 0#32) reducesTo_S71x8_S71_d1 h_S_) := by
  rw [at10_v31 m c, at9_v14 m c, at10_v24 m c]
  unfold W10
  generalize W9 m c = W
  after_reads_simp
  all_goals try simp -implicitDefEqProofs only [StableHlo.TRef.toBuf, StableHlo.TRef.ofBuf, cast_cast, cast_eq]
  all_goals try rfl

theorem rd_v38 (m : (ℓ : Loc nD τ sig) → Buf (Elt F) ℓ) (c : Dev nD) : (V m c main_v38 : IVec S71 32) = (Host.gather gather_S8_S71x1_S71_n_0_n_n_0_1_1 (V m c main_v2 : IVec S8 32) ((broadcastInDim S71x1 ![0] bcast_S71_S71x1_0) ((select) ((cmpi .slt) (V m c main_v31 : IVec S71 32) ((broadcastInDim S71 ![] bcast_S_S71) (constantI S_ 32 0#32))) ((addi) (V m c main_v31 : IVec S71 32) ((broadcastInDim S71 ![] bcast_S_S71) (constantI S_ 32 8#32))) (V m c main_v31 : IVec S71 32)))) := by
  rw [at10_v38 m c, at9_v2 m c, at10_v31 m c]
  unfold W10
  generalize W9 m c = W
  after_reads_simp
  all_goals try simp -implicitDefEqProofs only [StableHlo.TRef.toBuf, StableHlo.TRef.ofBuf, cast_cast, cast_eq]
  all_goals try rfl

theorem rd_v39 (m : (ℓ : Loc nD τ sig) → Buf (Elt F) ℓ) (c : Dev nD) : (V m c main_v39 : IVec S71 32) = ((addi) (V m c main_v38 : IVec S71 32) (V m c main_v24 : IVec S71 32)) := by
  rw [at10_v39 m c, at10_v24 m c, at10_v38 m c]
  unfold W10
  generalize W9 m c = W
  after_reads_simp
  all_goals try simp -implicitDefEqProofs only [StableHlo.TRef.toBuf, StableHlo.TRef.ofBuf, cast_cast, cast_eq]
  all_goals try rfl

theorem rd_v40 (m : (ℓ : Loc nD τ sig) → Buf (Elt F) ℓ) (c : Dev nD) : (V m c main_v40 : IVec S8 32) = ((subi) (V m c main_v14 : IVec S8 32) (V m c main_v13 : IVec S8 32)) := by
  rw [at10_v40 m c, at9_v13 m c, at9_v14 m c]
  unfold W10
  generalize W9 m c = W
  after_reads_simp
  all_goals try simp -implicitDefEqProofs only [StableHlo.TRef.toBuf, StableHlo.TRef.ofBuf, cast_cast, cast_eq]
  all_goals try rfl

theorem rd_v47 (m : (ℓ : Loc nD τ sig) → Buf (Elt F) ℓ) (c : Dev nD) : (V m c main_v47 : IVec S71 32) = (Host.gather gather_S8_S71x1_S71_n_0_n_n_0_1_1 (V m c main_v40 : IVec S8 32) ((broadcastInDim S71x1 ![0] bcast_S71_S71x1_0) ((select) ((cmpi .slt) (V m c main_v31 : IVec S71 32) ((broadcastInDim S71 ![] bcast_S_S71) (constantI S_ 32 0#32))) ((addi) (V m c main_v31 : IVec S71 32) ((broadcastInDim S71 ![] bcast_S_S71) (constantI S_ 32 8#32))) (V m c main_v31 : IVec S71 32)))) := by
  rw [at10_v47 m c, at10_v31 m c, at10_v40 m c]
  unfold W10
  generalize W9 m c = W
  after_reads_simp
  all_goals try simp -implicitDefEqProofs only [StableHlo.TRef.toBuf, StableHlo.TRef.ofBuf, cast_cast, cast_eq]
  all_goals try rfl

theorem rd_v48 (m : (ℓ : Loc nD τ sig) → Buf (Elt F) ℓ) (c : Dev nD) : (V m c main_v48 : IVec S71 32) = ((subi) (V m c main_v39 : IVec S71 32) (V m c main_v47 : IVec S71 32)) := by
  rw [at10_v48 m c, at10_v39 m c, at10_v47 m c]
  unfold W10
  generalize W9 m c = W
  after_reads_simp
  all_goals try simp -implicitDefEqProofs only [StableHlo.TRef.toBuf, StableHlo.TRef.ofBuf, cast_cast, cast_eq]
  all_goals try rfl

theorem rd_v55 (m : (ℓ : Loc nD τ sig) → Buf (Elt F) ℓ) (c : Dev nD) : (V m c main_v55 : IVec S71 32) = (Host.gather gather_S8_S71x1_S71_n_0_n_n_0_1_1 (V m c main_v1 : IVec S8 32) ((broadcastInDim S71x1 ![0] bcast_S71_S71x1_0) ((select) ((cmpi .slt) (V m c main_v31 : IVec S71 32) ((broadcastInDim S71 ![] bcast_S_S71) (constantI S_ 32 0#32))) ((addi) (V m c main_v31 : IVec S71 32) ((broadcastInDim S71 ![] bcast_S_S71) (constantI S_ 32 8#32))) (V m c main_v31 : IVec S71 32)))) := by
  rw [at10_v55 m c, at9_v1 m c, at10_v31 m c]
  unfold W10
  generalize W9 m c = W
  after_reads_simp
  all_goals try simp -implicitDefEqProofs only [StableHlo.TRef.toBuf, StableHlo.TRef.ofBuf, cast_cast, cast_eq]
  all_goals try rfl

theorem rd_v58 (m : (ℓ : Loc nD τ sig) → Buf (Elt F) ℓ) (c : Dev nD) : (V m c main_v58 : IVec S71 32) = ((subi) (V m c main_v55 : IVec S71 32) ((muli) (V m c main_v48 : IVec S71 32) ((broadcastInDim S71 ![] bcast_S_S71) (constantI S_ 32 512#32)))) := by
  rw [at10_v58 m c, at10_v48 m c, at10_v55 m c]
  unfold W10
  generalize W9 m c = W
  after_reads_simp
  all_goals try simp -implicitDefEqProofs only [StableHlo.TRef.toBuf, StableHlo.TRef.ofBuf, cast_cast, cast_eq]
  all_goals try rfl

theorem rd_c_14 (m : (ℓ : Loc nD τ sig) → Buf (Elt F) ℓ) (c : Dev nD) : (V m c main_c_14 : IVec S_ 32) = (constantI S_ 32 0#32) := by
  rw [at10_c_14 m c]
  unfold W10
  generalize W9 m c = W
  after_reads_simp
  all_goals try simp -implicitDefEqProofs only [StableHlo.TRef.toBuf, StableHlo.TRef.ofBuf, cast_cast, cast_eq]
  all_goals try rfl

theorem rd_c_15 (m : (ℓ : Loc nD τ sig) → Buf (Elt F) ℓ) (c : Dev nD) : (V m c main_c_15 : IVec S_ 32) = (constantI S_ 32 512#32) := by
  rw [at10_c_15 m c]
  unfold W10
  generalize W9 m c = W
  after_reads_simp
  all_goals try simp -implicitDefEqProofs only [StableHlo.TRef.toBuf, StableHlo.TRef.ofBuf, cast_cast, cast_eq]
  all_goals try rfl

theorem rd_v59 (m : (ℓ : Loc nD τ sig) → Buf (Elt F) ℓ) (c : Dev nD) : (V m c main_v59 : IVec S71 32) = (minsi ((broadcastInDim S71 ![] bcast_S_S71) (V m c main_c_15 : IVec S_ 32)) (maxsi ((broadcastInDim S71 ![] bcast_S_S71) (V m c main_c_14 : IVec S_ 32)) (V m c main_v58 : IVec S71 32))) := by
  rw [at11_v59 m c, at10_c_14 m c, at10_c_15 m c, at10_v58 m c]
  unfold W11
  generalize W10 m c = W
  after_reads_simp
  all_goals try simp -implicitDefEqProofs only [StableHlo.TRef.toBuf, StableHlo.TRef.ofBuf, cast_cast, cast_eq]
  all_goals try rfl

theorem rd_v66 (m : (ℓ : Loc nD τ sig) → Buf (Elt F) ℓ) (c : Dev nD) : (V m c main_v66 : IVec S71 32) = (Host.gather gather_S8_S71x1_S71_n_0_n_n_0_1_1 (V m c main_v0 : IVec S8 32) ((broadcastInDim S71x1 ![0] bcast_S71_S71x1_0) ((select) ((cmpi .slt) (V m c main_v31 : IVec S71 32) ((broadcastInDim S71 ![] bcast_S_S71) (constantI S_ 32 0#32))) ((addi) (V m c main_v31 : IVec S71 32) ((broadcastInDim S71 ![] bcast_S_S71) (constantI S_ 32 8#32))) (V m c main_v31 : IVec S71 32)))) := by
  rw [at12_v66 m c, at11_v0 m c, at11_v31 m c]
  unfold W12
  generalize W11 m c = W
  after_reads_simp
  all_goals try simp -implicitDefEqProofs only [StableHlo.TRef.toBuf, StableHlo.TRef.ofBuf, cast_cast, cast_eq]
  all_goals try rfl

theorem rd_v69 (m : (ℓ : Loc nD τ sig) → Buf (Elt F) ℓ) (c : Dev nD) : (V m c main_v69 : IVec S71 32) = ((subi) (V m c main_v66 : IVec S71 32) ((muli) (V m c main_v48 : IVec S71 32) ((broadcastInDim S71 ![] bcast_S_S71) (constantI S_ 32 512#32)))) := by
  rw [at12_v69 m c, at11_v48 m c, at12_v66 m c]
  unfold W12
  generalize W11 m c = W
  after_reads_simp
  all_goals try simp -implicitDefEqProofs only [StableHlo.TRef.toBuf, StableHlo.TRef.ofBuf, cast_cast, cast_eq]
  all_goals try rfl

theorem rd_c_19 (m : (ℓ : Loc nD τ sig) → Buf (Elt F) ℓ) (c : Dev nD) : (V m c main_c_19 : IVec S_ 32) = (constantI S_ 32 0#32) := by
  rw [at12_c_19 m c]
  unfold W12
  generalize W11 m c = W
  after_reads_simp
  all_goals try simp -implicitDefEqProofs only [StableHlo.TRef.toBuf, StableHlo.TRef.ofBuf, cast_cast, cast_eq]
  all_goals try rfl

theorem rd_c_20 (m : (ℓ : Loc nD τ sig) → Buf (Elt F) ℓ) (c : Dev nD) : (V m c main_c_20 : IVec S_ 32) = (constantI S_ 32 512#32) := by
  rw [at12_c_20 m c]
  unfold W12
  generalize W11 m c = W
  after_reads_simp
  all_goals try simp -implicitDefEqProofs only [StableHlo.TRef.toBuf, StableHlo.TRef.ofBuf, cast_cast, cast_eq]
  all_goals try rfl

theorem rd_v70 (m : (ℓ : Loc nD τ sig) → Buf (Elt F) ℓ) (c : Dev nD) : (V m c main_v70 : IVec S71 32) = (minsi ((broadcastInDim S71 ![] bcast_S_S71) (V m c main_c_20 : IVec S_ 32)) (maxsi ((broadcastInDim S71 ![] bcast_S_S71) (V m c main_c_19 : IVec S_ 32)) (V m c main_v69 : IVec S71 32))) := by
  rw [at13_v70 m c, at12_c_19 m c, at12_c_20 m c, at12_v69 m c]
  unfold W13
  generalize W12 m c = W
  after_reads_simp
  all_goals try simp -implicitDefEqProofs only [StableHlo.TRef.toBuf, StableHlo.TRef.ofBuf, cast_cast, cast_eq]
  all_goals try rfl

theorem rd_v71 (m : (ℓ : Loc nD τ sig) → Buf (Elt F) ℓ) (c : Dev nD) : (V m c main_v71 : IVec S71 32) = (select (V m c main_v19 : IVec S71 1) (V m c main_v70 : IVec S71 32) (V m c main_v59 : IVec S71 32)) := by
  rw [at14_v71 m c, at13_v19 m c, at13_v59 m c, at13_v70 m c]
  unfold W14
  generalize W13 m c = W
  after_reads_simp
  all_goals try simp -implicitDefEqProofs only [StableHlo.TRef.toBuf, StableHlo.TRef.ofBuf, cast_cast, cast_eq]
  all_goals try rfl

theorem rd_v74 (m : (ℓ : Loc nD τ sig) → Buf (Elt F) ℓ) (c : Dev nD) : (V m c main_v74 : IVec S71 1) = ((andi) (V m c main_v19 : IVec S71 1) ((cmpi .eq) (V m c main_v59 : IVec S71 32) ((broadcastInDim S71 ![] bcast_S_S71) (constantI S_ 32 0#32)))) := by
  rw [at15_v74 m c, at14_v19 m c, at14_v59 m c]
  unfold W15
  generalize W14 m c = W
  after_reads_simp
  all_goals try simp -implicitDefEqProofs only [StableHlo.TRef.toBuf, StableHlo.TRef.ofBuf, cast_cast, cast_eq]
  all_goals try rfl

theorem rd_c_22 (m : (ℓ : Loc nD τ sig) → Buf (Elt F) ℓ) (c : Dev nD) : (V m c main_c_22 : IVec S_ 32) = (constantI S_ 32 1#32) := by
  rw [at15_c_22 m c]
  unfold W15
  generalize W14 m c = W
  after_reads_simp
  all_goals try simp -implicitDefEqProofs only [StableHlo.TRef.toBuf, StableHlo.TRef.ofBuf, cast_cast, cast_eq]
  all_goals try rfl

theorem rd_c_23 (m : (ℓ : Loc nD τ sig) → Buf (Elt F) ℓ) (c : Dev nD) : (V m c main_c_23 : IVec S_ 32) = (constantI S_ 32 0#32) := by
  rw [at15_c_23 m c]
  unfold W15
  generalize W14 m c = W
  after_reads_simp
  all_goals try simp -implicitDefEqProofs only [StableHlo.TRef.toBuf, StableHlo.TRef.ofBuf, cast_cast, cast_eq]
  all_goals try rfl

theorem rd_v75 (m : (ℓ : Loc nD τ sig) → Buf (Elt F) ℓ) (c : Dev nD) : (V m c main_v75 : IVec S71 32) = (select (V m c main_v74 : IVec S71 1) ((broadcastInDim S71 ![] bcast_S_S71) (V m c main_c_22 : IVec S_ 32)) ((broadcastInDim S71 ![] bcast_S_S71) (V m c main_c_23 : IVec S_ 32))) := by
  rw [at16_v75 m c, at15_c_22 m c, at15_c_23 m c, at15_v74 m c]
  unfold W16
  generalize W15 m c = W
  after_reads_simp
  all_goals try simp -implicitDefEqProofs only [StableHlo.TRef.toBuf, StableHlo.TRef.ofBuf, cast_cast, cast_eq]
  all_goals try rfl

end Cert.Kernel.Own
-- ==== Proof.Tabs.lean ====
module

public import Idealize.ShloMosaic.Lib.Routing.Words
public import Idealize.ShloMosaic.Lib.Routing.OpsSearch
public import Mathlib.Data.Nat.Count
public import Mathlib.Tactic.IntervalCases

@[expose] public section

/-! The tables of the grouped product over the naturals: eight groups of rows, tiles of 512 rows, one work unit per tile that a group touches. -/

namespace Tabs

/-- Where group `k` starts. -/
def C (g : ℕ → ℕ) (k : ℕ) : ℕ := ((List.range k).map g).sum

/-- How many tiles group `k` touches. -/
def n (g : ℕ → ℕ) (k : ℕ) : ℕ := if 0 < g k then (C g (k + 1) - 1) / 512 - C g k / 512 + 1 else 0

/-- The work units before group `k`. -/
def U (g : ℕ → ℕ) (k : ℕ) : ℕ := ((List.range k).map (n g)).sum

/-- The unit that grid point `t` works on: the last one where there are no more. -/
def uc (g : ℕ → ℕ) (t : ℕ) : ℕ := min t (U g 8 - 1)

/-- The group of grid point `t`. -/
def E (g : ℕ → ℕ) (t : ℕ) : ℕ := Nat.count (fun q => U g (q + 1) ≤ uc g t) 8

/-- The tile of grid point `t`. -/
def T (g : ℕ → ℕ) (t : ℕ) : ℕ := C g (E g t) / 512 + uc g t - U g (E g t)

/-- The first row of the tile that belongs to the group. -/
def lo (g : ℕ → ℕ) (t : ℕ) : ℕ := min (C g (E g t) - 512 * T g t) 512

/-- One past the last row of the tile that belongs to the group. -/
def hi (g : ℕ → ℕ) (t : ℕ) : ℕ := if t < U g 8 then min (C g (E g t + 1) - 512 * T g t) 512 else lo g t

/-- Whether grid point `t` is the first one of its tile. -/
def fst (g : ℕ → ℕ) (t : ℕ) : ℕ := if t < U g 8 ∧ lo g t = 0 then 1 else 0

variable {g : ℕ → ℕ}

theorem C_succ (k : ℕ) : C g (k + 1) = C g k + g k := by
  simp [C, List.range_succ]

theorem U_succ (k : ℕ) : U g (k + 1) = U g k + n g k := by
  simp [U, List.range_succ]

theorem C_zero : C g 0 = 0 := rfl
theorem U_zero : U g 0 = 0 := rfl

theorem C_mono {a b : ℕ} (h : a ≤ b) : C g a ≤ C g b := by
  induction h with
  | refl => exact le_rfl
  | step _ ih => rw [C_succ]; omega

theorem U_mono {a b : ℕ} (h : a ≤ b) : U g a ≤ U g b := by
  induction h with
  | refl => exact le_rfl
  | step _ ih => rw [U_succ]; omega

theorem n_pos {k : ℕ} (h : 0 < g k) : n g k = (C g (k + 1) - 1) / 512 - C g k / 512 + 1 := if_pos h

theorem n_pos' {k : ℕ} (h : 0 < n g k) : 0 < g k := by
  by_contra h'
  rw [n, if_neg h'] at h
  omega

/-- A group that touches no tile has no row. -/
theorem C_of_U {a b : ℕ} (h : a ≤ b) (hU : U g b ≤ U g a) : C g b = C g a := by
  induction h with
  | refl => rfl
  | @step b hab ih =>
    rw [U_succ] at hU
    have := U_mono (g := g) hab
    have hn : n g b = 0 := by omega
    have hg : g b = 0 := by
      by_contra h'
      rw [n_pos (Nat.pos_of_ne_zero h')] at hn
      omega
    rw [C_succ, hg, ih (by omega), Nat.add_zero]

/-- What a grid point works on. -/
theorem U_le (k : ℕ) (h : 0 < C g k) : U g k ≤ (C g k - 1) / 512 + k := by
  induction k with
  | zero => simp [C_zero] at h
  | succ k ih =>
    rw [U_succ]
    have hC := C_succ (g := g) k
    by_cases hg : 0 < g k
    · rw [n_pos hg]
      by_cases h0 : 0 < C g k
      · have := ih h0
        have : (C g k - 1) / 512 ≤ C g k / 512 := by omega
        have : C g k / 512 ≤ (C g (k + 1) - 1) / 512 := by omega
        omega
      · have h00 : C g k = 0 := by omega
        have : U g k = 0 := by
          have hh : ∀ j, j ≤ k → U g j = 0 := by
            intro j hj
            induction j with
            | zero => rfl
            | succ j ihj =>
              have := C_mono (g := g) hj
              have h1 := C_succ (g := g) j
              rw [U_succ, ihj (by omega), n, if_neg (by omega)]
          exact hh k le_rfl
        rw [this, h00]
        omega
    · rw [n, if_neg hg]
      have : C g (k + 1) = C g k := by omega
      rw [this] at h ⊢
      have := ih h
      omega

section Total
variable (hC : C g 8 = 32768)
include hC

theorem U8_pos : 0 < U g 8 := by
  by_contra h
  have := C_of_U (g := g) (Nat.zero_le 8) (by omega)
  rw [C_zero] at this
  omega

theorem U8_le : U g 8 ≤ 71 := by
  have := U_le (g := g) 8 (by omega)
  omega

theorem uc_lt (t : ℕ) : uc g t < U g 8 := by
  have := U8_pos hC
  unfold uc
  omega

theorem E_spec (t : ℕ) : E g t < 8 ∧ U g (E g t) ≤ uc g t ∧ uc g t < U g (E g t + 1) := by
  have hu := uc_lt hC t
  have : ∃ e, e < 8 ∧ U g e ≤ uc g t ∧ uc g t < U g (e + 1) := by
    by_contra hno
    push Not at hno
    have : ∀ k, k ≤ 8 → U g k ≤ uc g t := by
      intro k
      induction k with
      | zero => intro _; rw [U_zero]; exact Nat.zero_le _
      | succ k ih => intro hk; exact hno k (by omega) (ih (by omega))
    have := this 8 le_rfl
    omega
  obtain ⟨e, he, h1, h2⟩ := this
  have hE : E g t = e := by
    unfold E
    have hc : ∀ q, U g (q + 1) ≤ uc g t ↔ q < e := by
      intro q
      constructor
      · intro h
        by_contra hq
        have := U_mono (g := g) (show e + 1 ≤ q + 1 by omega)
        omega
      · intro h
        have := U_mono (g := g) (show q + 1 ≤ e by omega)
        omega
    simp only [hc]
    clear hc h1 h2
    interval_cases e <;> decide
  rw [hE]
  exact ⟨he, h1, h2⟩

theorem E_lt (t : ℕ) : E g t < 8 := (E_spec hC t).1

/-- The group of a grid point has rows. -/
theorem g_E (t : ℕ) : 0 < g (E g t) := by
  obtain ⟨h0, h1, h2⟩ := E_spec hC t
  rw [U_succ] at h2
  exact n_pos' (by omega)

/-- The tile of a grid point lies among those that its group touches. -/
theorem T_spec (t : ℕ) : C g (E g t) / 512 ≤ T g t ∧ T g t ≤ (C g (E g t + 1) - 1) / 512 := by
  obtain ⟨h0, h1, h2⟩ := E_spec hC t
  rw [U_succ, n_pos (g_E hC t)] at h2
  have := C_succ (g := g) (E g t)
  have := g_E hC t
  unfold T
  omega

theorem T_lt (t : ℕ) : T g t < 64 := by
  have h := T_spec hC t
  have h2 := E_lt hC t
  have := C_mono (g := g) (show E g t + 1 ≤ 8 by omega)
  omega

theorem uc_zero : uc g 0 = 0 := by unfold uc; omega

theorem C_E_zero : C g (E g 0) = 0 := by
  obtain ⟨h0, h1, h2⟩ := E_spec hC 0
  rw [uc_zero hC] at h1
  exact C_of_U (g := g) (Nat.zero_le _) h1

theorem fst_zero : fst g 0 = 1 := by
  unfold fst lo
  rw [C_E_zero hC, if_pos ⟨U8_pos hC, by omega⟩]

theorem T_zero : T g 0 = 0 := by
  unfold T
  rw [uc_zero hC, C_E_zero hC]
  omega

/-- Past the last unit the tile and the group stay. -/
theorem stay {t : ℕ} (h : U g 8 ≤ t + 1) : uc g (t + 1) = uc g t := by
  unfold uc; omega

theorem stay_E {t : ℕ} (h : U g 8 ≤ t + 1) : E g (t + 1) = E g t := by
  unfold E; rw [stay hC h]

theorem stay_T {t : ℕ} (h : U g 8 ≤ t + 1) : T g (t + 1) = T g t := by
  unfold T; rw [stay_E hC h, stay hC h]

/-- From one unit to the next: the next tile of the same group, or the first tile of the next group that has rows. -/
theorem next {t : ℕ} (h : t + 1 < U g 8) :
    (E g (t + 1) = E g t ∧ T g (t + 1) = T g t + 1) ∨
      (E g t < E g (t + 1) ∧ C g (E g (t + 1)) = C g (E g t + 1) ∧ T g t = (C g (E g t + 1) - 1) / 512 ∧ T g (t + 1) = C g (E g t + 1) / 512) := by
  have hp := U8_pos hC
  have u1 : uc g t = t := by unfold uc; omega
  have u2 : uc g (t + 1) = t + 1 := by unfold uc; omega
  obtain ⟨a0, a1, a2⟩ := E_spec hC t
  obtain ⟨b0, b1, b2⟩ := E_spec hC (t + 1)
  rw [u1] at a1 a2
  rw [u2] at b1 b2
  rcases Nat.lt_trichotomy (E g (t + 1)) (E g t) with h' | h' | h'
  · exfalso
    have := U_mono (g := g) (show E g (t + 1) + 1 ≤ E g t by omega)
    omega
  · left
    refine ⟨h', ?_⟩
    unfold T
    rw [h', u1, u2]
    omega
  · right
    have hm := U_mono (g := g) (show E g t + 1 ≤ E g (t + 1) by omega)
    have hc := C_of_U (g := g) (show E g t + 1 ≤ E g (t + 1) by omega) (by omega)
    have hn := n_pos (g_E hC t)
    have hs := U_succ (g := g) (E g t)
    have := C_succ (g := g) (E g t)
    have := g_E hC t
    refine ⟨h', hc, ?_, ?_⟩
    · unfold T
      rw [u1]
      omega
    · unfold T
      rw [u2, hc]
      omega

/-- A tile change is a tile's first grid point. -/
theorem step {t : ℕ} (h : T g (t + 1) ≠ T g t) : fst g (t + 1) = 1 := by
  have ht : t + 1 < U g 8 := by
    by_contra h'
    exact h (stay_T hC (by omega))
  unfold fst lo
  rw [if_pos]
  refine ⟨ht, ?_⟩
  have hs := T_spec hC t
  rcases next hC ht with ⟨h1, h2⟩ | ⟨h1, h2, h3, h4⟩
  · rw [h1, h2]
    omega
  · rw [h2, h4]
    rw [h3, h4] at h
    omega

end Total

/-! ## Words -/

open Idealize.ShloMosaic Idealize.ShloMosaic.Routing in
/-- A clipped difference of two words. -/
theorem clip_sub {a b : ℕ} (ha : a < 2 ^ 31) (hb : b < 2 ^ 31) :
    IntOp.minsi (512#32) (IntOp.maxsi (0#32) (BitVec.ofNat 32 a - BitVec.ofNat 32 b)) = BitVec.ofNat 32 (min (a - b) 512) := by
  rcases Nat.lt_or_ge a b with h | h
  · have hs : (BitVec.ofNat 32 a - BitVec.ofNat 32 b).slt 0#32 = true := by
      have hn : (BitVec.ofNat 32 a - BitVec.ofNat 32 b).toNat = 2 ^ 32 - (b - a) := by
        rw [BitVec.toNat_sub, BitVec.toNat_ofNat, BitVec.toNat_ofNat, Nat.mod_eq_of_lt (show a < 2 ^ 32 by omega), Nat.mod_eq_of_lt (show b < 2 ^ 32 by omega)]
        omega
      rw [BitVec.slt, decide_eq_true_eq, BitVec.toInt_eq_toNat_cond, hn, BitVec.toInt_zero, if_neg (by omega)]
      omega
    have e : IntOp.maxsi (0#32) (BitVec.ofNat 32 a - BitVec.ofNat 32 b) = 0#32 := by
      unfold IntOp.maxsi
      rw [if_pos hs]
    rw [e, show a - b = 0 by omega]
    decide
  · rw [ofNat32_sub h]
    have := clip_word (x := a - b) (lo := 0) (hi := 512) (by omega) (by omega) (by omega)
    rw [Nat.max_eq_left (Nat.zero_le _)] at this
    exact this

end Tabs
-- ==== Proof.Decode.lean ====
module

public import proofs.«01_k».proof.Proof.Reads
public import proofs.«01_k».proof.Proof.Words
public import proofs.«01_k».proof.Proof.Tabs
public import Idealize.ShloMosaic.Lib.ReduceAll
public import Idealize.ShloMosaic.Lib.StableHlo.RunRead
public import Idealize.ShloMosaic.Lib.Routing.Words
public import Idealize.ShloMosaic.Lib.Routing.OpsSearch
public import Idealize.ShloMosaic.Lib.Routing.OpsPair
public import Idealize.ShloMosaic.Lib.Pipeline.TableIdle
public import proofs.«01_k».proof.Proof.Gen.Kernel.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Stretches
public import Idealize.ShloMosaic.Lib.WordCmp
public import Idealize.ShloMosaic.Lib.VecWindow

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx Idealize.ShloMosaic.Routing Idealize.ShloMosaic.WordCmp

/-- The group sizes as naturals. -/
def gw (x : IVec S8 32) (k : ℕ) : ℕ := if h : k < 8 then (x (ix1 (⟨k, h⟩ : Fin 8))).toNat else 0

theorem gw_ap (x : IVec S8 32) (i : Fin 8) : x (ix1 i) = BitVec.ofNat 32 (gw x i.val) := by
  rw [gw, dif_pos i.isLt, BitVec.ofNat_toNat, BitVec.setWidth_eq]

section Table
variable (m : (ℓ : Loc nD τ sig) → Buf (Elt F) ℓ) (g : ℕ → ℕ)
  (hx : ∀ i : Fin 8, (V m 0 main_arg1 : IVec S8 32) (ix1 i) = BitVec.ofNat 32 (g i.val)) (hC : Tabs.C g 8 = 32768)

theorem C_le {k : ℕ} (hC : Tabs.C g 8 = 32768) (h : k ≤ 8) : Tabs.C g k ≤ 32768 := hC ▸ Tabs.C_mono h
theorem U_le71 {k : ℕ} (hC : Tabs.C g 8 = 32768) (h : k ≤ 8) : Tabs.U g k ≤ 71 := (Tabs.U_mono h).trans (Tabs.U8_le hC)

include hx hC

theorem v0_ap (i : Fin 8) : (V m 0 main_v0 : IVec S8 32) (ix1 i) = BitVec.ofNat 32 (Tabs.C g (i.val + 1)) := by
  rw [rd_v0]
  exact cumsum1 (N := 8) (Nm1 := 7) rfl _ g hx _ (bc0 _ _ _) _ _ i

theorem v1_ap (i : Fin 8) : (V m 0 main_v1 : IVec S8 32) (ix1 i) = BitVec.ofNat 32 (Tabs.C g i.val) := by
  rw [rd_v1, subi_ap, v0_ap m g hx hC, hx, ofNat32_sub (by rw [Tabs.C_succ]; omega), Tabs.C_succ, Nat.add_sub_cancel]

theorem v2_ap (i : Fin 8) : (V m 0 main_v2 : IVec S8 32) (ix1 i) = BitVec.ofNat 32 (Tabs.C g i.val / 512) := by
  have := C_le g hC (show i.val ≤ 8 by omega)
  rw [rd_v2]
  exact pyDiv_ap _ _ _ _ (v1_ap m g hx hC i) (by rw [rd_c]; rfl) (by omega) (by omega) (by omega)

theorem v4_ap (i : Fin 8) : (V m 0 main_v4 : IVec S8 1) (ix1 i) = BitVec.ofBool (decide (0 < g i.val)) := by
  have h1 := C_le g hC (show i.val + 1 ≤ 8 by omega)
  rw [Tabs.C_succ] at h1
  rw [rd_v4, cmpi_at, hx, bc0]
  exact cmpi_sgt_ofNat (w := 32) (by omega) (by omega)

theorem v7_ap (i : Fin 8) (h : 0 < g i.val) : (V m 0 main_v7 : IVec S8 32) (ix1 i) = BitVec.ofNat 32 ((Tabs.C g (i.val + 1) - 1) / 512) := by
  have h1 := C_le g hC (show i.val + 1 ≤ 8 by omega)
  rw [rd_v7]
  refine pyDiv_ap _ _ _ _ ?_ (by rw [rd_c_2]; rfl) (by omega) (by omega) (by omega)
  rw [rd_v6, subi_ap, v0_ap m g hx hC, bc0]
  exact ofNat32_sub (by rw [Tabs.C_succ]; omega)

theorem v13_ap (i : Fin 8) : (V m 0 main_v13 : IVec S8 32) (ix1 i) = BitVec.ofNat 32 (Tabs.n g i.val) := by
  rw [rd_v13, addi_ap, subi_ap, rd_v10, select_at, v4_ap m g hx hC, select_decide, v2_ap m g hx hC, bc0]
  unfold Tabs.n
  split
  · next h =>
    have : Tabs.C g i.val ≤ Tabs.C g (i.val + 1) - 1 := by rw [Tabs.C_succ]; omega
    rw [v7_ap m g hx hC i h, ofNat32_sub (by omega), BitVec.ofNat_add]
    rfl
  · rw [rd_v9, subi_ap, v2_ap m g hx hC, bc0]
    show _ - 1#32 - _ + 1#32 = 0#32
    generalize BitVec.ofNat 32 (Tabs.C g i.val / 512) = x
    bv_omega

theorem v14_ap (i : Fin 8) : (V m 0 main_v14 : IVec S8 32) (ix1 i) = BitVec.ofNat 32 (Tabs.U g (i.val + 1)) := by
  rw [rd_v14]
  exact cumsum1 (N := 8) (Nm1 := 7) rfl _ (Tabs.n g) (v13_ap m g hx hC) _ (bc0 _ _ _) _ _ i

theorem last_ap : shapeCast S_ (extractStridedSlice S1 ![7] (V m 0 main_v14 : IVec S8 32) slices_S8_S1_7) shapeCasts_S1_S_ ValueIdx.ix0 = BitVec.ofNat 32 (Tabs.U g 8) := by
  refine Eq.trans ?_ (v14_ap m g hx hC 7)
  have key : ∀ j : S1.Idx, extractStridedSlice S1 ![7] (V m 0 main_v14 : IVec S8 32) slices_S8_S1_7 j = (V m 0 main_v14 : IVec S8 32) (ix1 (7 : Fin 8)) := by
    intro j
    have hj : (j 0).val < 1 := (j 0).isLt
    rw [eq_ix1 j]
    refine (slice1 (m := 8) (n := 1) 7 _ slices_S8_S1_7 (j 0) (by omega)).trans ?_
    congr 2
    apply Fin.ext
    show 7 + _ = 7
    omega
  exact key _

theorem v19_ap (t : Fin 71) : (V m 0 main_v19 : IVec S71 1) (ix1 t) = BitVec.ofBool (decide (t.val < Tabs.U g 8)) := by
  have := U_le71 g hC (le_refl 8)
  rw [rd_v19, cmpi_at, bc0, rd_v17, last_ap m g hx hC]
  have ht := t.isLt
  exact cmpi_slt_ofNat (w := 32) (a := t.val) (by omega) (by omega)

theorem v24_ap (t : Fin 71) : (V m 0 main_v24 : IVec S71 32) (ix1 t) = BitVec.ofNat 32 (Tabs.uc g t.val) := by
  have := U_le71 g hC (le_refl 8)
  have hp := Tabs.U8_pos hC
  rw [rd_v24]
  show IntOp.minsi (BitVec.ofNat 32 t.val) _ = _
  rw [bc0, rd_v22, subi_ap, last_ap m g hx hC]
  show IntOp.minsi (BitVec.ofNat 32 t.val) (_ - BitVec.ofNat 32 1) = _
  rw [ofNat32_sub (by omega)]
  unfold IntOp.minsi Tabs.uc
  rw [slt_ofNat32 (by omega) (by omega)]
  by_cases h : t.val < Tabs.U g 8 - 1
  · rw [if_pos (decide_eq_true h), Nat.min_eq_left (by omega)]
  · rw [if_neg (fun e => h (of_decide_eq_true e)), Nat.min_eq_right (by omega)]

theorem v31_ap (t : Fin 71) : (V m 0 main_v31 : IVec S71 32) (ix1 t) = BitVec.ofNat 32 (Tabs.E g t.val) := by
  have h71 := U_le71 g hC (le_refl 8)
  have hu := Tabs.uc_lt hC t.val
  rw [rd_v31]
  refine reduce_count (n := 71) (m := 8) (by omega) _ _ _ _ t _ fun q => ?_
  have := U_le71 g hC (show q.val + 1 ≤ 8 by omega)
  rw [cmpi_at]
  have e1 : broadcastInDim S71x8 ![0, 1] bcast_S71x1_S71x8_0_1 (broadcastInDim S71x1 ![0] bcast_S71_S71x1_0 (V m 0 main_v24 : IVec S71 32)) (ix2 t q) = _ := bcRows (n := 71) (m := 8) _ _ _ t q
  have e2 : broadcastInDim S71x8 ![0, 1] bcast_S1x8_S71x8_0_1 (broadcastInDim S1x8 ![1] bcast_S8_S1x8_1 (V m 0 main_v14 : IVec S8 32)) (ix2 t q) = _ := bcCols (n := 71) (m := 8) _ _ _ t q
  rw [e1, e2, v24_ap m g hx hC, v14_ap m g hx hC]
  exact cmpi_sge_ofNat_eq_one_iff (w := 32) (by omega) (by omega)

/-- A table of the eight groups read at the group of a grid point. -/
theorem take_E (x : IVec S8 32) (f : ℕ → ℕ) (hf : ∀ i : Fin 8, x (ix1 i) = BitVec.ofNat 32 (f i.val)) (t : Fin 71) :
    Host.gather gather_S8_S71x1_S71_n_0_n_n_0_1_1 x (broadcastInDim S71x1 ![0] bcast_S71_S71x1_0
      (select (cmpi .slt (V m 0 main_v31 : IVec S71 32) (broadcastInDim S71 ![] bcast_S_S71 (constantI S_ 32 0#32)))
        (addi (V m 0 main_v31 : IVec S71 32) (broadcastInDim S71 ![] bcast_S_S71 (constantI S_ 32 8#32))) (V m 0 main_v31 : IVec S71 32))) (ix1 t)
      = BitVec.ofNat 32 (f (Tabs.E g t.val)) := by
  have hE := Tabs.E_lt hC t.val
  refine (take_ap (N := 8) (n := 71) gather_S8_S71x1_S71_n_0_n_n_0_1_1 rfl rfl rfl rfl x _ t hE (by omega) ?_).trans (hf _)
  refine (bcCol (n := 71) _ _ t).trans ?_
  rw [select_at, cmpi_at, bc0]
  refine (wrap_of_lt _ _ ?_).trans (v31_ap m g hx hC t)
  rw [v31_ap m g hx hC t, BitVec.toNat_ofNat, Nat.mod_eq_of_lt (by omega)]
  omega

theorem v48_ap (t : Fin 71) : (V m 0 main_v48 : IVec S71 32) (ix1 t) = BitVec.ofNat 32 (Tabs.T g t.val) := by
  have hE := Tabs.E_spec hC t.val
  rw [rd_v48, subi_ap, rd_v39, addi_ap, rd_v38, take_E m g hx hC _ (fun k => Tabs.C g k / 512) (v2_ap m g hx hC), v24_ap m g hx hC, rd_v47,
    take_E m g hx hC _ (fun k => Tabs.U g k) (fun i => ?_)]
  · rw [← BitVec.ofNat_add, ofNat32_sub (by omega)]
    rfl
  · rw [rd_v40, subi_ap, v14_ap m g hx hC, v13_ap m g hx hC, Tabs.U_succ, ofNat32_sub (by omega), Nat.add_sub_cancel]

theorem mul_T (t : Fin 71) : muli (V m 0 main_v48 : IVec S71 32) (broadcastInDim S71 ![] bcast_S_S71 (constantI S_ 32 512#32)) (ix1 t) = BitVec.ofNat 32 (512 * Tabs.T g t.val) := by
  rw [muli_ap, v48_ap m g hx hC, bc0, Nat.mul_comm, BitVec.ofNat_mul]
  rfl

theorem v59_ap (t : Fin 71) : (V m 0 main_v59 : IVec S71 32) (ix1 t) = BitVec.ofNat 32 (Tabs.lo g t.val) := by
  have hE := Tabs.E_lt hC t.val
  have hT := Tabs.T_lt hC t.val
  have := C_le g hC (show Tabs.E g t.val ≤ 8 by omega)
  rw [rd_v59]
  show IntOp.minsi (broadcastInDim S71 ![] bcast_S_S71 (V m 0 main_c_15 : IVec S_ 32) (ix1 t)) (IntOp.maxsi (broadcastInDim S71 ![] bcast_S_S71 (V m 0 main_c_14 : IVec S_ 32) (ix1 t)) _) = _
  rw [bc0, bc0, rd_c_15, rd_c_14, rd_v58, subi_ap, mul_T m g hx hC, rd_v55, take_E m g hx hC _ (fun k => Tabs.C g k) (v1_ap m g hx hC)]
  exact Tabs.clip_sub (by omega) (by omega)

theorem v71_ap (t : Fin 71) : (V m 0 main_v71 : IVec S71 32) (ix1 t) = BitVec.ofNat 32 (Tabs.hi g t.val) := by
  have hE := Tabs.E_lt hC t.val
  have hT := Tabs.T_lt hC t.val
  have := C_le g hC (show Tabs.E g t.val + 1 ≤ 8 by omega)
  rw [rd_v71, select_at, v19_ap m g hx hC, select_decide, v59_ap m g hx hC]
  unfold Tabs.hi
  split
  · rw [rd_v70]
    show IntOp.minsi (broadcastInDim S71 ![] bcast_S_S71 (V m 0 main_c_20 : IVec S_ 32) (ix1 t)) (IntOp.maxsi (broadcastInDim S71 ![] bcast_S_S71 (V m 0 main_c_19 : IVec S_ 32) (ix1 t)) _) = _
    rw [bc0, bc0, rd_c_20, rd_c_19, rd_v69, subi_ap, mul_T m g hx hC, rd_v66, take_E m g hx hC _ (fun k => Tabs.C g (k + 1)) (v0_ap m g hx hC)]
    exact Tabs.clip_sub (by omega) (by omega)
  · rfl

theorem v75_ap (t : Fin 71) : (V m 0 main_v75 : IVec S71 32) (ix1 t) = BitVec.ofNat 32 (Tabs.fst g t.val) := by
  have hlo : Tabs.lo g t.val ≤ 512 := Nat.min_le_right _ _
  rw [rd_v75, select_at, rd_v74, andi_at, v19_ap m g hx hC, cmpi_at, v59_ap m g hx hC, bc0, bc0, bc0, rd_c_22, rd_c_23]
  have e : IntOp.cmpi .eq (BitVec.ofNat 32 (Tabs.lo g t.val)) (constantI S_ 32 0#32 ValueIdx.ix0) = BitVec.ofBool (decide (Tabs.lo g t.val = 0)) :=
    cmpi_eq_ofNat (w := 32) (by omega) (by omega)
  rw [e]
  unfold Tabs.fst
  by_cases h1 : t.val < Tabs.U g 8 <;> by_cases h2 : Tabs.lo g t.val = 0 <;> simp only [h1, h2, decide_true, decide_false, and_true, and_false, true_and, false_and, if_true, if_false] <;> rfl

/-- The tables the kernel reads. -/
theorem tw_tile (t : ℕ) (h : t < 71) : tw (tbl m) 0 t h = BitVec.ofNat 32 (Tabs.T g t) := by
  refine Eq.trans ?_ (v48_ap m g hx hC ⟨t, h⟩)
  exact congrArg (V m 0 main_v48 : IVec S71 32) (eq_ix1 _)
theorem tw_ex (t : ℕ) (h : t < 71) : tw (tbl m) 1 t h = BitVec.ofNat 32 (Tabs.E g t) := by
  refine Eq.trans ?_ (v31_ap m g hx hC ⟨t, h⟩)
  exact congrArg (V m 0 main_v31 : IVec S71 32) (eq_ix1 _)
theorem tw_first (t : ℕ) (h : t < 71) : tw (tbl m) 2 t h = BitVec.ofNat 32 (Tabs.fst g t) := by
  refine Eq.trans ?_ (v75_ap m g hx hC ⟨t, h⟩)
  exact congrArg (V m 0 main_v75 : IVec S71 32) (eq_ix1 _)
theorem tw_lo (t : ℕ) (h : t < 71) : tw (tbl m) 3 t h = BitVec.ofNat 32 (Tabs.lo g t) := by
  refine Eq.trans ?_ (v59_ap m g hx hC ⟨t, h⟩)
  exact congrArg (V m 0 main_v59 : IVec S71 32) (eq_ix1 _)
theorem tw_hi (t : ℕ) (h : t < 71) : tw (tbl m) 4 t h = BitVec.ofNat 32 (Tabs.hi g t) := by
  refine Eq.trans ?_ (v71_ap m g hx hC ⟨t, h⟩)
  exact congrArg (V m 0 main_v71 : IVec S71 32) (eq_ix1 _)

theorem tabFacts : TabFacts (tbl m) where
  tile_lt t h := by
    have := Tabs.T_lt hC t
    rw [tw_tile m g hx hC, BitVec.toNat_ofNat, Nat.mod_eq_of_lt (by omega)]; exact this
  ex_lt t h := by
    have := Tabs.E_lt hC t
    rw [tw_ex m g hx hC, BitVec.toNat_ofNat, Nat.mod_eq_of_lt (by omega)]; exact this
  first0 := by
    rw [tw_first m g hx hC, Tabs.fst_zero hC, cond1_iff]
  step t h hne := by
    rw [tw_tile m g hx hC, tw_tile m g hx hC] at hne
    rw [tw_first m g hx hC, Tabs.step hC (fun e => hne (by rw [e])), cond1_iff]

end Table

/-- What the precondition says of the group sizes. -/
theorem groups_of (x : IVec S8 32) (b1 : S_.BroadcastsInDim S8 (![] : Fin 0 → Fin S8.rank)) (r1 : S8.ReducesTo [0] S_) (hu : 0 < S_.numel)
    (h1 : Host.reduce IntOp.andi (cmpi .sge x (broadcastInDim S8 ![] b1 (constantI S_ 32 0#32))) (constantI S_ 1 1#1) r1 hu ValueIdx.ix0 = 1#1)
    (h2 : Host.reduce IntOp.andi (cmpi .sle x (broadcastInDim S8 ![] b1 (constantI S_ 32 32768#32))) (constantI S_ 1 1#1) r1 hu ValueIdx.ix0 = 1#1)
    (h3 : IntOp.cmpi .eq (Host.reduce IntOp.addi x (constantI S_ 32 0#32) r1 hu ValueIdx.ix0) (32768#32) = 1#1) :
    Tabs.C (gw x) 8 = 32768 := by
  haveI : Subsingleton S_.Idx := ⟨fun a b => funext fun i => i.elim0⟩
  have hle : ∀ k, gw x k ≤ 32768 := by
    intro k
    unfold gw
    split
    · next hk =>
      have a := Host.reduce_andi_all _ _ r1 hu ValueIdx.ix0 h1 (ix1 (⟨k, hk⟩ : Fin 8))
      have b := Host.reduce_andi_all _ _ r1 hu ValueIdx.ix0 h2 (ix1 (⟨k, hk⟩ : Fin 8))
      rw [cmpi_at, bc0] at a b
      have a' := (cmpi_sge_zero (w := 32) _).symm.trans a
      rw [ofBool_decide_eq_one_iff] at a'
      have b' := (StableHlo.Predicate.sle_iff_toNat a' (show (32768#32).toNat < 2 ^ 31 by decide)).1 b
      exact b'
    · omega
  have hs := reduce_sum (N := 8) x (gw x) (gw_ap x) r1 hu
  rw [hs] at h3
  have h4 := StableHlo.Predicate.cmpi_eq_iff.1 h3
  have h5 : Tabs.C (gw x) 8 ≤ 8 * 32768 := by
    simp only [Tabs.C_succ, Tabs.C_zero]
    have := hle 0; have := hle 1; have := hle 2; have := hle 3; have := hle 4; have := hle 5; have := hle 6; have := hle 7
    omega
  have h6 := congrArg BitVec.toNat h4
  rw [BitVec.toNat_ofNat] at h6
  change Tabs.C (gw x) 8 % 2 ^ 32 = 32768 % 2 ^ 32 at h6
  omega

end Cert.Kernel.Own
-- ==== Proof.IBody.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Stretches
public import Idealize.ShloMosaic.Lib.WordCmp
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

abbrev tb1 : Memref sig .tc .smem S71 .i32 := Memref.whole main_v48
abbrev tb2 : Memref sig .tc .smem S71 .i32 := Memref.whole main_v31
abbrev tb3 : Memref sig .tc .smem S71 .i32 := Memref.whole main_v75
abbrev tb4 : Memref sig .tc .smem S71 .i32 := Memref.whole main_v59
abbrev tb5 : Memref sig .tc .smem S71 .i32 := Memref.whole main_v71
abbrev scr : Memref sig .tc .vmem S512x2816 .fp8e4m3 := Memref.whole cc0_scratch0

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word of a table that the body reads at point `i`. -/
abbrev wd (c : Dev nD) (i : grid0.Coords) (M : Memref sig .tc .smem S71 .i32) (f : TbBuf (F := F) c M) : Elt F .i32 :=
  View.readAt (Elt F) M.view (Rect.unit (s := S71) (k0_off1 i) S1.size (k0_off1_inb i)).toLoadRect f
    (Shape.Idx.first (numel1_S1.symm ▸ Nat.one_pos))

/-- The eight-bit codes of a block of rows, and the rows' scales, as the kernel computes them. -/
def codes (x : Vec F S512x2816 .bf16) : FVec F S512x2816 .fp8e4m3 := k0_pay7 (k0_pay6 x)
def rsc (x : Vec F S512x2816 .bf16) : FVec F S512x1 .f32 := k0_pay8 (F := F) (k0_pay5 x)

theorem inbO (k : Fin 11) : ∀ a, (![0, 256 * k.val] : Fin 2 → ℕ) a + S512x256.size a ≤ S512x2816.size a := by
  revert k; decide
theorem inbW (k : Fin 11) : ∀ a, (![0, 0, 256 * k.val] : Fin 3 → ℕ) a + S1x2816x256.size a ≤ S1x2816x2816.size a := by
  revert k; decide
theorem inbS (k : Fin 11) : ∀ a, (![0, 0, 256 * k.val] : Fin 3 → ℕ) a + S1x1x256.size a ≤ S1x1x2816.size a := by
  revert k; decide
/-- Column piece `k` of the output block, of the weights' block and of the weights' scales. -/
abbrev rO (k : Fin 11) : Rect S512x2816 := Rect.unit (s := S512x2816) ![0, 256 * k.val] S512x256.size (inbO k)
abbrev rW (k : Fin 11) : Rect S1x2816x2816 := Rect.unit (s := S1x2816x2816) ![0, 0, 256 * k.val] S1x2816x256.size (inbW k)
abbrev rS (k : Fin 11) : Rect S1x1x2816 := Rect.unit (s := S1x1x2816) ![0, 0, 256 * k.val] S1x1x256.size (inbS k)

/-- The product of piece `k`, scaled, before it is rounded. -/
def newPc (x : Vec F S512x2816 .bf16) (w : Vec F S1x2816x2816 .fp8e4m3) (ws : Vec F S1x1x2816 .f32) (k : Fin 11) : FVec F S512x256 .f32 :=
  k0_pay39 (rsc x) (codes x) (View.ld w (rW k)) (View.ld ws (rS k))
/-- Piece `k` as the whole tile is written. -/
def firstPc (x : Vec F S512x2816 .bf16) (w : Vec F S1x2816x2816 .fp8e4m3) (ws : Vec F S1x1x2816 .f32) (k : Fin 11) : FVec F S512x256 .bf16 :=
  truncf .bf16 (newPc x w ws k) bitsLt_bf16_f32
/-- Piece `k` as only the rows from `l` to `h` are written over `prev`. -/
def maskPc (l h : BitVec 32) (x : Vec F S512x2816 .bf16) (w : Vec F S1x2816x2816 .fp8e4m3) (ws : Vec F S1x1x2816 .f32)
    (prev : Vec F S512x2816 .bf16) (k : Fin 11) : FVec F S512x256 .bf16 :=
  k0_pay3 (k0_pay25 (F := F) l h) (newPc x w ws k) (View.ld prev (rO k))

/-- An entry's place in its column piece. -/
def colIx (y : S512x2816.Idx) : S512x256.Idx := fun a => match a with
  | ⟨0, _⟩ => ⟨(y 0).val, (y 0).isLt⟩
  | ⟨1, _⟩ => ⟨(y 1).val % 256, Nat.mod_lt _ (by decide)⟩

/-- The block whose column pieces are `P`. -/
def outOf (P : Fin 11 → FVec F S512x256 .bf16) : Vec F S512x2816 .bf16 := fun y =>
  P ⟨(y 1).val / 256, by have h : (y 1).val < 2816 := (y 1).isLt; omega⟩ (colIx y)

/-- The stores of the pieces below `n`, the last first. -/
def pcs (P : Fin 11 → FVec F S512x256 .bf16) : (n : ℕ) → n ≤ 11 → List (View.Piece (Elt F) S512x2816 .bf16)
  | 0, _ => []
  | n + 1, h => ⟨rO ⟨n, h⟩, P ⟨n, h⟩⟩ :: pcs P n (Nat.le_of_succ_le h)

theorem read_pcs {sp : Space} (v : View sig .tc sp S512x2816 .bf16) (f : v.ty.Contents (Elt F)) (P : Fin 11 → FVec F S512x256 .bf16) (y : S512x2816.Idx) :
    ∀ (n : ℕ) (h : n ≤ 11), (y 1).val < 256 * n → v.read (Elt F) (v.writes (Elt F) f (pcs P n h)) y = outOf P y
  | 0, _, hy => absurd hy (by omega)
  | n + 1, h, hy => by
    by_cases hc : 256 * n ≤ (y 1).val
    · have e : (rO ⟨n, h⟩).emb (colIx y) = y := by
        funext a
        refine Fin.ext ?_
        match a with
        | ⟨0, _⟩ => show 0 + 1 * (y 0).val = (y 0).val; omega
        | ⟨1, _⟩ => show 256 * n + 1 * ((y 1).val % 256) = (y 1).val; omega
      have hk : (y 1).val / 256 = n := by omega
      unfold pcs
      conv_lhs => rw [← e]
      rw [View.read_writes_cons_emb]
      unfold outOf
      have : (⟨(y 1).val / 256, by omega⟩ : Fin 11) = ⟨n, h⟩ := Fin.ext hk
      rw [this]
    · unfold pcs
      rw [View.writes_cons, View.read_slice_write_of_not_mem]
      · exact read_pcs v f P y n _ (by omega)
      · rw [Rect.map_emb_univ]
        intro hm
        obtain ⟨z, hz⟩ := (rO ⟨n, h⟩).exists_idx_of_mem hm
        have h1 := congrArg (fun q : S512x2816.Idx => (q 1).val) hz
        have h2 : 256 * n + 1 * (z 1).val = (y 1).val := h1
        omega

theorem read_cols {sp : Space} (v : View sig .tc sp S512x2816 .bf16) (f : v.ty.Contents (Elt F)) (P : Fin 11 → FVec F S512x256 .bf16) :
    v.read (Elt F) (v.writes (Elt F) f (pcs P 11 (Nat.le_refl _))) = outOf P :=
  funext fun y => read_pcs v f P y 11 _ (by have h : (y 1).val < 2816 := (y 1).isLt; omega)

theorem cons11 (P : Fin 11 → FVec F S512x256 .bf16) {p0 p1 p2 p3 p4 p5 p6 p7 p8 p9 p10 : FVec F S512x256 .bf16}
    (h0 : p0 = P ⟨0, by decide⟩)
    (h1 : p1 = P ⟨1, by decide⟩)
    (h2 : p2 = P ⟨2, by decide⟩)
    (h3 : p3 = P ⟨3, by decide⟩)
    (h4 : p4 = P ⟨4, by decide⟩)
    (h5 : p5 = P ⟨5, by decide⟩)
    (h6 : p6 = P ⟨6, by decide⟩)
    (h7 : p7 = P ⟨7, by decide⟩)
    (h8 : p8 = P ⟨8, by decide⟩)
    (h9 : p9 = P ⟨9, by decide⟩)
    (h10 : p10 = P ⟨10, by decide⟩) :
    ([⟨Rect.unit (s := S512x2816) ![0, 2560] S512x256.size inb_S512x2816_S512x256_0_2560, p10⟩, ⟨Rect.unit (s := S512x2816) ![0, 2304] S512x256.size inb_S512x2816_S512x256_0_2304, p9⟩, ⟨Rect.unit (s := S512x2816) ![0, 2048] S512x256.size inb_S512x2816_S512x256_0_2048, p8⟩, ⟨Rect.unit (s := S512x2816) ![0, 1792] S512x256.size inb_S512x2816_S512x256_0_1792, p7⟩, ⟨Rect.unit (s := S512x2816) ![0, 1536] S512x256.size inb_S512x2816_S512x256_0_1536, p6⟩, ⟨Rect.unit (s := S512x2816) ![0, 1280] S512x256.size inb_S512x2816_S512x256_0_1280, p5⟩, ⟨Rect.unit (s := S512x2816) ![0, 1024] S512x256.size inb_S512x2816_S512x256_0_1024, p4⟩, ⟨Rect.unit (s := S512x2816) ![0, 768] S512x256.size inb_S512x2816_S512x256_0_768, p3⟩, ⟨Rect.unit (s := S512x2816) ![0, 512] S512x256.size inb_S512x2816_S512x256_0_512, p2⟩, ⟨Rect.unit (s := S512x2816) ![0, 256] S512x256.size inb_S512x2816_S512x256_0_256, p1⟩, ⟨Rect.unit (s := S512x2816) ![0, 0] S512x256.size inb_S512x2816_S512x256_0_0, p0⟩] : List (View.Piece (Elt F) S512x2816 .bf16))
      = pcs P 11 (Nat.le_refl _) := by
  subst h0 h1 h2 h3 h4 h5 h6 h7 h8 h9 h10
  rfl

set_option pp.maxSteps 40 in
set_option maxHeartbeats 1000000 in
/-- At a point that computes nothing, the output block stays as it was. -/
theorem body_idle (c : Dev nD) (E : Set ℕ) (i : grid0.Coords)
    (arg6 : Memref sig .tc .vmem S512x2816 .bf16) (harg6 : arg6.IsWhole)
    (arg7 : Memref sig .tc .vmem S1x2816x2816 .fp8e4m3) (harg7 : arg7.IsWhole)
    (arg8 : Memref sig .tc .vmem S1x1x2816 .f32) (harg8 : arg8.IsWhole)
    (arg9 : Memref sig .tc .vmem S512x2816 .bf16) (harg9 : arg9.IsWhole)
    (x : Vec F S512x2816 .bf16) (w : Vec F S1x2816x2816 .fp8e4m3) (ws : Vec F S1x1x2816 .f32) (prev : Vec F S512x2816 .bf16)
    (f3 : TbBuf (F := F) c tb3) (f4 : TbBuf (F := F) c tb4) (f5 : TbBuf (F := F) c tb5)
    (h1 : ¬ k0_cond1 (wd c i tb3 f3) = 1#1) (h2 : ¬ k0_cond2 (wd c i tb4 f4) (wd c i tb5 f5) (wd c i tb3 f3) = 1#1)
    (K : PUnit → sProp 𝕄) :
    iprop(owns (c : Thread nD τ) arg6 fullShare x ∗ owns (c : Thread nD τ) arg7 fullShare w ∗ owns (c : Thread nD τ) arg8 fullShare ws
        ∗ owns (c : Thread nD τ) arg9 fullShare prev
        ∗ (∃ d, owns (c : Thread nD τ) scr fullShare d)
        ∗ tbPt c tb3 f3 ∗ tbPt c tb4 f4 ∗ tbPt c tb5 f5
        ∗ (iprop(owns (c : Thread nD τ) arg6 fullShare x ∗ owns (c : Thread nD τ) arg7 fullShare w ∗ owns (c : Thread nD τ) arg8 fullShare ws
            ∗ owns (c : Thread nD τ) arg9 fullShare (prev)
            ∗ (∃ d, owns (c : Thread nD τ) scr fullShare d)
            ∗ tbPt c tb3 f3 ∗ tbPt c tb4 f4 ∗ tbPt c tb5 f5) -∗ K ⟨⟩))
      ⊢ wp frame (wpE (defs₀ (F := F)) Variants.none c none) E
          (cc0_grouped_fp8_matmul i tb1 (Memref.isWhole_whole _) tb2 (Memref.isWhole_whole _) tb3 (Memref.isWhole_whole _)
            tb4 (Memref.isWhole_whole _) tb5 (Memref.isWhole_whole _) arg6 harg6 arg7 harg7 arg8 harg8 arg9 harg9 scr (Memref.isWhole_whole _)) K := by
  simp only [cc0_grouped_fp8_matmul_eq_skeleton]; unfold cc0_grouped_fp8_matmul_skel
  unfold owns
  iintro ⟨⟨%g6, %hg6, H6⟩, ⟨%g7, %hg7, H7⟩, ⟨%g8, %hg8, H8⟩, ⟨%g9, %hg9, H9⟩, ⟨%d10, %g10, -, H10⟩, T3, T4, T5, Hk⟩
  subst hg6 hg7 hg8 hg9
  sl_exec
  sl_step
  iapply Hk
  isplitl [H6]
  · iexists g6; isplitr; · ipureintro; rfl
    iexact H6
  isplitl [H7]
  · iexists g7; isplitr; · ipureintro; rfl
    iexact H7
  isplitl [H8]
  · iexists g8; isplitr; · ipureintro; rfl
    iexact H8
  isplitl [H9]
  · iexists _; isplitr
    swap; · iexact H9
    ipureintro
    rfl
  isplitl [H10]
  · iexists _; iexists _; isplitr
    swap; · iexact H10
    ipureintro; rfl
  isplitl [T3]; · iexact T3
  isplitl [T4]; · iexact T4
  iexact T5

set_option pp.maxSteps 40 in
set_option maxHeartbeats 1000000 in
/-- At a tile's first point the whole block is written. -/
theorem body_first (c : Dev nD) (E : Set ℕ) (i : grid0.Coords)
    (arg6 : Memref sig .tc .vmem S512x2816 .bf16) (harg6 : arg6.IsWhole)
    (arg7 : Memref sig .tc .vmem S1x2816x2816 .fp8e4m3) (harg7 : arg7.IsWhole)
    (arg8 : Memref sig .tc .vmem S1x1x2816 .f32) (harg8 : arg8.IsWhole)
    (arg9 : Memref sig .tc .vmem S512x2816 .bf16) (harg9 : arg9.IsWhole)
    (x : Vec F S512x2816 .bf16) (w : Vec F S1x2816x2816 .fp8e4m3) (ws : Vec F S1x1x2816 .f32) (prev : Vec F S512x2816 .bf16)
    (f3 : TbBuf (F := F) c tb3) (f4 : TbBuf (F := F) c tb4) (f5 : TbBuf (F := F) c tb5)
    (h1 : k0_cond1 (wd c i tb3 f3) = 1#1) (h2 : ¬ k0_cond2 (wd c i tb4 f4) (wd c i tb5 f5) (wd c i tb3 f3) = 1#1)
    (K : PUnit → sProp 𝕄) :
    iprop(owns (c : Thread nD τ) arg6 fullShare x ∗ owns (c : Thread nD τ) arg7 fullShare w ∗ owns (c : Thread nD τ) arg8 fullShare ws
        ∗ owns (c : Thread nD τ) arg9 fullShare prev
        ∗ (∃ d, owns (c : Thread nD τ) scr fullShare d)
        ∗ tbPt c tb3 f3 ∗ tbPt c tb4 f4 ∗ tbPt c tb5 f5
        ∗ (iprop(owns (c : Thread nD τ) arg6 fullShare x ∗ owns (c : Thread nD τ) arg7 fullShare w ∗ owns (c : Thread nD τ) arg8 fullShare ws
            ∗ owns (c : Thread nD τ) arg9 fullShare (outOf (firstPc x w ws))
            ∗ (∃ d, owns (c : Thread nD τ) scr fullShare d)
            ∗ tbPt c tb3 f3 ∗ tbPt c tb4 f4 ∗ tbPt c tb5 f5) -∗ K ⟨⟩))
      ⊢ wp frame (wpE (defs₀ (F := F)) Variants.none c none) E
          (cc0_grouped_fp8_matmul i tb1 (Memref.isWhole_whole _) tb2 (Memref.isWhole_whole _) tb3 (Memref.isWhole_whole _)
            tb4 (Memref.isWhole_whole _) tb5 (Memref.isWhole_whole _) arg6 harg6 arg7 harg7 arg8 harg8 arg9 harg9 scr (Memref.isWhole_whole _)) K := by
  simp only [cc0_grouped_fp8_matmul_eq_skeleton]; unfold cc0_grouped_fp8_matmul_skel
  unfold owns
  iintro ⟨⟨%g6, %hg6, H6⟩, ⟨%g7, %hg7, H7⟩, ⟨%g8, %hg8, H8⟩, ⟨%g9, %hg9, H9⟩, ⟨%d10, %g10, -, H10⟩, T3, T4, T5, Hk⟩
  subst hg6 hg7 hg8 hg9
  sl_exec
  sl_step
  iapply Hk
  isplitl [H6]
  · iexists g6; isplitr; · ipureintro; rfl
    iexact H6
  isplitl [H7]
  · iexists g7; isplitr; · ipureintro; rfl
    iexact H7
  isplitl [H8]
  · iexists g8; isplitr; · ipureintro; rfl
    iexact H8
  isplitl [H9]
  · iexists _; isplitr
    swap; · iexact H9
    ipureintro
    refine Eq.trans (congrArg (fun L => View.read (Elt F) arg9.view (arg9.view.writes (Elt F) g9 L)) ?_) (read_cols arg9.view g9 _)
    sl_open_run
    simp only [View.readCov_cons_toLoadRect]
    have hx : View.readAt (Elt F) arg6.view (Rect.unit (s := S512x2816) ![0, 0] ![512, 2816] inb_S512x2816_S512x2816_0_0).toLoadRect g6
        = View.read (Elt F) arg6.view g6 := View.readAt_full _ _ _
    rw [hx]
    refine cons11 _ ?_ ?_ ?_ ?_ ?_ ?_ ?_ ?_ ?_ ?_ ?_
    all_goals
      unfold firstPc newPc codes rsc
      generalize k0_pay7 (k0_pay6 (View.read (Elt F) arg6.view g6)) = q
      generalize k0_pay5 (View.read (Elt F) arg6.view g6) = a
      with_unfolding_all rfl
  isplitl [H10]
  · iexists _; iexists _; isplitr
    swap; · iexact H10
    ipureintro; rfl
  isplitl [T3]; · iexact T3
  isplitl [T4]; · iexact T4
  iexact T5

end Cert.KernelIdeal.Own
-- ==== Proof.IHost.lean ====
module

public import proofs.«01_k».proof.Proof.IBody
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Stretches
public import Idealize.ShloMosaic.Lib.WordCmp
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the kernel. -/
abbrev allOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- The buffers' contents when the kernel is entered. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

set_option maxHeartbeats 1600000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The tables as the kernel finds them. -/
def tbl : pre0.Contents (Elt F) := fun j => V m (0 : Dev nD) (pre0.ref j)
theorem V_pre (c : Dev nD) (j : Fin 5) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves the region hands the body, one by one. -/
theorem PhiT0_eq (c : Dev nD) : (Pipeline.ΦT pre0 (tbl m) c : sProp 𝕄)
    = iprop(tbPt c tb1 (tbl m 0) ∗ tbPt c tb2 (tbl m 1) ∗ tbPt c tb3 (tbl m 2) ∗ tbPt c tb4 (tbl m 3) ∗ tbPt c tb5 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The tables' words -/

def ix71 (t : ℕ) (h : t < 71) : S71.Idx := fun a => match a with | ⟨0, _⟩ => ⟨t, h⟩

/-- The word of table `k` for point `t`. -/
def tw (pf : pre0.Contents (Elt F)) (k : Fin 5) (t : ℕ) (h : t < 71) : BitVec 32 :=
  match k with
  | ⟨0, _⟩ => (pf 0 : Vec F S71 .i32) (ix71 t h)
  | ⟨1, _⟩ => (pf 1 : Vec F S71 .i32) (ix71 t h)
  | ⟨2, _⟩ => (pf 2 : Vec F S71 .i32) (ix71 t h)
  | ⟨3, _⟩ => (pf 3 : Vec F S71 .i32) (ix71 t h)
  | ⟨4, _⟩ => (pf 4 : Vec F S71 .i32) (ix71 t h)

theorem off1_eq (i : grid0.Coords) : k0_off1 i = ![(i 0).val] := by
  revert i; decide
theorem coords0 (t : Fin grid0.N) : ((grid0.coords t) 0).val = t.val := by
  revert t; decide

end Cert.KernelIdeal.Own
-- ==== Proof.IBodyM.lean ====
module

public import proofs.«01_k».proof.Proof.IBody
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Stretches
public import Idealize.ShloMosaic.Lib.WordCmp
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The later points compute codes and scales by the same operations as the first. -/
theorem pay21_eq (x : Vec F S512x2816 .bf16) : k0_pay21 x = k0_pay5 x := rfl
theorem pay22_eq (x : Vec F S512x2816 .bf16) : k0_pay22 x = k0_pay6 x := rfl
theorem pay23_eq (x : FVec F S512x2816 .f32) : k0_pay23 x = k0_pay7 x := rfl
theorem pay24_eq (x : IVec S512x1 32) : k0_pay24 (F := F) x = k0_pay8 x := rfl

set_option pp.maxSteps 40 in
set_option maxHeartbeats 1000000 in
/-- At a tile's later points only the rows of the point's expert are written. -/
theorem body_mask (c : Dev nD) (E : Set ℕ) (i : grid0.Coords)
    (arg6 : Memref sig .tc .vmem S512x2816 .bf16) (harg6 : arg6.IsWhole)
    (arg7 : Memref sig .tc .vmem S1x2816x2816 .fp8e4m3) (harg7 : arg7.IsWhole)
    (arg8 : Memref sig .tc .vmem S1x1x2816 .f32) (harg8 : arg8.IsWhole)
    (arg9 : Memref sig .tc .vmem S512x2816 .bf16) (harg9 : arg9.IsWhole)
    (x : Vec F S512x2816 .bf16) (w : Vec F S1x2816x2816 .fp8e4m3) (ws : Vec F S1x1x2816 .f32) (prev : Vec F S512x2816 .bf16)
    (f3 : TbBuf (F := F) c tb3) (f4 : TbBuf (F := F) c tb4) (f5 : TbBuf (F := F) c tb5)
    (h1 : ¬ k0_cond1 (wd c i tb3 f3) = 1#1) (h2 : k0_cond2 (wd c i tb4 f4) (wd c i tb5 f5) (wd c i tb3 f3) = 1#1)
    (K : PUnit → sProp 𝕄) :
    iprop(owns (c : Thread nD τ) arg6 fullShare x ∗ owns (c : Thread nD τ) arg7 fullShare w ∗ owns (c : Thread nD τ) arg8 fullShare ws
        ∗ owns (c : Thread nD τ) arg9 fullShare prev
        ∗ (∃ d, owns (c : Thread nD τ) scr fullShare d)
        ∗ tbPt c tb3 f3 ∗ tbPt c tb4 f4 ∗ tbPt c tb5 f5
        ∗ (iprop(owns (c : Thread nD τ) arg6 fullShare x ∗ owns (c : Thread nD τ) arg7 fullShare w ∗ owns (c : Thread nD τ) arg8 fullShare ws
            ∗ owns (c : Thread nD τ) arg9 fullShare (outOf (maskPc (wd c i tb4 f4) (wd c i tb5 f5) x w ws prev))
            ∗ (∃ d, owns (c : Thread nD τ) scr fullShare d)
            ∗ tbPt c tb3 f3 ∗ tbPt c tb4 f4 ∗ tbPt c tb5 f5) -∗ K ⟨⟩))
      ⊢ wp frame (wpE (defs₀ (F := F)) Variants.none c none) E
          (cc0_grouped_fp8_matmul i tb1 (Memref.isWhole_whole _) tb2 (Memref.isWhole_whole _) tb3 (Memref.isWhole_whole _)
            tb4 (Memref.isWhole_whole _) tb5 (Memref.isWhole_whole _) arg6 harg6 arg7 harg7 arg8 harg8 arg9 harg9 scr (Memref.isWhole_whole _)) K := by
  simp only [cc0_grouped_fp8_matmul_eq_skeleton]; unfold cc0_grouped_fp8_matmul_skel
  unfold owns
  iintro ⟨⟨%g6, %hg6, H6⟩, ⟨%g7, %hg7, H7⟩, ⟨%g8, %hg8, H8⟩, ⟨%g9, %hg9, H9⟩, ⟨%d10, %g10, -, H10⟩, T3, T4, T5, Hk⟩
  subst hg6 hg7 hg8 hg9
  sl_exec
  sl_step
  iapply Hk
  isplitl [H6]
  · iexists g6; isplitr; · ipureintro; rfl
    iexact H6
  isplitl [H7]
  · iexists g7; isplitr; · ipureintro; rfl
    iexact H7
  isplitl [H8]
  · iexists g8; isplitr; · ipureintro; rfl
    iexact H8
  isplitl [H9]
  · iexists _; isplitr
    swap; · iexact H9
    ipureintro
    refine Eq.trans (congrArg (fun L => View.read (Elt F) arg9.view (arg9.view.writes (Elt F) g9 L)) ?_) (read_cols arg9.view g9 _)
    sl_open_run
    simp only [View.readCov_cons_toLoadRect]
    have hx : View.readAt (Elt F) arg6.view (Rect.unit (s := S512x2816) ![0, 0] ![512, 2816] inb_S512x2816_S512x2816_0_0).toLoadRect g6
        = View.read (Elt F) arg6.view g6 := View.readAt_full _ _ _
    rw [hx]
    simp only [pay21_eq, pay22_eq, pay23_eq, pay24_eq]
    refine cons11 _ ?_ ?_ ?_ ?_ ?_ ?_ ?_ ?_ ?_ ?_ ?_
    all_goals
      unfold maskPc newPc codes rsc
      generalize k0_pay7 (k0_pay6 (View.read (Elt F) arg6.view g6)) = q
      generalize k0_pay5 (View.read (Elt F) arg6.view g6) = a
      with_unfolding_all rfl
  isplitl [H10]
  · iexists _; iexists _; isplitr
    swap; · iexact H10
    ipureintro; rfl
  isplitl [T3]; · iexact T3
  isplitl [T4]; · iexact T4
  iexact T5

end Cert.KernelIdeal.Own
-- ==== Proof.IWords.lean ====
module

public import proofs.«01_k».proof.Proof.IHost
public import proofs.«01_k».proof.Proof.IBodyM
public import Idealize.ShloMosaic.Lib.Pipeline.TableIdle
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Stretches
public import Idealize.ShloMosaic.Lib.WordCmp
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What is known of the tables when the groups fill the rows. -/
structure TabFacts (pf : pre0.Contents (Elt F)) : Prop where
  tile_lt : ∀ t h, (tw pf 0 t h).toNat < 64
  ex_lt : ∀ t h, (tw pf 1 t h).toNat < 8
  first0 : k0_cond1 (tw pf 2 0 (by decide)) = 1#1
  step : ∀ t (h : t + 1 < 71), tw pf 0 (t + 1) h ≠ tw pf 0 t (by omega) → k0_cond1 (tw pf 2 (t + 1) h) = 1#1

theorem lt71 (i : grid0.Coords) : (i 0).val < 71 := (i 0).isLt

theorem at_eq {S : Type} (f : S71.Idx → S) (i : grid0.Coords) (inb) (h1 : 0 < (Rect.unit (s := S71) (k0_off1 i) S1.size inb).shape.numel) :
    f ((Rect.unit (s := S71) (k0_off1 i) S1.size inb).emb (Shape.Idx.first h1)) = f (ix71 (i 0).val (lt71 i)) := by
  congr 1
  funext a
  match a with
  | ⟨0, _⟩ =>
    refine Fin.ext ?_
    show k0_off1 i 0 + 1 * 0 = (i 0).val
    rw [off1_eq]; rfl

theorem tr0_eq (pf : pre0.Contents (Elt F)) (i : grid0.Coords) :
    cc0_transform_0 k0_off1_inb numel1_S1 pf i = ![(tw pf 0 (i 0).val (lt71 i)).toNat, 0] := by
  unfold cc0_transform_0
  exact congrArg (fun w : BitVec 32 => ![w.toNat, 0]) (at_eq (pf 0 : Vec F S71 .i32) i _ _)
theorem tr3_eq (pf : pre0.Contents (Elt F)) (i : grid0.Coords) :
    cc0_transform_3 k0_off1_inb numel1_S1 pf i = ![(tw pf 0 (i 0).val (lt71 i)).toNat, 0] := by
  unfold cc0_transform_3
  exact congrArg (fun w : BitVec 32 => ![w.toNat, 0]) (at_eq (pf 0 : Vec F S71 .i32) i _ _)
theorem tr1_eq (pf : pre0.Contents (Elt F)) (i : grid0.Coords) :
    cc0_transform_1 k0_off1_inb numel1_S1 pf i = ![(tw pf 1 (i 0).val (lt71 i)).toNat, 0, 0] := by
  unfold cc0_transform_1
  exact congrArg (fun w : BitVec 32 => ![w.toNat, 0, 0]) (at_eq (pf 1 : Vec F S71 .i32) i _ _)
theorem tr2_eq (pf : pre0.Contents (Elt F)) (i : grid0.Coords) :
    cc0_transform_2 k0_off1_inb numel1_S1 pf i = ![(tw pf 1 (i 0).val (lt71 i)).toNat, 0, 0] := by
  unfold cc0_transform_2
  exact congrArg (fun w : BitVec 32 => ![w.toNat, 0, 0]) (at_eq (pf 1 : Vec F S71 .i32) i _ _)

theorem ok_tile (T : ℕ) (hT : T < 64) : ∃ h : (∀ a, ((![T, 0] : Fin 2 → ℕ) a + 1) * S512x2816.size a ≤ S32768x2816.size a),
    EltTy.bits .bf16 = 32 ∨ (Rect.block (s := S32768x2816) S512x2816.size ![T, 0] h).WholeWords (EltTy.packing .bf16) := by
  refine ⟨fun a => ?_, .inr (.inl (.inr ⟨by decide, rfl, .inl ⟨?_, ?_⟩⟩))⟩
  · match a with
    | ⟨0, _⟩ => show (T + 1) * 512 ≤ 32768; omega
    | ⟨1, _⟩ => show (0 + 1) * 2816 ≤ 2816; omega
  · show 2 ∣ T * 512
    omega
  · show 2 ∣ 512
    decide

theorem ok_ex (T : ℕ) (hT : T < 8) : ∃ h : (∀ a, ((![T, 0, 0] : Fin 3 → ℕ) a + 1) * S1x2816x2816.size a ≤ S8x2816x2816.size a),
    EltTy.bits .fp8e4m3 = 32 ∨ (Rect.block (s := S8x2816x2816) S1x2816x2816.size ![T, 0, 0] h).WholeWords (EltTy.packing .fp8e4m3) := by
  refine ⟨fun a => ?_, .inr (.inr ⟨by decide, rfl, ?_, rfl⟩)⟩
  · match a with
    | ⟨0, _⟩ => show (T + 1) * 1 ≤ 8; omega
    | ⟨1, _⟩ => show (0 + 1) * 2816 ≤ 2816; omega
    | ⟨2, _⟩ => show (0 + 1) * 2816 ≤ 2816; omega
  · show 0 * 2816 = 0
    omega

theorem ok_sc (T : ℕ) (hT : T < 8) : ∃ h : (∀ a, ((![T, 0, 0] : Fin 3 → ℕ) a + 1) * S1x1x2816.size a ≤ S8x1x2816.size a),
    EltTy.bits .f32 = 32 ∨ (Rect.block (s := S8x1x2816) S1x1x2816.size ![T, 0, 0] h).WholeWords (EltTy.packing .f32) := by
  refine ⟨fun a => ?_, .inl rfl⟩
  match a with
  | ⟨0, _⟩ => show (T + 1) * 1 ≤ 8; omega
  | ⟨1, _⟩ => show (0 + 1) * 1 ≤ 1; omega
  | ⟨2, _⟩ => show (0 + 1) * 2816 ≤ 2816; omega

theorem ok_of_facts (pf : pre0.Contents (Elt F)) (h : TabFacts pf) : ok0 pf := by
  refine ⟨fun i => ?_, fun i => ?_, fun i => ?_, fun i => ?_⟩
  · rw [tr0_eq]; exact ok_tile _ (h.tile_lt _ _)
  · rw [tr1_eq]; exact ok_ex _ (h.ex_lt _ _)
  · rw [tr2_eq]; exact ok_sc _ (h.ex_lt _ _)
  · rw [tr3_eq]; exact ok_tile _ (h.tile_lt _ _)

theorem wd_eq (c : Dev nD) (i : grid0.Coords) (pf : pre0.Contents (Elt F)) :
    wd c i tb3 (pf 2) = tw pf 2 (i 0).val (lt71 i) ∧ wd c i tb4 (pf 3) = tw pf 3 (i 0).val (lt71 i) ∧ wd c i tb5 (pf 4) = tw pf 4 (i 0).val (lt71 i) :=
  ⟨at_eq (pf 2 : Vec F S71 .i32) i _ _, at_eq (pf 3 : Vec F S71 .i32) i _ _, at_eq (pf 4 : Vec F S71 .i32) i _ _⟩

theorem atD_eq (f : S71.Idx → BitVec 32) (i : grid0.Coords) :
    (if h : ∀ a, k0_off1 i a + 1 ≤ S71.size a then f (fun a => ⟨k0_off1 i a, h a⟩) else default) = f (ix71 (i 0).val (lt71 i)) := by
  have e := off1_eq i
  rw [dif_pos (fun a => by match a with | ⟨0, _⟩ => (have := lt71 i; rw [e]; exact this))]
  congr 1
  funext a
  match a with
  | ⟨0, _⟩ =>
    refine Fin.ext ?_
    show k0_off1 i 0 = (i 0).val
    rw [e]; rfl

theorem idle_eq (pf : pre0.Contents (Elt F)) (i : grid0.Coords) :
    idle0 pf 3 i = (!(k0_cond1 (tw pf 2 (i 0).val (lt71 i)) == 1#1)
      && !(k0_cond2 (tw pf 3 (i 0).val (lt71 i)) (tw pf 4 (i 0).val (lt71 i)) (tw pf 2 (i 0).val (lt71 i)) == 1#1)) := by
  have e2 : pf.atD 2 (k0_off1 i) = tw pf 2 (i 0).val (lt71 i) := atD_eq (pf 2 : Vec F S71 .i32) i
  have e3 : pf.atD 3 (k0_off1 i) = tw pf 3 (i 0).val (lt71 i) := atD_eq (pf 3 : Vec F S71 .i32) i
  have e4 : pf.atD 4 (k0_off1 i) = tw pf 4 (i 0).val (lt71 i) := atD_eq (pf 4 : Vec F S71 .i32) i
  have e2' : pf.atD 2 (k0_off2 i) = tw pf 2 (i 0).val (lt71 i) := e2
  unfold idle0
  simp only [e2, e3, e4, e2']

theorem cond1_iff (w : BitVec 32) : k0_cond1 w = 1#1 ↔ w = 1#32 := by
  unfold k0_cond1
  simp only [Scalar.cmpi, Scalar.extui, IntOp.cmpi]
  by_cases h : w = 1#32
  · subst h; decide
  · have : (w == 1#32) = false := by simpa using h
    simp [h, this]

theorem cond2_iff (a b w : BitVec 32) : k0_cond2 a b w = 1#1 ↔ w = 0#32 ∧ a.slt b = true := by
  unfold k0_cond2
  simp only [Scalar.cmpi, Scalar.extui, Scalar.andi, IntOp.cmpi, IntOp.andi]
  by_cases h : w = 0#32
  · subst h
    cases hab : a.slt b <;> simp [hab]
  · have : (w == 0#32) = false := by simpa using h
    simp [h, this]

/-- The two branches exclude one another. -/
theorem cond_excl (a b w : BitVec 32) (h : k0_cond1 w = 1#1) : ¬ k0_cond2 a b w = 1#1 := by
  rw [cond1_iff] at h
  rw [cond2_iff]
  rintro ⟨h0, -⟩
  rw [h] at h0
  exact absurd h0 (by decide)

end Cert.KernelIdeal.Own
-- ==== Proof.IRun.lean ====
module

public import proofs.«01_k».proof.Proof.IWords
public import Idealize.ShloMosaic.Lib.Pipeline.TableIdle
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Stretches
public import Idealize.ShloMosaic.Lib.WordCmp
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (hO : Ok m)

/-- Window `w`'s block at point `t`, as the kernel finds it. -/
def iblk (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

theorem before0_of {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The grid's point `n`. -/
def pt (n : ℕ) (h : n < 71) : Fin (cfgM m hO).N := ⟨n, by show n < grid0.N; rw [N_0]; exact h⟩
theorem ptlt (t : Fin (cfgM m hO).N) : t.val < 71 := by
  have h : t.val < grid0.N := t.isLt
  rwa [N_0] at h

/-- What point `n` leaves in the output block, given what it found there. -/
def stepAt (c : Dev nD) (n : ℕ) (h : n < 71) (prev : Vec F S512x2816 .bf16) : Vec F S512x2816 .bf16 :=
  if k0_cond1 (tw (tbl m) 2 n h) = 1#1 then
    outOf (firstPc (iblk m hO c 0 (pt m hO n h)) (iblk m hO c 1 (pt m hO n h)) (iblk m hO c 2 (pt m hO n h)))
  else if k0_cond2 (tw (tbl m) 3 n h) (tw (tbl m) 4 n h) (tw (tbl m) 2 n h) = 1#1 then
    outOf (maskPc (tw (tbl m) 3 n h) (tw (tbl m) 4 n h) (iblk m hO c 0 (pt m hO n h)) (iblk m hO c 1 (pt m hO n h)) (iblk m hO c 2 (pt m hO n h)) prev)
  else prev

/-- The output block after point `n`. -/
def aft (c : Dev nD) : (n : ℕ) → n < 71 → Vec F S512x2816 .bf16
  | 0, h => outOf (firstPc (iblk m hO c 0 (pt m hO 0 h)) (iblk m hO c 1 (pt m hO 0 h)) (iblk m hO c 2 (pt m hO 0 h)))
  | n + 1, h => stepAt m hO c (n + 1) h (aft c n (Nat.lt_of_succ_lt h))

def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => aft m hO c t.val (ptlt m hO t)
  Φ _ := iprop(Pipeline.ΦA spec0 c ∗ Pipeline.ΦT pre0 (tbl m) c)
  q _ := fullShare
  owed _ := 0

theorem A_eq (c : Dev nD) (w : Fin (cfgM m hO).W) : (dats m hO 0 c).A w = V m c (Pipeline.arrRef spec0 w) := by
  dsimp only [dats]
theorem after0 (c : Dev nD) (t : Fin (cfgM m hO).N) : (dats m hO 0 c).after 0 t = iblk m hO c 0 t := by dsimp only [dats]; rfl
theorem after1 (c : Dev nD) (t : Fin (cfgM m hO).N) : (dats m hO 0 c).after 1 t = iblk m hO c 1 t := by dsimp only [dats]; rfl
theorem after2 (c : Dev nD) (t : Fin (cfgM m hO).N) : (dats m hO 0 c).after 2 t = iblk m hO c 2 t := by dsimp only [dats]; rfl
theorem after3 (c : Dev nD) (t : Fin (cfgM m hO).N) : (dats m hO 0 c).after 3 t = aft m hO c t.val (ptlt m hO t) := by dsimp only [dats]; rfl
theorem before0 (c : Dev nD) (t : Fin (cfgM m hO).N) (d) : (dats m hO 0 c).before 0 t d = iblk m hO c 0 t :=
  before0_of m hO (dats m hO 0 c) (A_eq m hO c 0) (after0 m hO c) t d
theorem before1 (c : Dev nD) (t : Fin (cfgM m hO).N) (d) : (dats m hO 0 c).before 1 t d = iblk m hO c 1 t :=
  before1_of m hO (dats m hO 0 c) (A_eq m hO c 1) (after1 m hO c) t d
theorem before2 (c : Dev nD) (t : Fin (cfgM m hO).N) (d) : (dats m hO 0 c).before 2 t d = iblk m hO c 2 t :=
  before2_of m hO (dats m hO 0 c) (A_eq m hO c 2) (after2 m hO c) t d

variable (hT : TabFacts (tbl m))

abbrev C1 (n : ℕ) (h : n < 71) : Prop := k0_cond1 (tw (tbl m) 2 n h) = 1#1
abbrev C2 (n : ℕ) (h : n < 71) : Prop := k0_cond2 (tw (tbl m) 3 n h) (tw (tbl m) 4 n h) (tw (tbl m) 2 n h) = 1#1

theorem idle_cfg (a : (pcfg0 (F := F)).Adm) (i : grid0.Coords) : (cfg0 a).idle 3 i = idle0 a.1 3 i := rfl
theorem index_cfg (a : (pcfg0 (F := F)).Adm) (t : Fin grid0.N) :
    ((cfg0 a).win 3).index t = cc0_transform_3 k0_off1_inb numel1_S1 a.1 (grid0.coords t) := rfl
theorem tw_coords (pf : pre0.Contents (Elt F)) (k : Fin 5) (t : Fin grid0.N) (h : t.val < 71) :
    tw pf k ((grid0.coords t) 0).val (lt71 _) = tw pf k t.val h := by
  have e := coords0 t
  simp only [e]
theorem idle_cfg' (a : (pcfg0 (F := F)).Adm) (t : Fin grid0.N) (h : t.val < 71) : (cfg0 a).idle 3 (grid0.coords t) = true
    ↔ ¬ k0_cond1 (tw a.1 2 t.val h) = 1#1 ∧ ¬ k0_cond2 (tw a.1 3 t.val h) (tw a.1 4 t.val h) (tw a.1 2 t.val h) = 1#1 := by
  rw [idle_cfg, idle_eq, tw_coords _ 2 t h, tw_coords _ 3 t h, tw_coords _ 4 t h]
  simp only [Bool.and_eq_true, Bool.not_eq_true', beq_eq_false_iff_ne, ne_eq]
theorem index_cfg' (a : (pcfg0 (F := F)).Adm) (t : Fin grid0.N) (h : t.val < 71) :
    ((cfg0 a).win 3).index t = ![(tw a.1 0 t.val h).toNat, 0] := by
  rw [index_cfg, tr3_eq, tw_coords _ 0 t h]

theorem idle3 (t : Fin (cfgM m hO).N) : (cfgM m hO).idle 3 ((cfgM m hO).grid.coords t) = true
    ↔ ¬ C1 m t.val (ptlt m hO t) ∧ ¬ C2 m t.val (ptlt m hO t) := idle_cfg' (adm m hO) t _

theorem index3 (t : Fin (cfgM m hO).N) : ((cfgM m hO).win 3).index t = ![(tw (tbl m) 0 t.val (ptlt m hO t)).toNat, 0] :=
  index_cfg' (adm m hO) t _

include hT in
theorem fresh_c1 : ∀ (n : ℕ) (h : n < 71), (cfgM m hO).fresh 3 n = true → C1 m n h
  | 0, h, _ => hT.first0
  | n + 1, h, hf => by
    have hn : n < 71 := by omega
    have hN : n < (cfgM m hO).N := (pt m hO n hn).isLt
    rw [(cfgM m hO).fresh_succ 3 n hN, Bool.or_eq_true, Bool.and_eq_true] at hf
    rcases hf with hf | ⟨hi, hf⟩
    · refine hT.step n h fun he => ?_
      rw [Pipeline.Window.flush_eq_flushF] at hf
      unfold Pipeline.Window.flushF at hf
      rw [Bool.and_eq_true, Bool.or_eq_true] at hf
      rcases hf.2 with h2 | h2
      · have h3 : n + 1 = grid0.N := of_decide_eq_true h2
        rw [N_0] at h3; omega
      · obtain ⟨h3, a, h4⟩ := of_decide_eq_true h2
        apply h4
        have e1 := index3 m hO ⟨n + 1, h3⟩
        have e2 := index3 m hO ⟨n, hN⟩
        rw [e1, e2]
        show (![(tw (tbl m) 0 (n + 1) _).toNat, 0] : Fin 2 → ℕ) a = (![(tw (tbl m) 0 n _).toNat, 0] : Fin 2 → ℕ) a
        rw [he]
    · exact absurd (fresh_c1 n hn hf) ((idle3 m hO ⟨n, hN⟩).1 hi).1

theorem aft_carry (c : Dev nD) (n : ℕ) (h : n < 71) (h0 : n ≠ 0) (h1 : ¬ C1 m n h) (h2 : ¬ C2 m n h) :
    aft m hO c n h = aft m hO c (n - 1) (by omega) := by
  obtain ⟨k, rfl⟩ := Nat.exists_eq_succ_of_ne_zero h0
  show stepAt m hO c (k + 1) h _ = _
  unfold stepAt
  rw [if_neg h1, if_neg h2]
  rfl

include hT in
/-- What the body finds in the output's buffer. -/
theorem before3 (c : Dev nD) (t : Fin (cfgM m hO).N) (d) : (dats m hO 0 c).before 3 t d
    = if (cfgM m hO).fresh 3 t.val then d else (dats m hO 0 c).after 3 ⟨t.val - 1, by omega⟩ :=
  (dats m hO 0 c).before_out_traj 3 rfl (fun _ _ => rfl) (fun t ht hi _ => by
    rw [after3, after3]
    exact aft_carry m hO c t.val _ ht ((idle3 m hO t).1 hi).1 ((idle3 m hO t).1 hi).2) t.val t rfl d

include hT in
theorem aft_first (c : Dev nD) (n : ℕ) (h : n < 71) (h1 : C1 m n h) :
    aft m hO c n h = outOf (firstPc (iblk m hO c 0 (pt m hO n h)) (iblk m hO c 1 (pt m hO n h)) (iblk m hO c 2 (pt m hO n h))) := by
  cases n with
  | zero => rfl
  | succ k => show stepAt m hO c (k + 1) h _ = _; unfold stepAt; rw [if_pos h1]

theorem aft_mask (c : Dev nD) (n : ℕ) (h : n < 71) (h0 : n ≠ 0) (h1 : ¬ C1 m n h) (h2 : C2 m n h) :
    aft m hO c n h = outOf (maskPc (tw (tbl m) 3 n h) (tw (tbl m) 4 n h) (iblk m hO c 0 (pt m hO n h)) (iblk m hO c 1 (pt m hO n h))
      (iblk m hO c 2 (pt m hO n h)) (aft m hO c (n - 1) (by omega))) := by
  obtain ⟨k, rfl⟩ := Nat.exists_eq_succ_of_ne_zero h0
  show stepAt m hO c (k + 1) h _ = _
  unfold stepAt
  rw [if_neg h1, if_pos h2]
  rfl

end Cert.KernelIdeal.Own
-- ==== Proof.IRunL.lean ====
module

public import proofs.«01_k».proof.Proof.IRun
public import Idealize.ShloMosaic.Lib.Pipeline.TableIdle
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Stretches
public import Idealize.ShloMosaic.Lib.WordCmp
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (hO : Ok m) (hT : TabFacts (tbl m))

abbrev st0 (t : Fin (cfgM m hO).N) := ((cfgM m hO).win 0).stage ((cfgM m hO).slots t 0)
abbrev st1 (t : Fin (cfgM m hO).N) := ((cfgM m hO).win 1).stage ((cfgM m hO).slots t 1)
abbrev st2 (t : Fin (cfgM m hO).N) := ((cfgM m hO).win 2).stage ((cfgM m hO).slots t 2)
abbrev st3 (t : Fin (cfgM m hO).N) := ((cfgM m hO).win 3).stage ((cfgM m hO).slots t 3)

/-- The body at point `t`. -/
def bodyAt (t : Fin (cfgM m hO).N) : Prog (TpuEff nD τ sig (Elt F) Λ₀ .tc) PUnit :=
  cc0_grouped_fp8_matmul (grid0.coords t) tb1 (Memref.isWhole_whole _) tb2 (Memref.isWhole_whole _) tb3 (Memref.isWhole_whole _)
    tb4 (Memref.isWhole_whole _) tb5 (Memref.isWhole_whole _) (st0 m hO t) (hstage0_0 (((cfgM m hO).slots t 0).cast nbuf0_0))
    (st1 m hO t) (hstage0_1 (((cfgM m hO).slots t 1).cast nbuf0_1)) (st2 m hO t) (hstage0_2 (((cfgM m hO).slots t 2).cast nbuf0_2))
    (st3 m hO t) (hstage0_3 (((cfgM m hO).slots t 3).cast nbuf0_3)) scr (Memref.isWhole_whole _)

/-- The output's buffer as the body must leave it. -/
def post3 (c : Dev nD) (t : Fin (cfgM m hO).N) : sProp 𝕄 :=
  match (cfgM m hO).idle 3 ((cfgM m hO).grid.coords t) with
  | true =>
    match ((cfgM m hO).win 3).flush t with
    | false => iprop(∃ d, owns (c : Thread nD τ) (st3 m hO t) fullShare ((dats m hO 0 c).before 3 t d))
    | true => owns (c : Thread nD τ) (st3 m hO t) fullShare ((dats m hO 0 c).after 3 t)
  | false => owns (c : Thread nD τ) (st3 m hO t) fullShare ((dats m hO 0 c).after 3 t)

def bodyPre (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d)))

def bodyPost (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ post3 m hO c t)

theorem Phi_eq (c : Dev nD) (t : Fin ((cfgM m hO).N + 1)) : (dats m hO 0 c).Φ t
    = iprop((((∃ f : Buf (Elt F) ((c : Thread nD τ).loc cc0_scratch0), ((c : Thread nD τ).loc cc0_scratch0) ↦{fullShare} f)) ∗ (∃ r, prngReg c r))
      ∗ (tbPt c tb1 (tbl m 0) ∗ tbPt c tb2 (tbl m 1) ∗ tbPt c tb3 (tbl m 2) ∗ tbPt c tb4 (tbl m 3) ∗ tbPt c tb5 (tbl m 4))) := by
  show iprop(Pipeline.ΦA spec0 c ∗ Pipeline.ΦT pre0 (tbl m) c) = _
  rw [PhiT0_eq]
  unfold Pipeline.ΦA
  rw [scopedRest0_eq]

theorem wds (pf : pre0.Contents (Elt F)) (c : Dev nD) (t : Fin grid0.N) (h : t.val < 71) :
    wd c (grid0.coords t) tb3 (pf 2) = tw pf 2 t.val h ∧ wd c (grid0.coords t) tb4 (pf 3) = tw pf 3 t.val h
      ∧ wd c (grid0.coords t) tb5 (pf 4) = tw pf 4 t.val h := by
  have := wd_eq c (grid0.coords t) pf
  rwa [tw_coords _ 2 t h, tw_coords _ 3 t h, tw_coords _ 4 t h] at this

theorem scr_in (c : Dev nD) : (iprop(∃ f : Buf (Elt F) ((c : Thread nD τ).loc cc0_scratch0), ((c : Thread nD τ).loc cc0_scratch0) ↦{fullShare} f) : sProp 𝕄)
    ⊢ iprop(∃ d, owns (c : Thread nD τ) scr fullShare d) := by
  iintro ⟨%g, Hs⟩
  iexists g
  iapply (Entails.of_eq (owns_whole (c : Thread nD τ) cc0_scratch0 fullShare g).symm)
  iexact Hs
theorem scr_out (c : Dev nD) : (iprop(∃ d, owns (c : Thread nD τ) scr fullShare d) : sProp 𝕄)
    ⊢ iprop(∃ f : Buf (Elt F) ((c : Thread nD τ).loc cc0_scratch0), ((c : Thread nD τ).loc cc0_scratch0) ↦{fullShare} f) := by
  iintro ⟨%g, Hs⟩
  iexists g
  iapply (Entails.of_eq (owns_whole (c : Thread nD τ) cc0_scratch0 fullShare g))
  iexact Hs

/-- The parts of the state that the body needs, handed to it and taken back. -/
theorem shuffle {M : Type} [URA M] {α β0 β1 β2 β3 : Type} (S S' R T1 T2 T3 T4 T5 O A0 A1 A2 : sProp M) (A3 : α → sProp M) (P3 : sProp M)
    (bef : β0 → α) (out : α → α) {W : (PUnit → sProp M) → sProp M} (hin : S ⊢ S') (hout : S' ⊢ S)
    (hb : ∀ prev (K : PUnit → sProp M), iprop(A0 ∗ A1 ∗ A2 ∗ A3 prev ∗ S' ∗ T3 ∗ T4 ∗ T5
        ∗ (iprop(A0 ∗ A1 ∗ A2 ∗ A3 (out prev) ∗ S' ∗ T3 ∗ T4 ∗ T5) -∗ K ⟨⟩)) ⊢ W K)
    (hpost : ∀ d, A3 (out (bef d)) ⊢ P3) :
    iprop(((S ∗ R) ∗ (T1 ∗ T2 ∗ T3 ∗ T4 ∗ T5)) ∗ O ∗ (∃ _d : β1, A0) ∗ (∃ _d : β2, A1) ∗ (∃ _d : β3, A2) ∗ (∃ d : β0, A3 (bef d)))
      ⊢ W (fun _ => iprop(((S ∗ R) ∗ (T1 ∗ T2 ∗ T3 ∗ T4 ∗ T5)) ∗ O ∗ A0 ∗ A1 ∗ A2 ∗ P3)) := by
  iintro ⟨⟨⟨Hs, Hr⟩, T1, T2, T3, T4, T5⟩, Ho, ⟨%d0, H0⟩, ⟨%d1, H1⟩, ⟨%d2, H2⟩, ⟨%d3, H3⟩⟩
  iapply (hb (bef d3) _)
  isplitl [H0]; · iexact H0
  isplitl [H1]; · iexact H1
  isplitl [H2]; · iexact H2
  isplitl [H3]; · iexact H3
  isplitl [Hs]; · iapply hin; iexact Hs
  isplitl [T3]; · iexact T3
  isplitl [T4]; · iexact T4
  isplitl [T5]; · iexact T5
  iintro ⟨H0, H1, H2, H3, Hs, T3, T4, T5⟩
  isplitl [Hs Hr T1 T2 T3 T4 T5]
  · isplitl [Hs Hr]
    · isplitl [Hs]; · iapply hout; iexact Hs
      iexact Hr
    isplitl [T1]; · iexact T1
    isplitl [T2]; · iexact T2
    isplitl [T3]; · iexact T3
    isplitl [T4]; · iexact T4
    iexact T5
  isplitl [Ho]; · iexact Ho
  isplitl [H0]; · iexact H0
  isplitl [H1]; · iexact H1
  isplitl [H2]; · iexact H2
  iapply (hpost d3)
  iexact H3

/-- The body's triple from what each case proves of it. -/
theorem sound_of (c : Dev nD) (t : Fin (cfgM m hO).N) (out : Vec F S512x2816 .bf16 → Vec F S512x2816 .bf16)
    (hb : ∀ (prev : Vec F S512x2816 .bf16) (K : PUnit → sProp 𝕄),
      iprop(owns (c : Thread nD τ) (st0 m hO t) fullShare (iblk m hO c 0 t) ∗ owns (c : Thread nD τ) (st1 m hO t) fullShare (iblk m hO c 1 t)
        ∗ owns (c : Thread nD τ) (st2 m hO t) fullShare (iblk m hO c 2 t)
        ∗ owns (c : Thread nD τ) (st3 m hO t) fullShare prev
        ∗ (∃ d, owns (c : Thread nD τ) scr fullShare d)
        ∗ tbPt c tb3 (tbl m 2) ∗ tbPt c tb4 (tbl m 3) ∗ tbPt c tb5 (tbl m 4)
        ∗ (iprop(owns (c : Thread nD τ) (st0 m hO t) fullShare (iblk m hO c 0 t) ∗ owns (c : Thread nD τ) (st1 m hO t) fullShare (iblk m hO c 1 t)
            ∗ owns (c : Thread nD τ) (st2 m hO t) fullShare (iblk m hO c 2 t)
            ∗ owns (c : Thread nD τ) (st3 m hO t) fullShare (out prev)
            ∗ (∃ d, owns (c : Thread nD τ) scr fullShare d)
            ∗ tbPt c tb3 (tbl m 2) ∗ tbPt c tb4 (tbl m 3) ∗ tbPt c tb5 (tbl m 4)) -∗ K ⟨⟩))
      ⊢ wp frame (wpE (defs₀ (F := F)) Variants.none c none) Set.univ (bodyAt m hO t) K)
    (hpost : ∀ d, owns (c : Thread nD τ) (st3 m hO t) fullShare (out ((dats m hO 0 c).before 3 t d)) ⊢ post3 m hO c t) :
    bodyPre m hO c t ⊢ wp frame (wpE (defs₀ (F := F)) Variants.none c none) Set.univ (bodyAt m hO t) (fun _ => bodyPost m hO c t) := by
  unfold bodyPre bodyPost
  simp only [before0, before1, before2]
  rw [show (dats m hO 0 c).owesAt () t.succ = (dats m hO 0 c).owesAt () t.castSucc from rfl,
    after0, after1, after2, Phi_eq, Phi_eq]
  exact shuffle _ _ _ _ _ _ _ _ _ _ _ _ _ _ _ _ (scr_in c) (scr_out c) hb hpost

theorem defs₀_row (t : Fin (cfgM m hO).N) :
    defs₀ (F := F) .tc (cfgM m hO).body ((cfgM m hO).bodyArgs t ((cfgM m hO).slots t)) = bodyAt m hO t := by
  unfold defs₀; rw [Defs.onTc_tc]; rfl

include hT in
theorem sound_body (c : Dev nD) (t : Fin (cfgM m hO).N) :
    bodyPre m hO c t ⊢ wp frame (wpE (defs₀ (F := F)) Variants.none c none) Set.univ (bodyAt m hO t) (fun _ => bodyPost m hO c t) := by
  have h := ptlt m hO t
  obtain ⟨w2, w3, w4⟩ := wds (tbl m) c t h
  by_cases h1 : C1 m t.val h
  · have hi : (cfgM m hO).idle 3 ((cfgM m hO).grid.coords t) = false := by
      rw [← Bool.not_eq_true, idle3]; exact fun h => h.1 h1
    refine sound_of m hO c t (fun _ => outOf (firstPc (iblk m hO c 0 t) (iblk m hO c 1 t) (iblk m hO c 2 t))) (fun prev K => ?_) (fun d => ?_)
    · exact body_first c Set.univ (grid0.coords t) _ _ _ _ _ _ _ _ _ _ _ prev (tbl m 2) (tbl m 3) (tbl m 4)
        (by rw [w2]; exact h1) (by rw [w2, w3, w4]; exact cond_excl _ _ _ h1) K
    · unfold post3; rw [hi]; rw [after3, aft_first m hO hT c t.val h h1]; exact .rfl
  · have hf : (cfgM m hO).fresh 3 t.val = false := by
      rw [← Bool.not_eq_true]; exact fun hf => h1 (fresh_c1 m hO hT t.val h hf)
    have h0 : t.val ≠ 0 := fun h0 => by
      rw [h0] at hf; exact Bool.false_ne_true (hf.symm.trans ((cfgM m hO).fresh_zero 3))
    have hbf : ∀ d, (dats m hO 0 c).before 3 t d = aft m hO c (t.val - 1) (by omega) := fun d => by
      rw [before3 m hO hT, hf, after3]; rfl
    by_cases h2 : C2 m t.val h
    · have hi : (cfgM m hO).idle 3 ((cfgM m hO).grid.coords t) = false := by
        rw [← Bool.not_eq_true, idle3]; exact fun h => h.2 h2
      refine sound_of m hO c t (fun prev => outOf (maskPc (tw (tbl m) 3 t.val h) (tw (tbl m) 4 t.val h) (iblk m hO c 0 t) (iblk m hO c 1 t) (iblk m hO c 2 t) prev)) (fun prev K => ?_) (fun d => ?_)
      · have := body_mask c Set.univ (grid0.coords t) (st0 m hO t) (hstage0_0 (((cfgM m hO).slots t 0).cast nbuf0_0))
          (st1 m hO t) (hstage0_1 (((cfgM m hO).slots t 1).cast nbuf0_1)) (st2 m hO t) (hstage0_2 (((cfgM m hO).slots t 2).cast nbuf0_2))
          (st3 m hO t) (hstage0_3 (((cfgM m hO).slots t 3).cast nbuf0_3))
          (iblk m hO c 0 t) (iblk m hO c 1 t) (iblk m hO c 2 t) prev (tbl m 2) (tbl m 3) (tbl m 4)
          (by rw [w2]; exact h1) (by rw [w2, w3, w4]; exact h2) K
        rw [w3, w4] at this
        exact this
      · unfold post3; rw [hi]; rw [hbf, after3, aft_mask m hO c t.val h h0 h1 h2]; exact .rfl
    · have hi : (cfgM m hO).idle 3 ((cfgM m hO).grid.coords t) = true := by
        rw [idle3]; exact ⟨h1, h2⟩
      refine sound_of m hO c t (fun prev => prev) (fun prev K => ?_) (fun d => ?_)
      · exact body_idle c Set.univ (grid0.coords t) _ _ _ _ _ _ _ _ _ _ _ prev (tbl m 2) (tbl m 3) (tbl m 4)
          (by rw [w2]; exact h1) (by rw [w2, w3, w4]; exact h2) K
      · unfold post3; rw [hi]
        cases ((cfgM m hO).win 3).flush t with
        | false => iintro H; iexists d; iexact H
        | true => rw [hbf, after3, aft_carry m hO c t.val h h0 h1 h2]

include hT in
theorem body_obligation (c : Dev nD) : BodyObligation (dats (F := F) m hO 0 c) (defs₀ (F := F)) Variants.none () Set.univ := fun t => by
  rw [bigSep_W0, bigSep_W0, defs₀_row]
  exact triple_restated (sound_body m hO hT c t) rfl .rfl fun _ => .rfl

set_option backward.isDefEq.respectTransparency.types false in
set_option maxHeartbeats 800000 in
include hT in
theorem run_post : θ_run defs (onTc (τ := τ) (main (F := F))) (s₀ m ρ)
    (fun r => (Pipeline.FramePost (Pipeline.pin pcfgs (fun _ => adm m hO)) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO hT c).loose) (hshare := fun c => (dats m hO 0 c).share_full fun _ => rfl)
    (howed := fun _ _ => rfl) (V := V m) (hmain := hmain m Variants.none) (hA := A_eq m hO) (hpf := V_pre m) (hΦ := fun _ _ => rfl)

theorem rest1 : main_arg1 ∈ Pipeline.restRefs sig spec0 := Pipeline.mem_restRefs_of main_arg1 (by decide) (by decide)
theorem rest3 : main_arg3 ∈ Pipeline.restRefs sig spec0 := Pipeline.mem_restRefs_of main_arg3 (by decide) (by decide)

include hO hT in
/-- With tables of the right kind every run ends with its arguments unchanged and its counters at zero. -/
theorem frame_of_tab : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats m hO 0 c).arrAt_in 0 rfl _).trans ((A_eq m hO c 0).trans (V_main_arg0 m c))),
      ((h.1 c).2 main_arg1 (rest1)).trans (V_main_arg1 m c),
      ((h.1 c).1 1).trans (((dats m hO 0 c).arrAt_in 1 rfl _).trans ((A_eq m hO c 1).trans (V_main_arg2 m c))),
      ((h.1 c).2 main_arg3 (rest3)).trans (V_main_arg3 m c)⟩, h.2⟩) (run_post m ρ hO hT)

end Cert.KernelIdeal.Own
-- ==== Proof.IReads.lean ====
module

public import proofs.«01_k».proof.Proof.IHost
public import Idealize.ShloMosaic.Lib.StableHlo.RunRead
public import Idealize.ShloMosaic.Lib.Routing.Words
public import Idealize.ShloMosaic.Lib.Routing.OpsSearch
public import Idealize.ShloMosaic.Lib.Routing.OpsPair
public import Idealize.ShloMosaic.Lib.Pipeline.TableIdle
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Stretches
public import Idealize.ShloMosaic.Lib.WordCmp
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Host operations run one list after the other. -/
theorem after_app {τ : Topo} {sig : RefSig} {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => exact ih _

/-- The buffers before any host operation. -/
def W0 (m : (ℓ : Loc nD τ sig) → Buf (Elt F) ℓ) (c : Dev nD) : Valuation τ sig (Elt F) := fun b => m (c, b)
/-- The buffers after 1 of the host's stretches. -/
def W1 (m : (ℓ : Loc nD τ sig) → Buf (Elt F) ℓ) (c : Dev nD) : Valuation τ sig (Elt F) := StableHlo.after hostOps0 (W0 m c)
/-- The buffers after 2 of the host's stretches. -/
def W2 (m : (ℓ : Loc nD τ sig) → Buf (Elt F) ℓ) (c : Dev nD) : Valuation τ sig (Elt F) := StableHlo.after hostOps0_1 (W1 m c)
/-- The buffers after 3 of the host's stretches. -/
def W3 (m : (ℓ : Loc nD τ sig) → Buf (Elt F) ℓ) (c : Dev nD) : Valuation τ sig (Elt F) := StableHlo.after hostOps0_2 (W2 m c)
/-- The buffers after 4 of the host's stretches. -/
def W4 (m : (ℓ : Loc nD τ sig) → Buf (Elt F) ℓ) (c : Dev nD) : Valuation τ sig (Elt F) := StableHlo.after hostOps0_3 (W3 m c)
/-- The buffers after 5 of the host's stretches. -/
def W5 (m : (ℓ : Loc nD τ sig) → Buf (Elt F) ℓ) (c : Dev nD) : Valuation τ sig (Elt F) := StableHlo.after hostOps0_4 (W4 m c)
/-- The buffers after 6 of the host's stretches. -/
def W6 (m : (ℓ : Loc nD τ sig) → Buf (Elt F) ℓ) (c : Dev nD) : Valuation τ sig (Elt F) := StableHlo.after hostOps0_5 (W5 m c)
/-- The buffers after 7 of the host's stretches. -/
def W7 (m : (ℓ : Loc nD τ sig) → Buf (Elt F) ℓ) (c : Dev nD) : Valuation τ sig (Elt F) := StableHlo.after hostOps0_6 (W6 m c)
/-- The buffers after 8 of the host's stretches. -/
def W8 (m : (ℓ : Loc nD τ sig) → Buf (Elt F) ℓ) (c : Dev nD) : Valuation τ sig (Elt F) := StableHlo.after hostOps0_7 (W7 m c)
/-- The buffers after 9 of the host's stretches. -/
def W9 (m : (ℓ : Loc nD τ sig) → Buf (Elt F) ℓ) (c : Dev nD) : Valuation τ sig (Elt F) := StableHlo.after hostOps0_8 (W8 m c)
/-- The buffers after 10 of the host's stretches. -/
def W10 (m : (ℓ : Loc nD τ sig) → Buf (Elt F) ℓ) (c : Dev nD) : Valuation τ sig (Elt F) := StableHlo.after hostOps0_9 (W9 m c)
/-- The buffers after 11 of the host's stretches. -/
def W11 (m : (ℓ : Loc nD τ sig) → Buf (Elt F) ℓ) (c : Dev nD) : Valuation τ sig (Elt F) := StableHlo.after hostOps0_10 (W10 m c)
/-- The buffers after 12 of the host's stretches. -/
def W12 (m : (ℓ : Loc nD τ sig) → Buf (Elt F) ℓ) (c : Dev nD) : Valuation τ sig (Elt F) := StableHlo.after hostOps0_11 (W11 m c)
/-- The buffers after 13 of the host's stretches. -/
def W13 (m : (ℓ : Loc nD τ sig) → Buf (Elt F) ℓ) (c : Dev nD) : Valuation τ sig (Elt F) := StableHlo.after hostOps0_12 (W12 m c)
/-- The buffers after 14 of the host's stretches. -/
def W14 (m : (ℓ : Loc nD τ sig) → Buf (Elt F) ℓ) (c : Dev nD) : Valuation τ sig (Elt F) := StableHlo.after hostOps0_13 (W13 m c)
/-- The buffers after 15 of the host's stretches. -/
def W15 (m : (ℓ : Loc nD τ sig) → Buf (Elt F) ℓ) (c : Dev nD) : Valuation τ sig (Elt F) := StableHlo.after hostOps0_14 (W14 m c)
/-- The buffers after 16 of the host's stretches. -/
def W16 (m : (ℓ : Loc nD τ sig) → Buf (Elt F) ℓ) (c : Dev nD) : Valuation τ sig (Elt F) := StableHlo.after hostOps0_15 (W15 m c)
/-- The buffers after 17 of the host's stretches. -/
def W17 (m : (ℓ : Loc nD τ sig) → Buf (Elt F) ℓ) (c : Dev nD) : Valuation τ sig (Elt F) := StableHlo.after hostOps0_16 (W16 m c)

theorem V_W17 (m : (ℓ : Loc nD τ sig) → Buf (Elt F) ℓ) (c : Dev nD) (r : Ref sig .tc) : V m c r = W17 m c (Proc.devRef .tc r) := by
  show StableHlo.after (List.flatten _) _ _ = _
  simp only [List.flatten_cons, List.flatten_nil, List.append_nil, after_app]
  rfl

theorem up0 (m : (ℓ : Loc nD τ sig) → Buf (Elt F) ℓ) (c : Dev nD) (r : Ref sig .tc) (h : r ∉ ([main_call0_call0_c, main_call0_call0_v0, main_v0] : List (Ref sig .tc))) :
    W1 m c (Proc.devRef .tc r) = W0 m c (Proc.devRef .tc r) :=
  StableHlo.after_of_writes_sub hostOps0 _ (StableHlo.forall_writes_sub_of_map rfl) h

theorem up1 (m : (ℓ : Loc nD τ sig) → Buf (Elt F) ℓ) (c : Dev nD) (r : Ref sig .tc) (h : r ∉ ([main_v1, main_c] : List (Ref sig .tc))) :
    W2 m c (Proc.devRef .tc r) = W1 m c (Proc.devRef .tc r) :=
  StableHlo.after_of_writes_sub hostOps0_1 _ (StableHlo.forall_writes_sub_of_map rfl) h

theorem up2 (m : (ℓ : Loc nD τ sig) → Buf (Elt F) ℓ) (c : Dev nD) (r : Ref sig .tc) (h : r ∉ ([main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v2] : List (Ref sig .tc))) :
    W3 m c (Proc.devRef .tc r) = W2 m c (Proc.devRef .tc r) :=
  StableHlo.after_of_writes_sub hostOps0_2 _ (StableHlo.forall_writes_sub_of_map rfl) h

theorem up3 (m : (ℓ : Loc nD τ sig) → Buf (Elt F) ℓ) (c : Dev nD) (r : Ref sig .tc) (h : r ∉ ([main_c_0, main_v3, main_v4, main_c_1, main_v5, main_v6, main_c_2] : List (Ref sig .tc))) :
    W4 m c (Proc.devRef .tc r) = W3 m c (Proc.devRef .tc r) :=
  StableHlo.after_of_writes_sub hostOps0_3 _ (StableHlo.forall_writes_sub_of_map rfl) h

theorem up4 (m : (ℓ : Loc nD τ sig) → Buf (Elt F) ℓ) (c : Dev nD) (r : Ref sig .tc) (h : r ∉ ([main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v7] : List (Ref sig .tc))) :
    W5 m c (Proc.devRef .tc r) = W4 m c (Proc.devRef .tc r) :=
  StableHlo.after_of_writes_sub hostOps0_4 _ (StableHlo.forall_writes_sub_of_map rfl) h

theorem up5 (m : (ℓ : Loc nD τ sig) → Buf (Elt F) ℓ) (c : Dev nD) (r : Ref sig .tc) (h : r ∉ ([main_c_3, main_v8, main_v9] : List (Ref sig .tc))) :
    W6 m c (Proc.devRef .tc r) = W5 m c (Proc.devRef .tc r) :=
  StableHlo.after_of_writes_sub hostOps0_5 _ (StableHlo.forall_writes_sub_of_map rfl) h

theorem up6 (m : (ℓ : Loc nD τ sig) → Buf (Elt F) ℓ) (c : Dev nD) (r : Ref sig .tc) (h : r ∉ ([main_v10] : List (Ref sig .tc))) :
    W7 m c (Proc.devRef .tc r) = W6 m c (Proc.devRef .tc r) :=
  StableHlo.after_of_writes_sub hostOps0_6 _ (StableHlo.forall_writes_sub_of_map rfl) h

theorem up7 (m : (ℓ : Loc nD τ sig) → Buf (Elt F) ℓ) (c : Dev nD) (r : Ref sig .tc) (h : r ∉ ([main_v11, main_c_4, main_v12, main_v13] : List (Ref sig .tc))) :
    W8 m c (Proc.devRef .tc r) = W7 m c (Proc.devRef .tc r) :=
  StableHlo.after_of_writes_sub hostOps0_7 _ (StableHlo.forall_writes_sub_of_map rfl) h

theorem up8 (m : (ℓ : Loc nD τ sig) → Buf (Elt F) ℓ) (c : Dev nD) (r : Ref sig .tc) (h : r ∉ ([main_call4_call0_c, main_call4_call0_v0, main_v14] : List (Ref sig .tc))) :
    W9 m c (Proc.devRef .tc r) = W8 m c (Proc.devRef .tc r) :=
  StableHlo.after_of_writes_sub hostOps0_8 _ (StableHlo.forall_writes_sub_of_map rfl) h

theorem up9 (m : (ℓ : Loc nD τ sig) → Buf (Elt F) ℓ) (c : Dev nD) (r : Ref sig .tc) (h : r ∉ ([main_v15, main_v16, main_v17, main_v18, main_v19, main_v20, main_v21, main_c_5, main_v22, main_v23, main_v24, main_v25, main_v26, main_v27, main_v28, main_v29, main_v30, main_c_6, main_v31, main_c_7, main_v32, main_v33, main_c_8, main_v34, main_v35, main_v36, main_v37, main_v38, main_v39, main_v40, main_c_9, main_v41, main_v42, main_c_10, main_v43, main_v44, main_v45, main_v46, main_v47, main_v48, main_c_11, main_v49, main_v50, main_c_12, main_v51, main_v52, main_v53, main_v54, main_v55, main_c_13, main_v56, main_v57, main_v58, main_c_14, main_c_15] : List (Ref sig .tc))) :
    W10 m c (Proc.devRef .tc r) = W9 m c (Proc.devRef .tc r) :=
  StableHlo.after_of_writes_sub hostOps0_9 _ (StableHlo.forall_writes_sub_of_map rfl) h

theorem up10 (m : (ℓ : Loc nD τ sig) → Buf (Elt F) ℓ) (c : Dev nD) (r : Ref sig .tc) (h : r ∉ ([main_call5_v0, main_call5_v1, main_call5_v2, main_call5_v3, main_call5_v4, main_v59] : List (Ref sig .tc))) :
    W11 m c (Proc.devRef .tc r) = W10 m c (Proc.devRef .tc r) :=
  StableHlo.after_of_writes_sub hostOps0_10 _ (StableHlo.forall_writes_sub_of_map rfl) h

theorem up11 (m : (ℓ : Loc nD τ sig) → Buf (Elt F) ℓ) (c : Dev nD) (r : Ref sig .tc) (h : r ∉ ([main_c_16, main_v60, main_v61, main_c_17, main_v62, main_v63, main_v64, main_v65, main_v66, main_c_18, main_v67, main_v68, main_v69, main_c_19, main_c_20] : List (Ref sig .tc))) :
    W12 m c (Proc.devRef .tc r) = W11 m c (Proc.devRef .tc r) :=
  StableHlo.after_of_writes_sub hostOps0_11 _ (StableHlo.forall_writes_sub_of_map rfl) h

theorem up12 (m : (ℓ : Loc nD τ sig) → Buf (Elt F) ℓ) (c : Dev nD) (r : Ref sig .tc) (h : r ∉ ([main_call6_v0, main_call6_v1, main_call6_v2, main_call6_v3, main_call6_v4, main_v70] : List (Ref sig .tc))) :
    W13 m c (Proc.devRef .tc r) = W12 m c (Proc.devRef .tc r) :=
  StableHlo.after_of_writes_sub hostOps0_12 _ (StableHlo.forall_writes_sub_of_map rfl) h

theorem up13 (m : (ℓ : Loc nD τ sig) → Buf (Elt F) ℓ) (c : Dev nD) (r : Ref sig .tc) (h : r ∉ ([main_v71] : List (Ref sig .tc))) :
    W14 m c (Proc.devRef .tc r) = W13 m c (Proc.devRef .tc r) :=
  StableHlo.after_of_writes_sub hostOps0_13 _ (StableHlo.forall_writes_sub_of_map rfl) h

theorem up14 (m : (ℓ : Loc nD τ sig) → Buf (Elt F) ℓ) (c : Dev nD) (r : Ref sig .tc) (h : r ∉ ([main_c_21, main_v72, main_v73, main_v74, main_c_22, main_c_23] : List (Ref sig .tc))) :
    W15 m c (Proc.devRef .tc r) = W14 m c (Proc.devRef .tc r) :=
  StableHlo.after_of_writes_sub hostOps0_14 _ (StableHlo.forall_writes_sub_of_map rfl) h

theorem up15 (m : (ℓ : Loc nD τ sig) → Buf (Elt F) ℓ) (c : Dev nD) (r : Ref sig .tc) (h : r ∉ ([main_call8_v0, main_call8_v1, main_v75] : List (Ref sig .tc))) :
    W16 m c (Proc.devRef .tc r) = W15 m c (Proc.devRef .tc r) :=
  StableHlo.after_of_writes_sub hostOps0_15 _ (StableHlo.forall_writes_sub_of_map rfl) h

theorem up16 (m : (ℓ : Loc nD τ sig) → Buf (Elt F) ℓ) (c : Dev nD) (r : Ref sig .tc) (h : r ∉ ([main_v76] : List (Ref sig .tc))) :
    W17 m c (Proc.devRef .tc r) = W16 m c (Proc.devRef .tc r) :=
  StableHlo.after_of_writes_sub hostOps0_16 _ (StableHlo.forall_writes_sub_of_map rfl) h

theorem at0_arg1 (m : (ℓ : Loc nD τ sig) → Buf (Elt F) ℓ) (c : Dev nD) : V m c main_arg1 = W0 m c (Proc.devRef .tc main_arg1) := by
  rw [V_W17 m c main_arg1, up16 m c main_arg1 (by decide), up15 m c main_arg1 (by decide), up14 m c main_arg1 (by decide), up13 m c main_arg1 (by decide), up12 m c main_arg1 (by decide), up11 m c main_arg1 (by decide), up10 m c main_arg1 (by decide), up9 m c main_arg1 (by decide), up8 m c main_arg1 (by decide), up7 m c main_arg1 (by decide), up6 m c main_arg1 (by decide), up5 m c main_arg1 (by decide), up4 m c main_arg1 (by decide), up3 m c main_arg1 (by decide), up2 m c main_arg1 (by decide), up1 m c main_arg1 (by decide), up0 m c main_arg1 (by decide)]

theorem at1_arg1 (m : (ℓ : Loc nD τ sig) → Buf (Elt F) ℓ) (c : Dev nD) : V m c main_arg1 = W1 m c (Proc.devRef .tc main_arg1) := by
  rw [V_W17 m c main_arg1, up16 m c main_arg1 (by decide), up15 m c main_arg1 (by decide), up14 m c main_arg1 (by decide), up13 m c main_arg1 (by decide), up12 m c main_arg1 (by decide), up11 m c main_arg1 (by decide), up10 m c main_arg1 (by decide), up9 m c main_arg1 (by decide), up8 m c main_arg1 (by decide), up7 m c main_arg1 (by decide), up6 m c main_arg1 (by decide), up5 m c main_arg1 (by decide), up4 m c main_arg1 (by decide), up3 m c main_arg1 (by decide), up2 m c main_arg1 (by decide), up1 m c main_arg1 (by decide)]

theorem at3_arg1 (m : (ℓ : Loc nD τ sig) → Buf (Elt F) ℓ) (c : Dev nD) : V m c main_arg1 = W3 m c (Proc.devRef .tc main_arg1) := by
  rw [V_W17 m c main_arg1, up16 m c main_arg1 (by decide), up15 m c main_arg1 (by decide), up14 m c main_arg1 (by decide), up13 m c main_arg1 (by decide), up12 m c main_arg1 (by decide), up11 m c main_arg1 (by decide), up10 m c main_arg1 (by decide), up9 m c main_arg1 (by decide), up8 m c main_arg1 (by decide), up7 m c main_arg1 (by decide), up6 m c main_arg1 (by decide), up5 m c main_arg1 (by decide), up4 m c main_arg1 (by decide), up3 m c main_arg1 (by decide)]

theorem at2_c (m : (ℓ : Loc nD τ sig) → Buf (Elt F) ℓ) (c : Dev nD) : V m c main_c = W2 m c (Proc.devRef .tc main_c) := by
  rw [V_W17 m c main_c, up16 m c main_c (by decide), up15 m c main_c (by decide), up14 m c main_c (by decide), up13 m c main_c (by decide), up12 m c main_c (by decide), up11 m c main_c (by decide), up10 m c main_c (by decide), up9 m c main_c (by decide), up8 m c main_c (by decide), up7 m c main_c (by decide), up6 m c main_c (by decide), up5 m c main_c (by decide), up4 m c main_c (by decide), up3 m c main_c (by decide), up2 m c main_c (by decide)]

theorem at4_c (m : (ℓ : Loc nD τ sig) → Buf (Elt F) ℓ) (c : Dev nD) : V m c main_c = W4 m c (Proc.devRef .tc main_c) := by
  rw [V_W17 m c main_c, up16 m c main_c (by decide), up15 m c main_c (by decide), up14 m c main_c (by decide), up13 m c main_c (by decide), up12 m c main_c (by decide), up11 m c main_c (by decide), up10 m c main_c (by decide), up9 m c main_c (by decide), up8 m c main_c (by decide), up7 m c main_c (by decide), up6 m c main_c (by decide), up5 m c main_c (by decide), up4 m c main_c (by decide)]

theorem at10_c (m : (ℓ : Loc nD τ sig) → Buf (Elt F) ℓ) (c : Dev nD) : V m c main_c = W10 m c (Proc.devRef .tc main_c) := by
  rw [V_W17 m c main_c, up16 m c main_c (by decide), up15 m c main_c (by decide), up14 m c main_c (by decide), up13 m c main_c (by decide), up12 m c main_c (by decide), up11 m c main_c (by decide), up10 m c main_c (by decide)]

theorem at12_c (m : (ℓ : Loc nD τ sig) → Buf (Elt F) ℓ) (c : Dev nD) : V m c main_c = W12 m c (Proc.devRef .tc main_c) := by
  rw [V_W17 m c main_c, up16 m c main_c (by decide), up15 m c main_c (by decide), up14 m c main_c (by decide), up13 m c main_c (by decide), up12 m c main_c (by decide)]

theorem at15_c (m : (ℓ : Loc nD τ sig) → Buf (Elt F) ℓ) (c : Dev nD) : V m c main_c = W15 m c (Proc.devRef .tc main_c) := by
  rw [V_W17 m c main_c, up16 m c main_c (by decide), up15 m c main_c (by decide)]

theorem at4_c_2 (m : (ℓ : Loc nD τ sig) → Buf (Elt F) ℓ) (c : Dev nD) : V m c main_c_2 = W4 m c (Proc.devRef .tc main_c_2) := by
  rw [V_W17 m c main_c_2, up16 m c main_c_2 (by decide), up15 m c main_c_2 (by decide), up14 m c main_c_2 (by decide), up13 m c main_c_2 (by decide), up12 m c main_c_2 (by decide), up11 m c main_c_2 (by decide), up10 m c main_c_2 (by decide), up9 m c main_c_2 (by decide), up8 m c main_c_2 (by decide), up7 m c main_c_2 (by decide), up6 m c main_c_2 (by decide), up5 m c main_c_2 (by decide), up4 m c main_c_2 (by decide)]

theorem at12_c_2 (m : (ℓ : Loc nD τ sig) → Buf (Elt F) ℓ) (c : Dev nD) : V m c main_c_2 = W12 m c (Proc.devRef .tc main_c_2) := by
  rw [V_W17 m c main_c_2, up16 m c main_c_2 (by decide), up15 m c main_c_2 (by decide), up14 m c main_c_2 (by decide), up13 m c main_c_2 (by decide), up12 m c main_c_2 (by decide)]

theorem at15_c_2 (m : (ℓ : Loc nD τ sig) → Buf (Elt F) ℓ) (c : Dev nD) : V m c main_c_2 = W15 m c (Proc.devRef .tc main_c_2) := by
  rw [V_W17 m c main_c_2, up16 m c main_c_2 (by decide), up15 m c main_c_2 (by decide)]

theorem at10_c_14 (m : (ℓ : Loc nD τ sig) → Buf (Elt F) ℓ) (c : Dev nD) : V m c main_c_14 = W10 m c (Proc.devRef .tc main_c_14) := by
  rw [V_W17 m c main_c_14, up16 m c main_c_14 (by decide), up15 m c main_c_14 (by decide), up14 m c main_c_14 (by decide), up13 m c main_c_14 (by decide), up12 m c main_c_14 (by decide), up11 m c main_c_14 (by decide), up10 m c main_c_14 (by decide)]

theorem at10_c_15 (m : (ℓ : Loc nD τ sig) → Buf (Elt F) ℓ) (c : Dev nD) : V m c main_c_15 = W10 m c (Proc.devRef .tc main_c_15) := by
  rw [V_W17 m c main_c_15, up16 m c main_c_15 (by decide), up15 m c main_c_15 (by decide), up14 m c main_c_15 (by decide), up13 m c main_c_15 (by decide), up12 m c main_c_15 (by decide), up11 m c main_c_15 (by decide), up10 m c main_c_15 (by decide)]

theorem at12_c_19 (m : (ℓ : Loc nD τ sig) → Buf (Elt F) ℓ) (c : Dev nD) : V m c main_c_19 = W12 m c (Proc.devRef .tc main_c_19) := by
  rw [V_W17 m c main_c_19, up16 m c main_c_19 (by decide), up15 m c main_c_19 (by decide), up14 m c main_c_19 (by decide), up13 m c main_c_19 (by decide), up12 m c main_c_19 (by decide)]

theorem at12_c_20 (m : (ℓ : Loc nD τ sig) → Buf (Elt F) ℓ) (c : Dev nD) : V m c main_c_20 = W12 m c (Proc.devRef .tc main_c_20) := by
  rw [V_W17 m c main_c_20, up16 m c main_c_20 (by decide), up15 m c main_c_20 (by decide), up14 m c main_c_20 (by decide), up13 m c main_c_20 (by decide), up12 m c main_c_20 (by decide)]

theorem at15_c_22 (m : (ℓ : Loc nD τ sig) → Buf (Elt F) ℓ) (c : Dev nD) : V m c main_c_22 = W15 m c (Proc.devRef .tc main_c_22) := by
  rw [V_W17 m c main_c_22, up16 m c main_c_22 (by decide), up15 m c main_c_22 (by decide)]

theorem at15_c_23 (m : (ℓ : Loc nD τ sig) → Buf (Elt F) ℓ) (c : Dev nD) : V m c main_c_23 = W15 m c (Proc.devRef .tc main_c_23) := by
  rw [V_W17 m c main_c_23, up16 m c main_c_23 (by decide), up15 m c main_c_23 (by decide)]

theorem at6_v9 (m : (ℓ : Loc nD τ sig) → Buf (Elt F) ℓ) (c : Dev nD) : V m c main_v9 = W6 m c (Proc.devRef .tc main_v9) := by
  rw [V_W17 m c main_v9, up16 m c main_v9 (by decide), up15 m c main_v9 (by decide), up14 m c main_v9 (by decide), up13 m c main_v9 (by decide), up12 m c main_v9 (by decide), up11 m c main_v9 (by decide), up10 m c main_v9 (by decide), up9 m c main_v9 (by decide), up8 m c main_v9 (by decide), up7 m c main_v9 (by decide), up6 m c main_v9 (by decide)]

theorem at13_v70 (m : (ℓ : Loc nD τ sig) → Buf (Elt F) ℓ) (c : Dev nD) : V m c main_v70 = W13 m c (Proc.devRef .tc main_v70) := by
  rw [V_W17 m c main_v70, up16 m c main_v70 (by decide), up15 m c main_v70 (by decide), up14 m c main_v70 (by decide), up13 m c main_v70 (by decide)]

theorem at15_v74 (m : (ℓ : Loc nD τ sig) → Buf (Elt F) ℓ) (c : Dev nD) : V m c main_v74 = W15 m c (Proc.devRef .tc main_v74) := by
  rw [V_W17 m c main_v74, up16 m c main_v74 (by decide), up15 m c main_v74 (by decide)]

theorem at1_v0 (m : (ℓ : Loc nD τ sig) → Buf (Elt F) ℓ) (c : Dev nD) : V m c main_v0 = W1 m c (Proc.devRef .tc main_v0) := by
  rw [V_W17 m c main_v0, up16 m c main_v0 (by decide), up15 m c main_v0 (by decide), up14 m c main_v0 (by decide), up13 m c main_v0 (by decide), up12 m c main_v0 (by decide), up11 m c main_v0 (by decide), up10 m c main_v0 (by decide), up9 m c main_v0 (by decide), up8 m c main_v0 (by decide), up7 m c main_v0 (by decide), up6 m c main_v0 (by decide), up5 m c main_v0 (by decide), up4 m c main_v0 (by decide), up3 m c main_v0 (by decide), up2 m c main_v0 (by decide), up1 m c main_v0 (by decide)]

theorem at3_v0 (m : (ℓ : Loc nD τ sig) → Buf (Elt F) ℓ) (c : Dev nD) : V m c main_v0 = W3 m c (Proc.devRef .tc main_v0) := by
  rw [V_W17 m c main_v0, up16 m c main_v0 (by decide), up15 m c main_v0 (by decide), up14 m c main_v0 (by decide), up13 m c main_v0 (by decide), up12 m c main_v0 (by decide), up11 m c main_v0 (by decide), up10 m c main_v0 (by decide), up9 m c main_v0 (by decide), up8 m c main_v0 (by decide), up7 m c main_v0 (by decide), up6 m c main_v0 (by decide), up5 m c main_v0 (by decide), up4 m c main_v0 (by decide), up3 m c main_v0 (by decide)]

theorem at11_v0 (m : (ℓ : Loc nD τ sig) → Buf (Elt F) ℓ) (c : Dev nD) : V m c main_v0 = W11 m c (Proc.devRef .tc main_v0) := by
  rw [V_W17 m c main_v0, up16 m c main_v0 (by decide), up15 m c main_v0 (by decide), up14 m c main_v0 (by decide), up13 m c main_v0 (by decide), up12 m c main_v0 (by decide), up11 m c main_v0 (by decide)]

theorem at2_v1 (m : (ℓ : Loc nD τ sig) → Buf (Elt F) ℓ) (c : Dev nD) : V m c main_v1 = W2 m c (Proc.devRef .tc main_v1) := by
  rw [V_W17 m c main_v1, up16 m c main_v1 (by decide), up15 m c main_v1 (by decide), up14 m c main_v1 (by decide), up13 m c main_v1 (by decide), up12 m c main_v1 (by decide), up11 m c main_v1 (by decide), up10 m c main_v1 (by decide), up9 m c main_v1 (by decide), up8 m c main_v1 (by decide), up7 m c main_v1 (by decide), up6 m c main_v1 (by decide), up5 m c main_v1 (by decide), up4 m c main_v1 (by decide), up3 m c main_v1 (by decide), up2 m c main_v1 (by decide)]

theorem at7_v1 (m : (ℓ : Loc nD τ sig) → Buf (Elt F) ℓ) (c : Dev nD) : V m c main_v1 = W7 m c (Proc.devRef .tc main_v1) := by
  rw [V_W17 m c main_v1, up16 m c main_v1 (by decide), up15 m c main_v1 (by decide), up14 m c main_v1 (by decide), up13 m c main_v1 (by decide), up12 m c main_v1 (by decide), up11 m c main_v1 (by decide), up10 m c main_v1 (by decide), up9 m c main_v1 (by decide), up8 m c main_v1 (by decide), up7 m c main_v1 (by decide)]

theorem at8_v1 (m : (ℓ : Loc nD τ sig) → Buf (Elt F) ℓ) (c : Dev nD) : V m c main_v1 = W8 m c (Proc.devRef .tc main_v1) := by
  rw [V_W17 m c main_v1, up16 m c main_v1 (by decide), up15 m c main_v1 (by decide), up14 m c main_v1 (by decide), up13 m c main_v1 (by decide), up12 m c main_v1 (by decide), up11 m c main_v1 (by decide), up10 m c main_v1 (by decide), up9 m c main_v1 (by decide), up8 m c main_v1 (by decide)]

theorem at9_v1 (m : (ℓ : Loc nD τ sig) → Buf (Elt F) ℓ) (c : Dev nD) : V m c main_v1 = W9 m c (Proc.devRef .tc main_v1) := by
  rw [V_W17 m c main_v1, up16 m c main_v1 (by decide), up15 m c main_v1 (by decide), up14 m c main_v1 (by decide), up13 m c main_v1 (by decide), up12 m c main_v1 (by decide), up11 m c main_v1 (by decide), up10 m c main_v1 (by decide), up9 m c main_v1 (by decide)]

theorem at13_v1 (m : (ℓ : Loc nD τ sig) → Buf (Elt F) ℓ) (c : Dev nD) : V m c main_v1 = W13 m c (Proc.devRef .tc main_v1) := by
  rw [V_W17 m c main_v1, up16 m c main_v1 (by decide), up15 m c main_v1 (by decide), up14 m c main_v1 (by decide), up13 m c main_v1 (by decide)]

theorem at14_v1 (m : (ℓ : Loc nD τ sig) → Buf (Elt F) ℓ) (c : Dev nD) : V m c main_v1 = W14 m c (Proc.devRef .tc main_v1) := by
  rw [V_W17 m c main_v1, up16 m c main_v1 (by decide), up15 m c main_v1 (by decide), up14 m c main_v1 (by decide)]

theorem at3_v2 (m : (ℓ : Loc nD τ sig) → Buf (Elt F) ℓ) (c : Dev nD) : V m c main_v2 = W3 m c (Proc.devRef .tc main_v2) := by
  rw [V_W17 m c main_v2, up16 m c main_v2 (by decide), up15 m c main_v2 (by decide), up14 m c main_v2 (by decide), up13 m c main_v2 (by decide), up12 m c main_v2 (by decide), up11 m c main_v2 (by decide), up10 m c main_v2 (by decide), up9 m c main_v2 (by decide), up8 m c main_v2 (by decide), up7 m c main_v2 (by decide), up6 m c main_v2 (by decide), up5 m c main_v2 (by decide), up4 m c main_v2 (by decide), up3 m c main_v2 (by decide)]

theorem at5_v2 (m : (ℓ : Loc nD τ sig) → Buf (Elt F) ℓ) (c : Dev nD) : V m c main_v2 = W5 m c (Proc.devRef .tc main_v2) := by
  rw [V_W17 m c main_v2, up16 m c main_v2 (by decide), up15 m c main_v2 (by decide), up14 m c main_v2 (by decide), up13 m c main_v2 (by decide), up12 m c main_v2 (by decide), up11 m c main_v2 (by decide), up10 m c main_v2 (by decide), up9 m c main_v2 (by decide), up8 m c main_v2 (by decide), up7 m c main_v2 (by decide), up6 m c main_v2 (by decide), up5 m c main_v2 (by decide)]

theorem at7_v2 (m : (ℓ : Loc nD τ sig) → Buf (Elt F) ℓ) (c : Dev nD) : V m c main_v2 = W7 m c (Proc.devRef .tc main_v2) := by
  rw [V_W17 m c main_v2, up16 m c main_v2 (by decide), up15 m c main_v2 (by decide), up14 m c main_v2 (by decide), up13 m c main_v2 (by decide), up12 m c main_v2 (by decide), up11 m c main_v2 (by decide), up10 m c main_v2 (by decide), up9 m c main_v2 (by decide), up8 m c main_v2 (by decide), up7 m c main_v2 (by decide)]

theorem at9_v2 (m : (ℓ : Loc nD τ sig) → Buf (Elt F) ℓ) (c : Dev nD) : V m c main_v2 = W9 m c (Proc.devRef .tc main_v2) := by
  rw [V_W17 m c main_v2, up16 m c main_v2 (by decide), up15 m c main_v2 (by decide), up14 m c main_v2 (by decide), up13 m c main_v2 (by decide), up12 m c main_v2 (by decide), up11 m c main_v2 (by decide), up10 m c main_v2 (by decide), up9 m c main_v2 (by decide)]

theorem at4_v4 (m : (ℓ : Loc nD τ sig) → Buf (Elt F) ℓ) (c : Dev nD) : V m c main_v4 = W4 m c (Proc.devRef .tc main_v4) := by
  rw [V_W17 m c main_v4, up16 m c main_v4 (by decide), up15 m c main_v4 (by decide), up14 m c main_v4 (by decide), up13 m c main_v4 (by decide), up12 m c main_v4 (by decide), up11 m c main_v4 (by decide), up10 m c main_v4 (by decide), up9 m c main_v4 (by decide), up8 m c main_v4 (by decide), up7 m c main_v4 (by decide), up6 m c main_v4 (by decide), up5 m c main_v4 (by decide), up4 m c main_v4 (by decide)]

theorem at6_v4 (m : (ℓ : Loc nD τ sig) → Buf (Elt F) ℓ) (c : Dev nD) : V m c main_v4 = W6 m c (Proc.devRef .tc main_v4) := by
  rw [V_W17 m c main_v4, up16 m c main_v4 (by decide), up15 m c main_v4 (by decide), up14 m c main_v4 (by decide), up13 m c main_v4 (by decide), up12 m c main_v4 (by decide), up11 m c main_v4 (by decide), up10 m c main_v4 (by decide), up9 m c main_v4 (by decide), up8 m c main_v4 (by decide), up7 m c main_v4 (by decide), up6 m c main_v4 (by decide)]

theorem at9_v4 (m : (ℓ : Loc nD τ sig) → Buf (Elt F) ℓ) (c : Dev nD) : V m c main_v4 = W9 m c (Proc.devRef .tc main_v4) := by
  rw [V_W17 m c main_v4, up16 m c main_v4 (by decide), up15 m c main_v4 (by decide), up14 m c main_v4 (by decide), up13 m c main_v4 (by decide), up12 m c main_v4 (by decide), up11 m c main_v4 (by decide), up10 m c main_v4 (by decide), up9 m c main_v4 (by decide)]

theorem at11_v4 (m : (ℓ : Loc nD τ sig) → Buf (Elt F) ℓ) (c : Dev nD) : V m c main_v4 = W11 m c (Proc.devRef .tc main_v4) := by
  rw [V_W17 m c main_v4, up16 m c main_v4 (by decide), up15 m c main_v4 (by decide), up14 m c main_v4 (by decide), up13 m c main_v4 (by decide), up12 m c main_v4 (by decide), up11 m c main_v4 (by decide)]

theorem at4_v6 (m : (ℓ : Loc nD τ sig) → Buf (Elt F) ℓ) (c : Dev nD) : V m c main_v6 = W4 m c (Proc.devRef .tc main_v6) := by
  rw [V_W17 m c main_v6, up16 m c main_v6 (by decide), up15 m c main_v6 (by decide), up14 m c main_v6 (by decide), up13 m c main_v6 (by decide), up12 m c main_v6 (by decide), up11 m c main_v6 (by decide), up10 m c main_v6 (by decide), up9 m c main_v6 (by decide), up8 m c main_v6 (by decide), up7 m c main_v6 (by decide), up6 m c main_v6 (by decide), up5 m c main_v6 (by decide), up4 m c main_v6 (by decide)]

theorem at11_v6 (m : (ℓ : Loc nD τ sig) → Buf (Elt F) ℓ) (c : Dev nD) : V m c main_v6 = W11 m c (Proc.devRef .tc main_v6) := by
  rw [V_W17 m c main_v6, up16 m c main_v6 (by decide), up15 m c main_v6 (by decide), up14 m c main_v6 (by decide), up13 m c main_v6 (by decide), up12 m c main_v6 (by decide), up11 m c main_v6 (by decide)]

theorem at12_v6 (m : (ℓ : Loc nD τ sig) → Buf (Elt F) ℓ) (c : Dev nD) : V m c main_v6 = W12 m c (Proc.devRef .tc main_v6) := by
  rw [V_W17 m c main_v6, up16 m c main_v6 (by decide), up15 m c main_v6 (by decide), up14 m c main_v6 (by decide), up13 m c main_v6 (by decide), up12 m c main_v6 (by decide)]

theorem at5_v7 (m : (ℓ : Loc nD τ sig) → Buf (Elt F) ℓ) (c : Dev nD) : V m c main_v7 = W5 m c (Proc.devRef .tc main_v7) := by
  rw [V_W17 m c main_v7, up16 m c main_v7 (by decide), up15 m c main_v7 (by decide), up14 m c main_v7 (by decide), up13 m c main_v7 (by decide), up12 m c main_v7 (by decide), up11 m c main_v7 (by decide), up10 m c main_v7 (by decide), up9 m c main_v7 (by decide), up8 m c main_v7 (by decide), up7 m c main_v7 (by decide), up6 m c main_v7 (by decide), up5 m c main_v7 (by decide)]

theorem at6_v7 (m : (ℓ : Loc nD τ sig) → Buf (Elt F) ℓ) (c : Dev nD) : V m c main_v7 = W6 m c (Proc.devRef .tc main_v7) := by
  rw [V_W17 m c main_v7, up16 m c main_v7 (by decide), up15 m c main_v7 (by decide), up14 m c main_v7 (by decide), up13 m c main_v7 (by decide), up12 m c main_v7 (by decide), up11 m c main_v7 (by decide), up10 m c main_v7 (by decide), up9 m c main_v7 (by decide), up8 m c main_v7 (by decide), up7 m c main_v7 (by decide), up6 m c main_v7 (by decide)]

theorem at13_v7 (m : (ℓ : Loc nD τ sig) → Buf (Elt F) ℓ) (c : Dev nD) : V m c main_v7 = W13 m c (Proc.devRef .tc main_v7) := by
  rw [V_W17 m c main_v7, up16 m c main_v7 (by decide), up15 m c main_v7 (by decide), up14 m c main_v7 (by decide), up13 m c main_v7 (by decide)]

theorem at15_v7 (m : (ℓ : Loc nD τ sig) → Buf (Elt F) ℓ) (c : Dev nD) : V m c main_v7 = W15 m c (Proc.devRef .tc main_v7) := by
  rw [V_W17 m c main_v7, up16 m c main_v7 (by decide), up15 m c main_v7 (by decide)]

theorem at7_v10 (m : (ℓ : Loc nD τ sig) → Buf (Elt F) ℓ) (c : Dev nD) : V m c main_v10 = W7 m c (Proc.devRef .tc main_v10) := by
  rw [V_W17 m c main_v10, up16 m c main_v10 (by decide), up15 m c main_v10 (by decide), up14 m c main_v10 (by decide), up13 m c main_v10 (by decide), up12 m c main_v10 (by decide), up11 m c main_v10 (by decide), up10 m c main_v10 (by decide), up9 m c main_v10 (by decide), up8 m c main_v10 (by decide), up7 m c main_v10 (by decide)]

theorem at8_v13 (m : (ℓ : Loc nD τ sig) → Buf (Elt F) ℓ) (c : Dev nD) : V m c main_v13 = W8 m c (Proc.devRef .tc main_v13) := by
  rw [V_W17 m c main_v13, up16 m c main_v13 (by decide), up15 m c main_v13 (by decide), up14 m c main_v13 (by decide), up13 m c main_v13 (by decide), up12 m c main_v13 (by decide), up11 m c main_v13 (by decide), up10 m c main_v13 (by decide), up9 m c main_v13 (by decide), up8 m c main_v13 (by decide)]

theorem at9_v13 (m : (ℓ : Loc nD τ sig) → Buf (Elt F) ℓ) (c : Dev nD) : V m c main_v13 = W9 m c (Proc.devRef .tc main_v13) := by
  rw [V_W17 m c main_v13, up16 m c main_v13 (by decide), up15 m c main_v13 (by decide), up14 m c main_v13 (by decide), up13 m c main_v13 (by decide), up12 m c main_v13 (by decide), up11 m c main_v13 (by decide), up10 m c main_v13 (by decide), up9 m c main_v13 (by decide)]

theorem at9_v14 (m : (ℓ : Loc nD τ sig) → Buf (Elt F) ℓ) (c : Dev nD) : V m c main_v14 = W9 m c (Proc.devRef .tc main_v14) := by
  rw [V_W17 m c main_v14, up16 m c main_v14 (by decide), up15 m c main_v14 (by decide), up14 m c main_v14 (by decide), up13 m c main_v14 (by decide), up12 m c main_v14 (by decide), up11 m c main_v14 (by decide), up10 m c main_v14 (by decide), up9 m c main_v14 (by decide)]

theorem at10_v17 (m : (ℓ : Loc nD τ sig) → Buf (Elt F) ℓ) (c : Dev nD) : V m c main_v17 = W10 m c (Proc.devRef .tc main_v17) := by
  rw [V_W17 m c main_v17, up16 m c main_v17 (by decide), up15 m c main_v17 (by decide), up14 m c main_v17 (by decide), up13 m c main_v17 (by decide), up12 m c main_v17 (by decide), up11 m c main_v17 (by decide), up10 m c main_v17 (by decide)]

theorem at10_v19 (m : (ℓ : Loc nD τ sig) → Buf (Elt F) ℓ) (c : Dev nD) : V m c main_v19 = W10 m c (Proc.devRef .tc main_v19) := by
  rw [V_W17 m c main_v19, up16 m c main_v19 (by decide), up15 m c main_v19 (by decide), up14 m c main_v19 (by decide), up13 m c main_v19 (by decide), up12 m c main_v19 (by decide), up11 m c main_v19 (by decide), up10 m c main_v19 (by decide)]

theorem at13_v19 (m : (ℓ : Loc nD τ sig) → Buf (Elt F) ℓ) (c : Dev nD) : V m c main_v19 = W13 m c (Proc.devRef .tc main_v19) := by
  rw [V_W17 m c main_v19, up16 m c main_v19 (by decide), up15 m c main_v19 (by decide), up14 m c main_v19 (by decide), up13 m c main_v19 (by decide)]

theorem at14_v19 (m : (ℓ : Loc nD τ sig) → Buf (Elt F) ℓ) (c : Dev nD) : V m c main_v19 = W14 m c (Proc.devRef .tc main_v19) := by
  rw [V_W17 m c main_v19, up16 m c main_v19 (by decide), up15 m c main_v19 (by decide), up14 m c main_v19 (by decide)]

theorem at10_v22 (m : (ℓ : Loc nD τ sig) → Buf (Elt F) ℓ) (c : Dev nD) : V m c main_v22 = W10 m c (Proc.devRef .tc main_v22) := by
  rw [V_W17 m c main_v22, up16 m c main_v22 (by decide), up15 m c main_v22 (by decide), up14 m c main_v22 (by decide), up13 m c main_v22 (by decide), up12 m c main_v22 (by decide), up11 m c main_v22 (by decide), up10 m c main_v22 (by decide)]

theorem at10_v24 (m : (ℓ : Loc nD τ sig) → Buf (Elt F) ℓ) (c : Dev nD) : V m c main_v24 = W10 m c (Proc.devRef .tc main_v24) := by
  rw [V_W17 m c main_v24, up16 m c main_v24 (by decide), up15 m c main_v24 (by decide), up14 m c main_v24 (by decide), up13 m c main_v24 (by decide), up12 m c main_v24 (by decide), up11 m c main_v24 (by decide), up10 m c main_v24 (by decide)]

theorem at10_v31 (m : (ℓ : Loc nD τ sig) → Buf (Elt F) ℓ) (c : Dev nD) : V m c main_v31 = W10 m c (Proc.devRef .tc main_v31) := by
  rw [V_W17 m c main_v31, up16 m c main_v31 (by decide), up15 m c main_v31 (by decide), up14 m c main_v31 (by decide), up13 m c main_v31 (by decide), up12 m c main_v31 (by decide), up11 m c main_v31 (by decide), up10 m c main_v31 (by decide)]

theorem at11_v31 (m : (ℓ : Loc nD τ sig) → Buf (Elt F) ℓ) (c : Dev nD) : V m c main_v31 = W11 m c (Proc.devRef .tc main_v31) := by
  rw [V_W17 m c main_v31, up16 m c main_v31 (by decide), up15 m c main_v31 (by decide), up14 m c main_v31 (by decide), up13 m c main_v31 (by decide), up12 m c main_v31 (by decide), up11 m c main_v31 (by decide)]

theorem at10_v38 (m : (ℓ : Loc nD τ sig) → Buf (Elt F) ℓ) (c : Dev nD) : V m c main_v38 = W10 m c (Proc.devRef .tc main_v38) := by
  rw [V_W17 m c main_v38, up16 m c main_v38 (by decide), up15 m c main_v38 (by decide), up14 m c main_v38 (by decide), up13 m c main_v38 (by decide), up12 m c main_v38 (by decide), up11 m c main_v38 (by decide), up10 m c main_v38 (by decide)]

theorem at10_v39 (m : (ℓ : Loc nD τ sig) → Buf (Elt F) ℓ) (c : Dev nD) : V m c main_v39 = W10 m c (Proc.devRef .tc main_v39) := by
  rw [V_W17 m c main_v39, up16 m c main_v39 (by decide), up15 m c main_v39 (by decide), up14 m c main_v39 (by decide), up13 m c main_v39 (by decide), up12 m c main_v39 (by decide), up11 m c main_v39 (by decide), up10 m c main_v39 (by decide)]

theorem at10_v40 (m : (ℓ : Loc nD τ sig) → Buf (Elt F) ℓ) (c : Dev nD) : V m c main_v40 = W10 m c (Proc.devRef .tc main_v40) := by
  rw [V_W17 m c main_v40, up16 m c main_v40 (by decide), up15 m c main_v40 (by decide), up14 m c main_v40 (by decide), up13 m c main_v40 (by decide), up12 m c main_v40 (by decide), up11 m c main_v40 (by decide), up10 m c main_v40 (by decide)]

theorem at10_v47 (m : (ℓ : Loc nD τ sig) → Buf (Elt F) ℓ) (c : Dev nD) : V m c main_v47 = W10 m c (Proc.devRef .tc main_v47) := by
  rw [V_W17 m c main_v47, up16 m c main_v47 (by decide), up15 m c main_v47 (by decide), up14 m c main_v47 (by decide), up13 m c main_v47 (by decide), up12 m c main_v47 (by decide), up11 m c main_v47 (by decide), up10 m c main_v47 (by decide)]

theorem at10_v48 (m : (ℓ : Loc nD τ sig) → Buf (Elt F) ℓ) (c : Dev nD) : V m c main_v48 = W10 m c (Proc.devRef .tc main_v48) := by
  rw [V_W17 m c main_v48, up16 m c main_v48 (by decide), up15 m c main_v48 (by decide), up14 m c main_v48 (by decide), up13 m c main_v48 (by decide), up12 m c main_v48 (by decide), up11 m c main_v48 (by decide), up10 m c main_v48 (by decide)]

theorem at11_v48 (m : (ℓ : Loc nD τ sig) → Buf (Elt F) ℓ) (c : Dev nD) : V m c main_v48 = W11 m c (Proc.devRef .tc main_v48) := by
  rw [V_W17 m c main_v48, up16 m c main_v48 (by decide), up15 m c main_v48 (by decide), up14 m c main_v48 (by decide), up13 m c main_v48 (by decide), up12 m c main_v48 (by decide), up11 m c main_v48 (by decide)]

theorem at10_v55 (m : (ℓ : Loc nD τ sig) → Buf (Elt F) ℓ) (c : Dev nD) : V m c main_v55 = W10 m c (Proc.devRef .tc main_v55) := by
  rw [V_W17 m c main_v55, up16 m c main_v55 (by decide), up15 m c main_v55 (by decide), up14 m c main_v55 (by decide), up13 m c main_v55 (by decide), up12 m c main_v55 (by decide), up11 m c main_v55 (by decide), up10 m c main_v55 (by decide)]

theorem at10_v58 (m : (ℓ : Loc nD τ sig) → Buf (Elt F) ℓ) (c : Dev nD) : V m c main_v58 = W10 m c (Proc.devRef .tc main_v58) := by
  rw [V_W17 m c main_v58, up16 m c main_v58 (by decide), up15 m c main_v58 (by decide), up14 m c main_v58 (by decide), up13 m c main_v58 (by decide), up12 m c main_v58 (by decide), up11 m c main_v58 (by decide), up10 m c main_v58 (by decide)]

theorem at11_v59 (m : (ℓ : Loc nD τ sig) → Buf (Elt F) ℓ) (c : Dev nD) : V m c main_v59 = W11 m c (Proc.devRef .tc main_v59) := by
  rw [V_W17 m c main_v59, up16 m c main_v59 (by decide), up15 m c main_v59 (by decide), up14 m c main_v59 (by decide), up13 m c main_v59 (by decide), up12 m c main_v59 (by decide), up11 m c main_v59 (by decide)]

theorem at13_v59 (m : (ℓ : Loc nD τ sig) → Buf (Elt F) ℓ) (c : Dev nD) : V m c main_v59 = W13 m c (Proc.devRef .tc main_v59) := by
  rw [V_W17 m c main_v59, up16 m c main_v59 (by decide), up15 m c main_v59 (by decide), up14 m c main_v59 (by decide), up13 m c main_v59 (by decide)]

theorem at14_v59 (m : (ℓ : Loc nD τ sig) → Buf (Elt F) ℓ) (c : Dev nD) : V m c main_v59 = W14 m c (Proc.devRef .tc main_v59) := by
  rw [V_W17 m c main_v59, up16 m c main_v59 (by decide), up15 m c main_v59 (by decide), up14 m c main_v59 (by decide)]

theorem at12_v66 (m : (ℓ : Loc nD τ sig) → Buf (Elt F) ℓ) (c : Dev nD) : V m c main_v66 = W12 m c (Proc.devRef .tc main_v66) := by
  rw [V_W17 m c main_v66, up16 m c main_v66 (by decide), up15 m c main_v66 (by decide), up14 m c main_v66 (by decide), up13 m c main_v66 (by decide), up12 m c main_v66 (by decide)]

theorem at12_v69 (m : (ℓ : Loc nD τ sig) → Buf (Elt F) ℓ) (c : Dev nD) : V m c main_v69 = W12 m c (Proc.devRef .tc main_v69) := by
  rw [V_W17 m c main_v69, up16 m c main_v69 (by decide), up15 m c main_v69 (by decide), up14 m c main_v69 (by decide), up13 m c main_v69 (by decide), up12 m c main_v69 (by decide)]

theorem at14_v71 (m : (ℓ : Loc nD τ sig) → Buf (Elt F) ℓ) (c : Dev nD) : V m c main_v71 = W14 m c (Proc.devRef .tc main_v71) := by
  rw [V_W17 m c main_v71, up16 m c main_v71 (by decide), up15 m c main_v71 (by decide), up14 m c main_v71 (by decide)]

theorem at16_v75 (m : (ℓ : Loc nD τ sig) → Buf (Elt F) ℓ) (c : Dev nD) : V m c main_v75 = W16 m c (Proc.devRef .tc main_v75) := by
  rw [V_W17 m c main_v75, up16 m c main_v75 (by decide)]

theorem rd_v0 (m : (ℓ : Loc nD τ sig) → Buf (Elt F) ℓ) (c : Dev nD) : (V m c main_v0 : IVec S8 32) = (Host.reduceWindow IntOp.addi ![8] ![1] ![7] ![0] (V m c main_arg1 : IVec S8 32) ((broadcastInDim S_ ![] bcast_S_S_) (constantI S_ 32 0#32)) reduceWindows_S8_S8_w8s1p7_0 h_S_) := by
  rw [at1_v0 m c, at0_arg1 m c]
  unfold W1
  generalize W0 m c = W
  after_reads_simp
  all_goals try simp -implicitDefEqProofs only [StableHlo.TRef.toBuf, StableHlo.TRef.ofBuf, cast_cast, cast_eq]
  all_goals try rfl

theorem rd_v1 (m : (ℓ : Loc nD τ sig) → Buf (Elt F) ℓ) (c : Dev nD) : (V m c main_v1 : IVec S8 32) = ((subi) (V m c main_v0 : IVec S8 32) (V m c main_arg1 : IVec S8 32)) := by
  rw [at2_v1 m c, at1_arg1 m c, at1_v0 m c]
  unfold W2
  generalize W1 m c = W
  after_reads_simp
  all_goals try simp -implicitDefEqProofs only [StableHlo.TRef.toBuf, StableHlo.TRef.ofBuf, cast_cast, cast_eq]
  all_goals try rfl

theorem rd_c (m : (ℓ : Loc nD τ sig) → Buf (Elt F) ℓ) (c : Dev nD) : (V m c main_c : IVec S_ 32) = (constantI S_ 32 512#32) := by
  rw [at2_c m c]
  unfold W2
  generalize W1 m c = W
  after_reads_simp
  all_goals try simp -implicitDefEqProofs only [StableHlo.TRef.toBuf, StableHlo.TRef.ofBuf, cast_cast, cast_eq]
  all_goals try rfl

theorem rd_v2 (m : (ℓ : Loc nD τ sig) → Buf (Elt F) ℓ) (c : Dev nD) : (V m c main_v2 : IVec S8 32) = Routing.pyDiv bcast_S_S8 (V m c main_v1 : IVec S8 32) (V m c main_c : IVec S_ 32) := by
  rw [at3_v2 m c, at2_c m c, at2_v1 m c]
  unfold W3
  generalize W2 m c = W
  after_reads_simp
  all_goals try simp -implicitDefEqProofs only [StableHlo.TRef.toBuf, StableHlo.TRef.ofBuf, cast_cast, cast_eq]
  all_goals try rfl

theorem rd_v4 (m : (ℓ : Loc nD τ sig) → Buf (Elt F) ℓ) (c : Dev nD) : (V m c main_v4 : IVec S8 1) = ((cmpi .sgt) (V m c main_arg1 : IVec S8 32) ((broadcastInDim S8 ![] bcast_S_S8) (constantI S_ 32 0#32))) := by
  rw [at4_v4 m c, at3_arg1 m c]
  unfold W4
  generalize W3 m c = W
  after_reads_simp
  all_goals try simp -implicitDefEqProofs only [StableHlo.TRef.toBuf, StableHlo.TRef.ofBuf, cast_cast, cast_eq]
  all_goals try rfl

theorem rd_v6 (m : (ℓ : Loc nD τ sig) → Buf (Elt F) ℓ) (c : Dev nD) : (V m c main_v6 : IVec S8 32) = ((subi) (V m c main_v0 : IVec S8 32) ((broadcastInDim S8 ![] bcast_S_S8) (constantI S_ 32 1#32))) := by
  rw [at4_v6 m c, at3_v0 m c]
  unfold W4
  generalize W3 m c = W
  after_reads_simp
  all_goals try simp -implicitDefEqProofs only [StableHlo.TRef.toBuf, StableHlo.TRef.ofBuf, cast_cast, cast_eq]
  all_goals try rfl

theorem rd_c_2 (m : (ℓ : Loc nD τ sig) → Buf (Elt F) ℓ) (c : Dev nD) : (V m c main_c_2 : IVec S_ 32) = (constantI S_ 32 512#32) := by
  rw [at4_c_2 m c]
  unfold W4
  generalize W3 m c = W
  after_reads_simp
  all_goals try simp -implicitDefEqProofs only [StableHlo.TRef.toBuf, StableHlo.TRef.ofBuf, cast_cast, cast_eq]
  all_goals try rfl

theorem rd_v7 (m : (ℓ : Loc nD τ sig) → Buf (Elt F) ℓ) (c : Dev nD) : (V m c main_v7 : IVec S8 32) = Routing.pyDiv bcast_S_S8 (V m c main_v6 : IVec S8 32) (V m c main_c_2 : IVec S_ 32) := by
  rw [at5_v7 m c, at4_c_2 m c, at4_v6 m c]
  unfold W5
  generalize W4 m c = W
  after_reads_simp
  all_goals try simp -implicitDefEqProofs only [StableHlo.TRef.toBuf, StableHlo.TRef.ofBuf, cast_cast, cast_eq]
  all_goals try rfl

theorem rd_v9 (m : (ℓ : Loc nD τ sig) → Buf (Elt F) ℓ) (c : Dev nD) : (V m c main_v9 : IVec S8 32) = ((subi) (V m c main_v2 : IVec S8 32) ((broadcastInDim S8 ![] bcast_S_S8) (constantI S_ 32 1#32))) := by
  rw [at6_v9 m c, at5_v2 m c]
  unfold W6
  generalize W5 m c = W
  after_reads_simp
  all_goals try simp -implicitDefEqProofs only [StableHlo.TRef.toBuf, StableHlo.TRef.ofBuf, cast_cast, cast_eq]
  all_goals try rfl

theorem rd_v10 (m : (ℓ : Loc nD τ sig) → Buf (Elt F) ℓ) (c : Dev nD) : (V m c main_v10 : IVec S8 32) = (select (V m c main_v4 : IVec S8 1) (V m c main_v7 : IVec S8 32) (V m c main_v9 : IVec S8 32)) := by
  rw [at7_v10 m c, at6_v4 m c, at6_v7 m c, at6_v9 m c]
  unfold W7
  generalize W6 m c = W
  after_reads_simp
  all_goals try simp -implicitDefEqProofs only [StableHlo.TRef.toBuf, StableHlo.TRef.ofBuf, cast_cast, cast_eq]
  all_goals try rfl

theorem rd_v13 (m : (ℓ : Loc nD τ sig) → Buf (Elt F) ℓ) (c : Dev nD) : (V m c main_v13 : IVec S8 32) = ((addi) ((subi) (V m c main_v10 : IVec S8 32) (V m c main_v2 : IVec S8 32)) ((broadcastInDim S8 ![] bcast_S_S8) (constantI S_ 32 1#32))) := by
  rw [at8_v13 m c, at7_v10 m c, at7_v2 m c]
  unfold W8
  generalize W7 m c = W
  after_reads_simp
  all_goals try simp -implicitDefEqProofs only [StableHlo.TRef.toBuf, StableHlo.TRef.ofBuf, cast_cast, cast_eq]
  all_goals try rfl

theorem rd_v14 (m : (ℓ : Loc nD τ sig) → Buf (Elt F) ℓ) (c : Dev nD) : (V m c main_v14 : IVec S8 32) = (Host.reduceWindow IntOp.addi ![8] ![1] ![7] ![0] (V m c main_v13 : IVec S8 32) ((broadcastInDim S_ ![] bcast_S_S_) (constantI S_ 32 0#32)) reduceWindows_S8_S8_w8s1p7_0 h_S_) := by
  rw [at9_v14 m c, at8_v13 m c]
  unfold W9
  generalize W8 m c = W
  after_reads_simp
  all_goals try simp -implicitDefEqProofs only [StableHlo.TRef.toBuf, StableHlo.TRef.ofBuf, cast_cast, cast_eq]
  all_goals try rfl

theorem rd_v17 (m : (ℓ : Loc nD τ sig) → Buf (Elt F) ℓ) (c : Dev nD) : (V m c main_v17 : IVec S_ 32) = (shapeCast S_ (((extractStridedSlice S1 ![7] · slices_S8_S1_7)) (V m c main_v14 : IVec S8 32)) shapeCasts_S1_S_) := by
  rw [at10_v17 m c, at9_v14 m c]
  unfold W10
  generalize W9 m c = W
  after_reads_simp
  all_goals try simp -implicitDefEqProofs only [StableHlo.TRef.toBuf, StableHlo.TRef.ofBuf, cast_cast, cast_eq]
  all_goals try rfl

theorem rd_v19 (m : (ℓ : Loc nD τ sig) → Buf (Elt F) ℓ) (c : Dev nD) : (V m c main_v19 : IVec S71 1) = ((cmpi .slt) (iotaInDim S71 32 0) ((broadcastInDim S71 ![] bcast_S_S71) (V m c main_v17 : IVec S_ 32))) := by
  rw [at10_v19 m c, at10_v17 m c]
  unfold W10
  generalize W9 m c = W
  after_reads_simp
  all_goals try simp -implicitDefEqProofs only [StableHlo.TRef.toBuf, StableHlo.TRef.ofBuf, cast_cast, cast_eq]
  all_goals try rfl

theorem rd_v22 (m : (ℓ : Loc nD τ sig) → Buf (Elt F) ℓ) (c : Dev nD) : (V m c main_v22 : IVec S_ 32) = ((subi) (shapeCast S_ (((extractStridedSlice S1 ![7] · slices_S8_S1_7)) (V m c main_v14 : IVec S8 32)) shapeCasts_S1_S_) (constantI S_ 32 1#32)) := by
  rw [at10_v22 m c, at9_v14 m c]
  unfold W10
  generalize W9 m c = W
  after_reads_simp
  all_goals try simp -implicitDefEqProofs only [StableHlo.TRef.toBuf, StableHlo.TRef.ofBuf, cast_cast, cast_eq]
  all_goals try rfl

theorem rd_v24 (m : (ℓ : Loc nD τ sig) → Buf (Elt F) ℓ) (c : Dev nD) : (V m c main_v24 : IVec S71 32) = ((minsi) (iotaInDim S71 32 0) ((broadcastInDim S71 ![] bcast_S_S71) (V m c main_v22 : IVec S_ 32))) := by
  rw [at10_v24 m c, at10_v22 m c]
  unfold W10
  generalize W9 m c = W
  after_reads_simp
  all_goals try simp -implicitDefEqProofs only [StableHlo.TRef.toBuf, StableHlo.TRef.ofBuf, cast_cast, cast_eq]
  all_goals try rfl

theorem rd_v31 (m : (ℓ : Loc nD τ sig) → Buf (Elt F) ℓ) (c : Dev nD) : (V m c main_v31 : IVec S71 32) = (Host.reduce IntOp.addi (((extui 32 · natLt_1_32)) ((cmpi .sge) ((broadcastInDim S71x8 ![0, 1] bcast_S71x1_S71x8_0_1) ((broadcastInDim S71x1 ![0] bcast_S71_S71x1_0) (V m c main_v24 : IVec S71 32))) ((broadcastInDim S71x8 ![0, 1] bcast_S1x8_S71x8_0_1) ((broadcastInDim S1x8 ![1] bcast_S8_S1x8_1) (V m c main_v14 : IVec S8 32))))) (constantI S_ 32 0#32) reducesTo_S71x8_S71_d1 h_S_) := by
  rw [at10_v31 m c, at9_v14 m c, at10_v24 m c]
  unfold W10
  generalize W9 m c = W
  after_reads_simp
  all_goals try simp -implicitDefEqProofs only [StableHlo.TRef.toBuf, StableHlo.TRef.ofBuf, cast_cast, cast_eq]
  all_goals try rfl

theorem rd_v38 (m : (ℓ : Loc nD τ sig) → Buf (Elt F) ℓ) (c : Dev nD) : (V m c main_v38 : IVec S71 32) = (Host.gather gather_S8_S71x1_S71_n_0_n_n_0_1_1 (V m c main_v2 : IVec S8 32) ((broadcastInDim S71x1 ![0] bcast_S71_S71x1_0) ((select) ((cmpi .slt) (V m c main_v31 : IVec S71 32) ((broadcastInDim S71 ![] bcast_S_S71) (constantI S_ 32 0#32))) ((addi) (V m c main_v31 : IVec S71 32) ((broadcastInDim S71 ![] bcast_S_S71) (constantI S_ 32 8#32))) (V m c main_v31 : IVec S71 32)))) := by
  rw [at10_v38 m c, at9_v2 m c, at10_v31 m c]
  unfold W10
  generalize W9 m c = W
  after_reads_simp
  all_goals try simp -implicitDefEqProofs only [StableHlo.TRef.toBuf, StableHlo.TRef.ofBuf, cast_cast, cast_eq]
  all_goals try rfl

theorem rd_v39 (m : (ℓ : Loc nD τ sig) → Buf (Elt F) ℓ) (c : Dev nD) : (V m c main_v39 : IVec S71 32) = ((addi) (V m c main_v38 : IVec S71 32) (V m c main_v24 : IVec S71 32)) := by
  rw [at10_v39 m c, at10_v24 m c, at10_v38 m c]
  unfold W10
  generalize W9 m c = W
  after_reads_simp
  all_goals try simp -implicitDefEqProofs only [StableHlo.TRef.toBuf, StableHlo.TRef.ofBuf, cast_cast, cast_eq]
  all_goals try rfl

theorem rd_v40 (m : (ℓ : Loc nD τ sig) → Buf (Elt F) ℓ) (c : Dev nD) : (V m c main_v40 : IVec S8 32) = ((subi) (V m c main_v14 : IVec S8 32) (V m c main_v13 : IVec S8 32)) := by
  rw [at10_v40 m c, at9_v13 m c, at9_v14 m c]
  unfold W10
  generalize W9 m c = W
  after_reads_simp
  all_goals try simp -implicitDefEqProofs only [StableHlo.TRef.toBuf, StableHlo.TRef.ofBuf, cast_cast, cast_eq]
  all_goals try rfl

theorem rd_v47 (m : (ℓ : Loc nD τ sig) → Buf (Elt F) ℓ) (c : Dev nD) : (V m c main_v47 : IVec S71 32) = (Host.gather gather_S8_S71x1_S71_n_0_n_n_0_1_1 (V m c main_v40 : IVec S8 32) ((broadcastInDim S71x1 ![0] bcast_S71_S71x1_0) ((select) ((cmpi .slt) (V m c main_v31 : IVec S71 32) ((broadcastInDim S71 ![] bcast_S_S71) (constantI S_ 32 0#32))) ((addi) (V m c main_v31 : IVec S71 32) ((broadcastInDim S71 ![] bcast_S_S71) (constantI S_ 32 8#32))) (V m c main_v31 : IVec S71 32)))) := by
  rw [at10_v47 m c, at10_v31 m c, at10_v40 m c]
  unfold W10
  generalize W9 m c = W
  after_reads_simp
  all_goals try simp -implicitDefEqProofs only [StableHlo.TRef.toBuf, StableHlo.TRef.ofBuf, cast_cast, cast_eq]
  all_goals try rfl

theorem rd_v48 (m : (ℓ : Loc nD τ sig) → Buf (Elt F) ℓ) (c : Dev nD) : (V m c main_v48 : IVec S71 32) = ((subi) (V m c main_v39 : IVec S71 32) (V m c main_v47 : IVec S71 32)) := by
  rw [at10_v48 m c, at10_v39 m c, at10_v47 m c]
  unfold W10
  generalize W9 m c = W
  after_reads_simp
  all_goals try simp -implicitDefEqProofs only [StableHlo.TRef.toBuf, StableHlo.TRef.ofBuf, cast_cast, cast_eq]
  all_goals try rfl

theorem rd_v55 (m : (ℓ : Loc nD τ sig) → Buf (Elt F) ℓ) (c : Dev nD) : (V m c main_v55 : IVec S71 32) = (Host.gather gather_S8_S71x1_S71_n_0_n_n_0_1_1 (V m c main_v1 : IVec S8 32) ((broadcastInDim S71x1 ![0] bcast_S71_S71x1_0) ((select) ((cmpi .slt) (V m c main_v31 : IVec S71 32) ((broadcastInDim S71 ![] bcast_S_S71) (constantI S_ 32 0#32))) ((addi) (V m c main_v31 : IVec S71 32) ((broadcastInDim S71 ![] bcast_S_S71) (constantI S_ 32 8#32))) (V m c main_v31 : IVec S71 32)))) := by
  rw [at10_v55 m c, at9_v1 m c, at10_v31 m c]
  unfold W10
  generalize W9 m c = W
  after_reads_simp
  all_goals try simp -implicitDefEqProofs only [StableHlo.TRef.toBuf, StableHlo.TRef.ofBuf, cast_cast, cast_eq]
  all_goals try rfl

theorem rd_v58 (m : (ℓ : Loc nD τ sig) → Buf (Elt F) ℓ) (c : Dev nD) : (V m c main_v58 : IVec S71 32) = ((subi) (V m c main_v55 : IVec S71 32) ((muli) (V m c main_v48 : IVec S71 32) ((broadcastInDim S71 ![] bcast_S_S71) (constantI S_ 32 512#32)))) := by
  rw [at10_v58 m c, at10_v48 m c, at10_v55 m c]
  unfold W10
  generalize W9 m c = W
  after_reads_simp
  all_goals try simp -implicitDefEqProofs only [StableHlo.TRef.toBuf, StableHlo.TRef.ofBuf, cast_cast, cast_eq]
  all_goals try rfl

theorem rd_c_14 (m : (ℓ : Loc nD τ sig) → Buf (Elt F) ℓ) (c : Dev nD) : (V m c main_c_14 : IVec S_ 32) = (constantI S_ 32 0#32) := by
  rw [at10_c_14 m c]
  unfold W10
  generalize W9 m c = W
  after_reads_simp
  all_goals try simp -implicitDefEqProofs only [StableHlo.TRef.toBuf, StableHlo.TRef.ofBuf, cast_cast, cast_eq]
  all_goals try rfl

theorem rd_c_15 (m : (ℓ : Loc nD τ sig) → Buf (Elt F) ℓ) (c : Dev nD) : (V m c main_c_15 : IVec S_ 32) = (constantI S_ 32 512#32) := by
  rw [at10_c_15 m c]
  unfold W10
  generalize W9 m c = W
  after_reads_simp
  all_goals try simp -implicitDefEqProofs only [StableHlo.TRef.toBuf, StableHlo.TRef.ofBuf, cast_cast, cast_eq]
  all_goals try rfl

theorem rd_v59 (m : (ℓ : Loc nD τ sig) → Buf (Elt F) ℓ) (c : Dev nD) : (V m c main_v59 : IVec S71 32) = (minsi ((broadcastInDim S71 ![] bcast_S_S71) (V m c main_c_15 : IVec S_ 32)) (maxsi ((broadcastInDim S71 ![] bcast_S_S71) (V m c main_c_14 : IVec S_ 32)) (V m c main_v58 : IVec S71 32))) := by
  rw [at11_v59 m c, at10_c_14 m c, at10_c_15 m c, at10_v58 m c]
  unfold W11
  generalize W10 m c = W
  after_reads_simp
  all_goals try simp -implicitDefEqProofs only [StableHlo.TRef.toBuf, StableHlo.TRef.ofBuf, cast_cast, cast_eq]
  all_goals try rfl

theorem rd_v66 (m : (ℓ : Loc nD τ sig) → Buf (Elt F) ℓ) (c : Dev nD) : (V m c main_v66 : IVec S71 32) = (Host.gather gather_S8_S71x1_S71_n_0_n_n_0_1_1 (V m c main_v0 : IVec S8 32) ((broadcastInDim S71x1 ![0] bcast_S71_S71x1_0) ((select) ((cmpi .slt) (V m c main_v31 : IVec S71 32) ((broadcastInDim S71 ![] bcast_S_S71) (constantI S_ 32 0#32))) ((addi) (V m c main_v31 : IVec S71 32) ((broadcastInDim S71 ![] bcast_S_S71) (constantI S_ 32 8#32))) (V m c main_v31 : IVec S71 32)))) := by
  rw [at12_v66 m c, at11_v0 m c, at11_v31 m c]
  unfold W12
  generalize W11 m c = W
  after_reads_simp
  all_goals try simp -implicitDefEqProofs only [StableHlo.TRef.toBuf, StableHlo.TRef.ofBuf, cast_cast, cast_eq]
  all_goals try rfl

theorem rd_v69 (m : (ℓ : Loc nD τ sig) → Buf (Elt F) ℓ) (c : Dev nD) : (V m c main_v69 : IVec S71 32) = ((subi) (V m c main_v66 : IVec S71 32) ((muli) (V m c main_v48 : IVec S71 32) ((broadcastInDim S71 ![] bcast_S_S71) (constantI S_ 32 512#32)))) := by
  rw [at12_v69 m c, at11_v48 m c, at12_v66 m c]
  unfold W12
  generalize W11 m c = W
  after_reads_simp
  all_goals try simp -implicitDefEqProofs only [StableHlo.TRef.toBuf, StableHlo.TRef.ofBuf, cast_cast, cast_eq]
  all_goals try rfl

theorem rd_c_19 (m : (ℓ : Loc nD τ sig) → Buf (Elt F) ℓ) (c : Dev nD) : (V m c main_c_19 : IVec S_ 32) = (constantI S_ 32 0#32) := by
  rw [at12_c_19 m c]
  unfold W12
  generalize W11 m c = W
  after_reads_simp
  all_goals try simp -implicitDefEqProofs only [StableHlo.TRef.toBuf, StableHlo.TRef.ofBuf, cast_cast, cast_eq]
  all_goals try rfl

theorem rd_c_20 (m : (ℓ : Loc nD τ sig) → Buf (Elt F) ℓ) (c : Dev nD) : (V m c main_c_20 : IVec S_ 32) = (constantI S_ 32 512#32) := by
  rw [at12_c_20 m c]
  unfold W12
  generalize W11 m c = W
  after_reads_simp
  all_goals try simp -implicitDefEqProofs only [StableHlo.TRef.toBuf, StableHlo.TRef.ofBuf, cast_cast, cast_eq]
  all_goals try rfl

theorem rd_v70 (m : (ℓ : Loc nD τ sig) → Buf (Elt F) ℓ) (c : Dev nD) : (V m c main_v70 : IVec S71 32) = (minsi ((broadcastInDim S71 ![] bcast_S_S71) (V m c main_c_20 : IVec S_ 32)) (maxsi ((broadcastInDim S71 ![] bcast_S_S71) (V m c main_c_19 : IVec S_ 32)) (V m c main_v69 : IVec S71 32))) := by
  rw [at13_v70 m c, at12_c_19 m c, at12_c_20 m c, at12_v69 m c]
  unfold W13
  generalize W12 m c = W
  after_reads_simp
  all_goals try simp -implicitDefEqProofs only [StableHlo.TRef.toBuf, StableHlo.TRef.ofBuf, cast_cast, cast_eq]
  all_goals try rfl

theorem rd_v71 (m : (ℓ : Loc nD τ sig) → Buf (Elt F) ℓ) (c : Dev nD) : (V m c main_v71 : IVec S71 32) = (select (V m c main_v19 : IVec S71 1) (V m c main_v70 : IVec S71 32) (V m c main_v59 : IVec S71 32)) := by
  rw [at14_v71 m c, at13_v19 m c, at13_v59 m c, at13_v70 m c]
  unfold W14
  generalize W13 m c = W
  after_reads_simp
  all_goals try simp -implicitDefEqProofs only [StableHlo.TRef.toBuf, StableHlo.TRef.ofBuf, cast_cast, cast_eq]
  all_goals try rfl

theorem rd_v74 (m : (ℓ : Loc nD τ sig) → Buf (Elt F) ℓ) (c : Dev nD) : (V m c main_v74 : IVec S71 1) = ((andi) (V m c main_v19 : IVec S71 1) ((cmpi .eq) (V m c main_v59 : IVec S71 32) ((broadcastInDim S71 ![] bcast_S_S71) (constantI S_ 32 0#32)))) := by
  rw [at15_v74 m c, at14_v19 m c, at14_v59 m c]
  unfold W15
  generalize W14 m c = W
  after_reads_simp
  all_goals try simp -implicitDefEqProofs only [StableHlo.TRef.toBuf, StableHlo.TRef.ofBuf, cast_cast, cast_eq]
  all_goals try rfl

theorem rd_c_22 (m : (ℓ : Loc nD τ sig) → Buf (Elt F) ℓ) (c : Dev nD) : (V m c main_c_22 : IVec S_ 32) = (constantI S_ 32 1#32) := by
  rw [at15_c_22 m c]
  unfold W15
  generalize W14 m c = W
  after_reads_simp
  all_goals try simp -implicitDefEqProofs only [StableHlo.TRef.toBuf, StableHlo.TRef.ofBuf, cast_cast, cast_eq]
  all_goals try rfl

theorem rd_c_23 (m : (ℓ : Loc nD τ sig) → Buf (Elt F) ℓ) (c : Dev nD) : (V m c main_c_23 : IVec S_ 32) = (constantI S_ 32 0#32) := by
  rw [at15_c_23 m c]
  unfold W15
  generalize W14 m c = W
  after_reads_simp
  all_goals try simp -implicitDefEqProofs only [StableHlo.TRef.toBuf, StableHlo.TRef.ofBuf, cast_cast, cast_eq]
  all_goals try rfl

theorem rd_v75 (m : (ℓ : Loc nD τ sig) → Buf (Elt F) ℓ) (c : Dev nD) : (V m c main_v75 : IVec S71 32) = (select (V m c main_v74 : IVec S71 1) ((broadcastInDim S71 ![] bcast_S_S71) (V m c main_c_22 : IVec S_ 32)) ((broadcastInDim S71 ![] bcast_S_S71) (V m c main_c_23 : IVec S_ 32))) := by
  rw [at16_v75 m c, at15_c_22 m c, at15_c_23 m c, at15_v74 m c]
  unfold W16
  generalize W15 m c = W
  after_reads_simp
  all_goals try simp -implicitDefEqProofs only [StableHlo.TRef.toBuf, StableHlo.TRef.ofBuf, cast_cast, cast_eq]
  all_goals try rfl

end Cert.KernelIdeal.Own
-- ==== Proof.IDecode.lean ====
module

public import proofs.«01_k».proof.Proof.IReads
public import proofs.«01_k».proof.Proof.IWords
public import proofs.«01_k».proof.Proof.Tabs
public import Idealize.ShloMosaic.Lib.ReduceAll
public import Idealize.ShloMosaic.Lib.StableHlo.RunRead
public import Idealize.ShloMosaic.Lib.Routing.Words
public import Idealize.ShloMosaic.Lib.Routing.OpsSearch
public import Idealize.ShloMosaic.Lib.Routing.OpsPair
public import Idealize.ShloMosaic.Lib.Pipeline.TableIdle
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Stretches
public import Idealize.ShloMosaic.Lib.WordCmp
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Idealize.ShloMosaic.Routing Idealize.ShloMosaic.WordCmp

/-- The group sizes as naturals. -/
def gw (x : IVec S8 32) (k : ℕ) : ℕ := if h : k < 8 then (x (ix1 (⟨k, h⟩ : Fin 8))).toNat else 0

theorem gw_ap (x : IVec S8 32) (i : Fin 8) : x (ix1 i) = BitVec.ofNat 32 (gw x i.val) := by
  rw [gw, dif_pos i.isLt, BitVec.ofNat_toNat, BitVec.setWidth_eq]

section Table
variable (m : (ℓ : Loc nD τ sig) → Buf (Elt F) ℓ) (g : ℕ → ℕ)
  (hx : ∀ i : Fin 8, (V m 0 main_arg1 : IVec S8 32) (ix1 i) = BitVec.ofNat 32 (g i.val)) (hC : Tabs.C g 8 = 32768)

theorem C_le {k : ℕ} (hC : Tabs.C g 8 = 32768) (h : k ≤ 8) : Tabs.C g k ≤ 32768 := hC ▸ Tabs.C_mono h
theorem U_le71 {k : ℕ} (hC : Tabs.C g 8 = 32768) (h : k ≤ 8) : Tabs.U g k ≤ 71 := (Tabs.U_mono h).trans (Tabs.U8_le hC)

include hx hC

theorem v0_ap (i : Fin 8) : (V m 0 main_v0 : IVec S8 32) (ix1 i) = BitVec.ofNat 32 (Tabs.C g (i.val + 1)) := by
  rw [rd_v0]
  exact cumsum1 (N := 8) (Nm1 := 7) rfl _ g hx _ (bc0 _ _ _) _ _ i

theorem v1_ap (i : Fin 8) : (V m 0 main_v1 : IVec S8 32) (ix1 i) = BitVec.ofNat 32 (Tabs.C g i.val) := by
  rw [rd_v1, subi_ap, v0_ap m g hx hC, hx, ofNat32_sub (by rw [Tabs.C_succ]; omega), Tabs.C_succ, Nat.add_sub_cancel]

theorem v2_ap (i : Fin 8) : (V m 0 main_v2 : IVec S8 32) (ix1 i) = BitVec.ofNat 32 (Tabs.C g i.val / 512) := by
  have := C_le g hC (show i.val ≤ 8 by omega)
  rw [rd_v2]
  exact pyDiv_ap _ _ _ _ (v1_ap m g hx hC i) (by rw [rd_c]; rfl) (by omega) (by omega) (by omega)

theorem v4_ap (i : Fin 8) : (V m 0 main_v4 : IVec S8 1) (ix1 i) = BitVec.ofBool (decide (0 < g i.val)) := by
  have h1 := C_le g hC (show i.val + 1 ≤ 8 by omega)
  rw [Tabs.C_succ] at h1
  rw [rd_v4, cmpi_at, hx, bc0]
  exact cmpi_sgt_ofNat (w := 32) (by omega) (by omega)

theorem v7_ap (i : Fin 8) (h : 0 < g i.val) : (V m 0 main_v7 : IVec S8 32) (ix1 i) = BitVec.ofNat 32 ((Tabs.C g (i.val + 1) - 1) / 512) := by
  have h1 := C_le g hC (show i.val + 1 ≤ 8 by omega)
  rw [rd_v7]
  refine pyDiv_ap _ _ _ _ ?_ (by rw [rd_c_2]; rfl) (by omega) (by omega) (by omega)
  rw [rd_v6, subi_ap, v0_ap m g hx hC, bc0]
  exact ofNat32_sub (by rw [Tabs.C_succ]; omega)

theorem v13_ap (i : Fin 8) : (V m 0 main_v13 : IVec S8 32) (ix1 i) = BitVec.ofNat 32 (Tabs.n g i.val) := by
  rw [rd_v13, addi_ap, subi_ap, rd_v10, select_at, v4_ap m g hx hC, select_decide, v2_ap m g hx hC, bc0]
  unfold Tabs.n
  split
  · next h =>
    have : Tabs.C g i.val ≤ Tabs.C g (i.val + 1) - 1 := by rw [Tabs.C_succ]; omega
    rw [v7_ap m g hx hC i h, ofNat32_sub (by omega), BitVec.ofNat_add]
    rfl
  · rw [rd_v9, subi_ap, v2_ap m g hx hC, bc0]
    show _ - 1#32 - _ + 1#32 = 0#32
    generalize BitVec.ofNat 32 (Tabs.C g i.val / 512) = x
    bv_omega

theorem v14_ap (i : Fin 8) : (V m 0 main_v14 : IVec S8 32) (ix1 i) = BitVec.ofNat 32 (Tabs.U g (i.val + 1)) := by
  rw [rd_v14]
  exact cumsum1 (N := 8) (Nm1 := 7) rfl _ (Tabs.n g) (v13_ap m g hx hC) _ (bc0 _ _ _) _ _ i

theorem last_ap : shapeCast S_ (extractStridedSlice S1 ![7] (V m 0 main_v14 : IVec S8 32) slices_S8_S1_7) shapeCasts_S1_S_ ValueIdx.ix0 = BitVec.ofNat 32 (Tabs.U g 8) := by
  refine Eq.trans ?_ (v14_ap m g hx hC 7)
  have key : ∀ j : S1.Idx, extractStridedSlice S1 ![7] (V m 0 main_v14 : IVec S8 32) slices_S8_S1_7 j = (V m 0 main_v14 : IVec S8 32) (ix1 (7 : Fin 8)) := by
    intro j
    have hj : (j 0).val < 1 := (j 0).isLt
    rw [eq_ix1 j]
    refine (slice1 (m := 8) (n := 1) 7 _ slices_S8_S1_7 (j 0) (by omega)).trans ?_
    congr 2
    apply Fin.ext
    show 7 + _ = 7
    omega
  exact key _

theorem v19_ap (t : Fin 71) : (V m 0 main_v19 : IVec S71 1) (ix1 t) = BitVec.ofBool (decide (t.val < Tabs.U g 8)) := by
  have := U_le71 g hC (le_refl 8)
  rw [rd_v19, cmpi_at, bc0, rd_v17, last_ap m g hx hC]
  have ht := t.isLt
  exact cmpi_slt_ofNat (w := 32) (a := t.val) (by omega) (by omega)

theorem v24_ap (t : Fin 71) : (V m 0 main_v24 : IVec S71 32) (ix1 t) = BitVec.ofNat 32 (Tabs.uc g t.val) := by
  have := U_le71 g hC (le_refl 8)
  have hp := Tabs.U8_pos hC
  rw [rd_v24]
  show IntOp.minsi (BitVec.ofNat 32 t.val) _ = _
  rw [bc0, rd_v22, subi_ap, last_ap m g hx hC]
  show IntOp.minsi (BitVec.ofNat 32 t.val) (_ - BitVec.ofNat 32 1) = _
  rw [ofNat32_sub (by omega)]
  unfold IntOp.minsi Tabs.uc
  rw [slt_ofNat32 (by omega) (by omega)]
  by_cases h : t.val < Tabs.U g 8 - 1
  · rw [if_pos (decide_eq_true h), Nat.min_eq_left (by omega)]
  · rw [if_neg (fun e => h (of_decide_eq_true e)), Nat.min_eq_right (by omega)]

theorem v31_ap (t : Fin 71) : (V m 0 main_v31 : IVec S71 32) (ix1 t) = BitVec.ofNat 32 (Tabs.E g t.val) := by
  have h71 := U_le71 g hC (le_refl 8)
  have hu := Tabs.uc_lt hC t.val
  rw [rd_v31]
  refine reduce_count (n := 71) (m := 8) (by omega) _ _ _ _ t _ fun q => ?_
  have := U_le71 g hC (show q.val + 1 ≤ 8 by omega)
  rw [cmpi_at]
  have e1 : broadcastInDim S71x8 ![0, 1] bcast_S71x1_S71x8_0_1 (broadcastInDim S71x1 ![0] bcast_S71_S71x1_0 (V m 0 main_v24 : IVec S71 32)) (ix2 t q) = _ := bcRows (n := 71) (m := 8) _ _ _ t q
  have e2 : broadcastInDim S71x8 ![0, 1] bcast_S1x8_S71x8_0_1 (broadcastInDim S1x8 ![1] bcast_S8_S1x8_1 (V m 0 main_v14 : IVec S8 32)) (ix2 t q) = _ := bcCols (n := 71) (m := 8) _ _ _ t q
  rw [e1, e2, v24_ap m g hx hC, v14_ap m g hx hC]
  exact cmpi_sge_ofNat_eq_one_iff (w := 32) (by omega) (by omega)

/-- A table of the eight groups read at the group of a grid point. -/
theorem take_E (x : IVec S8 32) (f : ℕ → ℕ) (hf : ∀ i : Fin 8, x (ix1 i) = BitVec.ofNat 32 (f i.val)) (t : Fin 71) :
    Host.gather gather_S8_S71x1_S71_n_0_n_n_0_1_1 x (broadcastInDim S71x1 ![0] bcast_S71_S71x1_0
      (select (cmpi .slt (V m 0 main_v31 : IVec S71 32) (broadcastInDim S71 ![] bcast_S_S71 (constantI S_ 32 0#32)))
        (addi (V m 0 main_v31 : IVec S71 32) (broadcastInDim S71 ![] bcast_S_S71 (constantI S_ 32 8#32))) (V m 0 main_v31 : IVec S71 32))) (ix1 t)
      = BitVec.ofNat 32 (f (Tabs.E g t.val)) := by
  have hE := Tabs.E_lt hC t.val
  refine (take_ap (N := 8) (n := 71) gather_S8_S71x1_S71_n_0_n_n_0_1_1 rfl rfl rfl rfl x _ t hE (by omega) ?_).trans (hf _)
  refine (bcCol (n := 71) _ _ t).trans ?_
  rw [select_at, cmpi_at, bc0]
  refine (wrap_of_lt _ _ ?_).trans (v31_ap m g hx hC t)
  rw [v31_ap m g hx hC t, BitVec.toNat_ofNat, Nat.mod_eq_of_lt (by omega)]
  omega

theorem v48_ap (t : Fin 71) : (V m 0 main_v48 : IVec S71 32) (ix1 t) = BitVec.ofNat 32 (Tabs.T g t.val) := by
  have hE := Tabs.E_spec hC t.val
  rw [rd_v48, subi_ap, rd_v39, addi_ap, rd_v38, take_E m g hx hC _ (fun k => Tabs.C g k / 512) (v2_ap m g hx hC), v24_ap m g hx hC, rd_v47,
    take_E m g hx hC _ (fun k => Tabs.U g k) (fun i => ?_)]
  · rw [← BitVec.ofNat_add, ofNat32_sub (by omega)]
    rfl
  · rw [rd_v40, subi_ap, v14_ap m g hx hC, v13_ap m g hx hC, Tabs.U_succ, ofNat32_sub (by omega), Nat.add_sub_cancel]

theorem mul_T (t : Fin 71) : muli (V m 0 main_v48 : IVec S71 32) (broadcastInDim S71 ![] bcast_S_S71 (constantI S_ 32 512#32)) (ix1 t) = BitVec.ofNat 32 (512 * Tabs.T g t.val) := by
  rw [muli_ap, v48_ap m g hx hC, bc0, Nat.mul_comm, BitVec.ofNat_mul]
  rfl

theorem v59_ap (t : Fin 71) : (V m 0 main_v59 : IVec S71 32) (ix1 t) = BitVec.ofNat 32 (Tabs.lo g t.val) := by
  have hE := Tabs.E_lt hC t.val
  have hT := Tabs.T_lt hC t.val
  have := C_le g hC (show Tabs.E g t.val ≤ 8 by omega)
  rw [rd_v59]
  show IntOp.minsi (broadcastInDim S71 ![] bcast_S_S71 (V m 0 main_c_15 : IVec S_ 32) (ix1 t)) (IntOp.maxsi (broadcastInDim S71 ![] bcast_S_S71 (V m 0 main_c_14 : IVec S_ 32) (ix1 t)) _) = _
  rw [bc0, bc0, rd_c_15, rd_c_14, rd_v58, subi_ap, mul_T m g hx hC, rd_v55, take_E m g hx hC _ (fun k => Tabs.C g k) (v1_ap m g hx hC)]
  exact Tabs.clip_sub (by omega) (by omega)

theorem v71_ap (t : Fin 71) : (V m 0 main_v71 : IVec S71 32) (ix1 t) = BitVec.ofNat 32 (Tabs.hi g t.val) := by
  have hE := Tabs.E_lt hC t.val
  have hT := Tabs.T_lt hC t.val
  have := C_le g hC (show Tabs.E g t.val + 1 ≤ 8 by omega)
  rw [rd_v71, select_at, v19_ap m g hx hC, select_decide, v59_ap m g hx hC]
  unfold Tabs.hi
  split
  · rw [rd_v70]
    show IntOp.minsi (broadcastInDim S71 ![] bcast_S_S71 (V m 0 main_c_20 : IVec S_ 32) (ix1 t)) (IntOp.maxsi (broadcastInDim S71 ![] bcast_S_S71 (V m 0 main_c_19 : IVec S_ 32) (ix1 t)) _) = _
    rw [bc0, bc0, rd_c_20, rd_c_19, rd_v69, subi_ap, mul_T m g hx hC, rd_v66, take_E m g hx hC _ (fun k => Tabs.C g (k + 1)) (v0_ap m g hx hC)]
    exact Tabs.clip_sub (by omega) (by omega)
  · rfl

theorem v75_ap (t : Fin 71) : (V m 0 main_v75 : IVec S71 32) (ix1 t) = BitVec.ofNat 32 (Tabs.fst g t.val) := by
  have hlo : Tabs.lo g t.val ≤ 512 := Nat.min_le_right _ _
  rw [rd_v75, select_at, rd_v74, andi_at, v19_ap m g hx hC, cmpi_at, v59_ap m g hx hC, bc0, bc0, bc0, rd_c_22, rd_c_23]
  have e : IntOp.cmpi .eq (BitVec.ofNat 32 (Tabs.lo g t.val)) (constantI S_ 32 0#32 ValueIdx.ix0) = BitVec.ofBool (decide (Tabs.lo g t.val = 0)) :=
    cmpi_eq_ofNat (w := 32) (by omega) (by omega)
  rw [e]
  unfold Tabs.fst
  by_cases h1 : t.val < Tabs.U g 8 <;> by_cases h2 : Tabs.lo g t.val = 0 <;> simp only [h1, h2, decide_true, decide_false, and_true, and_false, true_and, false_and, if_true, if_false] <;> rfl

/-- The tables the kernel reads. -/
theorem tw_tile (t : ℕ) (h : t < 71) : tw (tbl m) 0 t h = BitVec.ofNat 32 (Tabs.T g t) := by
  refine Eq.trans ?_ (v48_ap m g hx hC ⟨t, h⟩)
  exact congrArg (V m 0 main_v48 : IVec S71 32) (eq_ix1 _)
theorem tw_ex (t : ℕ) (h : t < 71) : tw (tbl m) 1 t h = BitVec.ofNat 32 (Tabs.E g t) := by
  refine Eq.trans ?_ (v31_ap m g hx hC ⟨t, h⟩)
  exact congrArg (V m 0 main_v31 : IVec S71 32) (eq_ix1 _)
theorem tw_first (t : ℕ) (h : t < 71) : tw (tbl m) 2 t h = BitVec.ofNat 32 (Tabs.fst g t) := by
  refine Eq.trans ?_ (v75_ap m g hx hC ⟨t, h⟩)
  exact congrArg (V m 0 main_v75 : IVec S71 32) (eq_ix1 _)
theorem tw_lo (t : ℕ) (h : t < 71) : tw (tbl m) 3 t h = BitVec.ofNat 32 (Tabs.lo g t) := by
  refine Eq.trans ?_ (v59_ap m g hx hC ⟨t, h⟩)
  exact congrArg (V m 0 main_v59 : IVec S71 32) (eq_ix1 _)
theorem tw_hi (t : ℕ) (h : t < 71) : tw (tbl m) 4 t h = BitVec.ofNat 32 (Tabs.hi g t) := by
  refine Eq.trans ?_ (v71_ap m g hx hC ⟨t, h⟩)
  exact congrArg (V m 0 main_v71 : IVec S71 32) (eq_ix1 _)

theorem tabFacts : TabFacts (tbl m) where
  tile_lt t h := by
    have := Tabs.T_lt hC t
    rw [tw_tile m g hx hC, BitVec.toNat_ofNat, Nat.mod_eq_of_lt (by omega)]; exact this
  ex_lt t h := by
    have := Tabs.E_lt hC t
    rw [tw_ex m g hx hC, BitVec.toNat_ofNat, Nat.mod_eq_of_lt (by omega)]; exact this
  first0 := by
    rw [tw_first m g hx hC, Tabs.fst_zero hC, cond1_iff]
  step t h hne := by
    rw [tw_tile m g hx hC, tw_tile m g hx hC] at hne
    rw [tw_first m g hx hC, Tabs.step hC (fun e => hne (by rw [e])), cond1_iff]

end Table

/-- What the precondition says of the group sizes. -/
theorem groups_of (x : IVec S8 32) (b1 : S_.BroadcastsInDim S8 (![] : Fin 0 → Fin S8.rank)) (r1 : S8.ReducesTo [0] S_) (hu : 0 < S_.numel)
    (h1 : Host.reduce IntOp.andi (cmpi .sge x (broadcastInDim S8 ![] b1 (constantI S_ 32 0#32))) (constantI S_ 1 1#1) r1 hu ValueIdx.ix0 = 1#1)
    (h2 : Host.reduce IntOp.andi (cmpi .sle x (broadcastInDim S8 ![] b1 (constantI S_ 32 32768#32))) (constantI S_ 1 1#1) r1 hu ValueIdx.ix0 = 1#1)
    (h3 : IntOp.cmpi .eq (Host.reduce IntOp.addi x (constantI S_ 32 0#32) r1 hu ValueIdx.ix0) (32768#32) = 1#1) :
    Tabs.C (gw x) 8 = 32768 := by
  haveI : Subsingleton S_.Idx := ⟨fun a b => funext fun i => i.elim0⟩
  have hle : ∀ k, gw x k ≤ 32768 := by
    intro k
    unfold gw
    split
    · next hk =>
      have a := Host.reduce_andi_all _ _ r1 hu ValueIdx.ix0 h1 (ix1 (⟨k, hk⟩ : Fin 8))
      have b := Host.reduce_andi_all _ _ r1 hu ValueIdx.ix0 h2 (ix1 (⟨k, hk⟩ : Fin 8))
      rw [cmpi_at, bc0] at a b
      have a' := (cmpi_sge_zero (w := 32) _).symm.trans a
      rw [ofBool_decide_eq_one_iff] at a'
      have b' := (StableHlo.Predicate.sle_iff_toNat a' (show (32768#32).toNat < 2 ^ 31 by decide)).1 b
      exact b'
    · omega
  have hs := reduce_sum (N := 8) x (gw x) (gw_ap x) r1 hu
  rw [hs] at h3
  have h4 := StableHlo.Predicate.cmpi_eq_iff.1 h3
  have h5 : Tabs.C (gw x) 8 ≤ 8 * 32768 := by
    simp only [Tabs.C_succ, Tabs.C_zero]
    have := hle 0; have := hle 1; have := hle 2; have := hle 3; have := hle 4; have := hle 5; have := hle 6; have := hle 7
    omega
  have h6 := congrArg BitVec.toNat h4
  rw [BitVec.toNat_ofNat] at h6
  change Tabs.C (gw x) 8 % 2 ^ 32 = 32768 % 2 ^ 32 at h6
  omega

end Cert.KernelIdeal.Own
-- ==== Proof.IBlk.lean ====
module

public import proofs.«01_k».proof.Proof.IRun
public import proofs.«01_k».proof.Proof.IReads
public import Idealize.ShloMosaic.Lib.Pointwise
public import Idealize.ShloMosaic.Lib.StableHlo.RunRead
public import Idealize.ShloMosaic.Lib.Pipeline.TableIdle
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Stretches
public import Idealize.ShloMosaic.Lib.WordCmp
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000

variable (m : (ℓ : Loc nD τ sig) → Buf (Elt F) ℓ) (hO : Ok m)

/-! What the kernel finds in its blocks, entry by entry. -/

theorem rd_v76 (c : Dev nD) : (V m c main_v76 : FVec F S8x1x2816 .f32) = shapeCast S8x1x2816 (V m c main_arg3 : FVec F S8x2816 .f32) shapeCasts_S8x2816_S8x1x2816 := by
  rw [V_W17 m c main_v76, V_W17 m c main_arg3, up16 m c main_arg3 (by decide)]
  unfold W17
  generalize W16 m c = W
  after_reads_simp
  all_goals try simp -implicitDefEqProofs only [StableHlo.TRef.toBuf, StableHlo.TRef.ofBuf, cast_cast, cast_eq]
  all_goals try rfl

theorem v76_ap (c : Dev nD) (e : Fin 8) (j : Fin 2816) : (V m c main_v76 : FVec F S8x1x2816 .f32) (ix3 e (0 : Fin 1) j) = (V m c main_arg3 : FVec F S8x2816 .f32) (ix2 e j) := by
  rw [rd_v76]
  generalize (V m c main_arg3 : FVec F S8x2816 .f32) = x
  pointwise

theorem index0 (t : Fin (cfgM m hO).N) : ((cfgM m hO).win 0).index t = ![(tw (tbl m) 0 t.val (ptlt m hO t)).toNat, 0] := by
  show cc0_transform_0 k0_off1_inb numel1_S1 (tbl m) (grid0.coords t) = _
  rw [tr0_eq, tw_coords _ 0 t (ptlt m hO t)]
theorem index1 (t : Fin (cfgM m hO).N) : ((cfgM m hO).win 1).index t = ![(tw (tbl m) 1 t.val (ptlt m hO t)).toNat, 0, 0] := by
  show cc0_transform_1 k0_off1_inb numel1_S1 (tbl m) (grid0.coords t) = _
  rw [tr1_eq, tw_coords _ 1 t (ptlt m hO t)]
theorem index2 (t : Fin (cfgM m hO).N) : ((cfgM m hO).win 2).index t = ![(tw (tbl m) 1 t.val (ptlt m hO t)).toNat, 0, 0] := by
  show cc0_transform_2 k0_off1_inb numel1_S1 (tbl m) (grid0.coords t) = _
  rw [tr2_eq, tw_coords _ 1 t (ptlt m hO t)]

theorem iblk0_ap (c : Dev nD) (t : Fin (cfgM m hO).N) (T : ℕ) (hT : T < 64) (hw : (tw (tbl m) 0 t.val (ptlt m hO t)).toNat = T) (i : Fin 512) (k : Fin 2816) :
    (iblk m hO c 0 t : Vec F S512x2816 .bf16) (ix2 i k) = (V m c main_arg0 : Vec F S32768x2816 .bf16) (ix2 (⟨512 * T + i.val, by omega⟩ : Fin 32768) k) := by
  show (V m c main_arg0 : Vec F S32768x2816 .bf16) ((((cfgM m hO).win 0).rect t).emb (ix2 i k)) = _
  congr 1
  funext a
  apply Fin.ext
  refine (((cfgM m hO).win 0).rect_emb_val t (ix2 i k) a).trans ?_
  rw [index0, hw]
  match a with
  | ⟨0, _⟩ => show T * 512 + i.val = 512 * T + i.val; omega
  | ⟨1, _⟩ => show 0 * 2816 + k.val = k.val; omega

theorem iblk1_ap (c : Dev nD) (t : Fin (cfgM m hO).N) (e : Fin 8) (hw : (tw (tbl m) 1 t.val (ptlt m hO t)).toNat = e.val) (k j : Fin 2816) :
    (iblk m hO c 1 t : Vec F S1x2816x2816 .fp8e4m3) (ix3 (0 : Fin 1) k j) = (V m c main_arg2 : Vec F S8x2816x2816 .fp8e4m3) (ix3 e k j) := by
  show (V m c main_arg2 : Vec F S8x2816x2816 .fp8e4m3) ((((cfgM m hO).win 1).rect t).emb (ix3 (0 : Fin 1) k j)) = _
  congr 1
  funext a
  apply Fin.ext
  refine (((cfgM m hO).win 1).rect_emb_val t (ix3 (0 : Fin 1) k j) a).trans ?_
  rw [index1, hw]
  match a with
  | ⟨0, _⟩ => show e.val * 1 + 0 = e.val; omega
  | ⟨1, _⟩ => show 0 * 2816 + k.val = k.val; omega
  | ⟨2, _⟩ => show 0 * 2816 + j.val = j.val; omega

theorem iblk2_ap (c : Dev nD) (t : Fin (cfgM m hO).N) (e : Fin 8) (hw : (tw (tbl m) 1 t.val (ptlt m hO t)).toNat = e.val) (j : Fin 2816) :
    (iblk m hO c 2 t : Vec F S1x1x2816 .f32) (ix3 (0 : Fin 1) (0 : Fin 1) j) = (V m c main_arg3 : FVec F S8x2816 .f32) (ix2 e j) := by
  rw [← v76_ap]
  show (V m c main_v76 : Vec F S8x1x2816 .f32) ((((cfgM m hO).win 2).rect t).emb (ix3 (0 : Fin 1) (0 : Fin 1) j)) = _
  congr 1
  funext a
  apply Fin.ext
  refine (((cfgM m hO).win 2).rect_emb_val t (ix3 (0 : Fin 1) (0 : Fin 1) j) a).trans ?_
  rw [index2, hw]
  match a with
  | ⟨0, _⟩ => show e.val * 1 + 0 = e.val; omega
  | ⟨1, _⟩ => show 0 * 1 + 0 = 0; rfl
  | ⟨2, _⟩ => show 0 * 2816 + j.val = j.val; omega

end Cert.KernelIdeal.Own
-- ==== Proof.Ev.lean ====
module

public import Idealize.ShloMosaic.Lib.IdealHost

@[expose] public section

noncomputable section

/-! The arithmetic of one row: scaling by a power of two, clipping and scaling back is the identity. -/

namespace Ev

open Idealize.ShloMosaic

/-- The largest magnitude of a row. -/
def amax {K : ℕ} (x : Fin K → EReal) : EReal := Finset.univ.fold max ⊥ (fun k => max (x k) (-x k))

/-- The largest finite bf16 value. -/
def B : ℝ := 16711680 * 2 ^ 104

/-- The single precision constant nearest to 1/448. -/
def r0 : ℝ := 9586981 / 2 ^ 32

theorem r0_bits : Ideal.ofBits .f32 0x3B124925#32 = (r0 : EReal) := by
  have e : (0x3B124925#32).extractLsb' 23 8 = 118#8 := by decide
  have f : (0x3B124925#32).extractLsb' 0 23 = 1198373#23 := by decide
  have g : ((0x3B124925#32).extractLsb' 31 1 == 1#1) = false := by decide
  unfold Ideal.ofBits Ideal.ieee
  simp only [e, f, g, Nat.reduceAdd]
  norm_num [r0, zpow_neg]

theorem B_bits : Ideal.ofBits .f32 0x7F7F0000#32 = (B : EReal) := by
  have e : (0x7F7F0000#32).extractLsb' 23 8 = 254#8 := by decide
  have f : (0x7F7F0000#32).extractLsb' 0 23 = 8323072#23 := by decide
  have g : ((0x7F7F0000#32).extractLsb' 31 1 == 1#1) = false := by decide
  unfold Ideal.ofBits Ideal.ieee
  simp only [e, f, g, Nat.reduceAdd]
  norm_num [B]

theorem hi_bits : Ideal.ofBits .f32 0x43E00000#32 = ((448 : ℝ) : EReal) := by
  have e : (0x43E00000#32).extractLsb' 23 8 = 135#8 := by decide
  have f : (0x43E00000#32).extractLsb' 0 23 = 6291456#23 := by decide
  have g : ((0x43E00000#32).extractLsb' 31 1 == 1#1) = false := by decide
  unfold Ideal.ofBits Ideal.ieee
  simp only [e, f, g, Nat.reduceAdd]
  norm_num [zpow_neg]

theorem lo_bits : Ideal.ofBits .f32 0xC3E00000#32 = ((-448 : ℝ) : EReal) := by
  have e : (0xC3E00000#32).extractLsb' 23 8 = 135#8 := by decide
  have f : (0xC3E00000#32).extractLsb' 0 23 = 6291456#23 := by decide
  have g : ((0xC3E00000#32).extractLsb' 31 1 == 1#1) = true := by decide
  unfold Ideal.ofBits Ideal.ieee
  simp only [e, f, g, Nat.reduceAdd]
  norm_num [zpow_neg]

theorem two_bits : Ideal.ofBits .f32 0x40000000#32 = ((2 : ℝ) : EReal) := by
  have e : (0x40000000#32).extractLsb' 23 8 = 128#8 := by decide
  have f : (0x40000000#32).extractLsb' 0 23 = 0#23 := by decide
  have g : ((0x40000000#32).extractLsb' 31 1 == 1#1) = false := by decide
  unfold Ideal.ofBits Ideal.ieee
  simp only [e, f, g, Nat.reduceAdd]
  norm_num [zpow_neg]

theorem ninf_bits : Ideal.ofBits .f32 0xFF800000#32 = (⊥ : EReal) := by
  have e : (0xFF800000#32).extractLsb' 23 8 = 255#8 := by decide
  have f : (0xFF800000#32).extractLsb' 0 23 = 0#23 := by decide
  have g : ((0xFF800000#32).extractLsb' 31 1 == 1#1) = true := by decide
  unfold Ideal.ofBits Ideal.ieee
  simp only [e, f, g, Nat.reduceAdd]
  norm_num

theorem zero_bits : Ideal.ofBits .f32 0x00000000#32 = (0 : EReal) := by
  simp [Ideal.ofBits, Ideal.ieee]

/-- A biased exponent in the exponent field reads as a power of two. -/
theorem pow_bits (b : ℕ) (h1 : 1 ≤ b) (h2 : b ≤ 254) :
    Ideal.ofBits .f32 (BitVec.ofNat 32 (b * 2 ^ 23)) = (((2 : ℝ) ^ ((b : ℤ) - 127) : ℝ) : EReal) := by
  have e : ((BitVec.ofNat 32 (b * 2 ^ 23)).extractLsb' 23 8).toNat = b := by
    rw [BitVec.extractLsb'_toNat, BitVec.toNat_ofNat, Nat.shiftRight_eq_div_pow]; omega
  have f : ((BitVec.ofNat 32 (b * 2 ^ 23)).extractLsb' 0 23).toNat = 0 := by
    rw [BitVec.extractLsb'_toNat, BitVec.toNat_ofNat, Nat.shiftRight_eq_div_pow]; omega
  have g : ((BitVec.ofNat 32 (b * 2 ^ 23)).extractLsb' 31 1 == 1#1) = false := by
    rw [beq_eq_false_iff_ne]
    intro h
    have := congrArg BitVec.toNat h
    rw [BitVec.extractLsb'_toNat, BitVec.toNat_ofNat, Nat.shiftRight_eq_div_pow] at this
    simp at this; omega
  unfold Ideal.ofBits Ideal.ieee
  simp only [e, f, g, Nat.reduceAdd]
  rw [if_neg (by omega), if_neg (by omega)]
  congr 1
  have : (2 : ℝ) ^ ((b : ℤ) - 127) = (2 : ℝ) ^ (23 : ℤ) * (2 : ℝ) ^ ((b : ℤ) - 127 - 23) := by
    rw [← zpow_add₀ (by norm_num)]; congr 1; ring
  rw [this]
  norm_num

theorem inf_bits : Ideal.ofBits .f32 (BitVec.ofNat 32 (255 * 2 ^ 23)) = (⊤ : EReal) := by
  have e : (BitVec.ofNat 32 (255 * 2 ^ 23)).extractLsb' 23 8 = 255#8 := by decide
  have f : (BitVec.ofNat 32 (255 * 2 ^ 23)).extractLsb' 0 23 = 0#23 := by decide
  have g : ((BitVec.ofNat 32 (255 * 2 ^ 23)).extractLsb' 31 1 == 1#1) = false := by decide
  unfold Ideal.ofBits Ideal.ieee
  simp only [e, f, g, Nat.reduceAdd]
  norm_num

/-- A row bounded by a finite value has a real largest magnitude. -/
theorem amax_real {K : ℕ} (hK : 0 < K) (x : Fin K → EReal) (hx : ∀ k, max (x k) (-x k) ≤ (B : EReal)) :
    ∃ A : ℝ, amax x = (A : EReal) ∧ 0 ≤ A ∧ A ≤ B ∧ ∀ k, max (x k) (-x k) ≤ (A : EReal) := by
  have hle : ∀ k, max (x k) (-x k) ≤ amax x := fun k =>
    (Finset.le_fold_max _).2 (Or.inr ⟨k, Finset.mem_univ _, le_rfl⟩)
  have hB : amax x ≤ (B : EReal) := (Finset.fold_max_le _).2 ⟨bot_le, fun k _ => hx k⟩
  have h0 : (0 : EReal) ≤ amax x := by
    refine le_trans ?_ (hle ⟨0, hK⟩)
    rcases le_total 0 (x ⟨0, hK⟩) with h | h
    · exact le_max_of_le_left h
    · exact le_max_of_le_right (EReal.neg_nonneg.2 h)
  have hT : amax x ≠ ⊤ := ne_top_of_le_ne_top (EReal.coe_ne_top _) hB
  have hBt : amax x ≠ ⊥ := ne_bot_of_le_ne_bot (by simp) h0
  refine ⟨(amax x).toReal, (EReal.coe_toReal hT hBt).symm, EReal.toReal_nonneg h0, ?_, fun k => ?_⟩
  · rw [← EReal.coe_le_coe_iff, EReal.coe_toReal hT hBt]; exact hB
  · rw [EReal.coe_toReal hT hBt]; exact hle k

theorem mul_sum {K : ℕ} (a : ℝ) (ha : 0 < a) (y : Fin K → EReal) (s : Finset (Fin K)) :
    (a : EReal) * ∑ k ∈ s, y k = ∑ k ∈ s, (a : EReal) * y k := by
  induction s using Finset.induction_on with
  | empty => simp
  | insert i s hi ih =>
    rw [Finset.sum_insert hi, Finset.sum_insert hi,
      EReal.left_distrib_of_nonneg_of_ne_top (by exact_mod_cast ha.le) (EReal.coe_ne_top a), ih]

/-- Scaling, clipping without effect, and scaling back. -/
theorem row_eq {K : ℕ} (x w : Fin K → EReal) (s : EReal) (A a b : ℝ) (ha : 0 < a) (hab : a * b = 1)
    (hx : ∀ k, max (x k) (-x k) ≤ (A : EReal)) (hA : A * a ≤ 448) :
    (∑ k, min ((448 : ℝ) : EReal) (max ((-448 : ℝ) : EReal) (x k * (a : EReal))) * w k) * (b : EReal) * s
      = (∑ k, x k * w k) * s := by
  have hc : ∀ k, min ((448 : ℝ) : EReal) (max ((-448 : ℝ) : EReal) (x k * (a : EReal))) * w k = (a : EReal) * (x k * w k) := by
    intro k
    have h1 : x k ≤ (A : EReal) := le_trans (le_max_left _ _) (hx k)
    have h2 : -x k ≤ (A : EReal) := le_trans (le_max_right _ _) (hx k)
    have hT : x k ≠ ⊤ := ne_top_of_le_ne_top (EReal.coe_ne_top _) h1
    have hBt : x k ≠ ⊥ := by
      intro h
      rw [h] at h2
      exact absurd (ne_top_of_le_ne_top (EReal.coe_ne_top _) h2) (by simp)
    obtain ⟨r, hr⟩ : ∃ r : ℝ, x k = r := ⟨_, (EReal.coe_toReal hT hBt).symm⟩
    rw [hr] at h1 h2 ⊢
    have h1' : r ≤ A := by exact_mod_cast h1
    have h2' : -r ≤ A := by
      rw [← EReal.coe_neg] at h2; exact_mod_cast h2
    have h3 : r * a ≤ 448 := le_trans (mul_le_mul_of_nonneg_right h1' ha.le) hA
    have h4 : -448 ≤ r * a := by
      have := mul_le_mul_of_nonneg_right h2' ha.le
      nlinarith
    rw [← EReal.coe_mul, max_eq_right (by exact_mod_cast h4), min_eq_right (by exact_mod_cast h3), EReal.coe_mul,
      mul_comm (r : EReal) (a : EReal), mul_assoc]
  rw [Finset.sum_congr rfl fun k _ => hc k, ← mul_sum a ha, mul_comm (a : EReal), mul_assoc _ (a : EReal), ← EReal.coe_mul, hab,
    EReal.coe_one, mul_one]

theorem clip_of_lt (A : ℝ) (a b v : ℝ) (ha : 0 < a) (hab : a * b = 1) (hA : 0 ≤ A) (hv : A * r0 < b) : A * a ≤ 448 := by
  have h : A * r0 * a < 1 := by
    have := mul_lt_mul_of_pos_right hv ha
    nlinarith
  unfold r0 at h
  nlinarith [mul_nonneg hA ha.le]

/-- The number of the row's thresholds at or below a value. -/
def cnt (v : EReal) : ℕ :=
  (Finset.univ.filter fun k : Fin 255 => Ideal.ofBits .f32 (BitVec.ofNat 32 ((k.val + 1) * 2 ^ 23)) ≤ v).card

theorem cnt_spec (v : ℝ) (hv : v < 2 ^ 120) : cnt v ≤ 246 ∧ v < (2 : ℝ) ^ ((cnt v : ℤ) - 126) := by
  have thr : ∀ k : ℕ, k < 254 → Ideal.ofBits .f32 (BitVec.ofNat 32 ((k + 1) * 2 ^ 23)) = (((2 : ℝ) ^ ((k : ℤ) - 126) : ℝ) : EReal) := by
    intro k hk
    rw [pow_bits (k + 1) (by omega) (by omega)]
    congr 2; push_cast; ring
  have hlt : ∀ k : Fin 255, Ideal.ofBits .f32 (BitVec.ofNat 32 ((k.val + 1) * 2 ^ 23)) ≤ (v : EReal) → k.val < 246 := by
    intro k hk
    by_contra hn
    rcases Nat.lt_or_ge k.val 254 with h | h
    · rw [thr _ h] at hk
      have h1 : (2 : ℝ) ^ ((k.val : ℤ) - 126) ≤ v := by exact_mod_cast hk
      have h2 : (2 : ℝ) ^ (120 : ℤ) ≤ (2 : ℝ) ^ ((k.val : ℤ) - 126) := zpow_le_zpow_right₀ (by norm_num) (by omega)
      have h3 : (2 : ℝ) ^ (120 : ℤ) = 2 ^ 120 := by norm_cast
      linarith
    · have : k.val = 254 := by have := k.isLt; omega
      rw [this, inf_bits] at hk
      exact absurd hk (not_le.2 (EReal.coe_lt_top v))
  have hc : cnt v ≤ 246 := by
    unfold cnt
    refine le_trans (Finset.card_le_card_of_injOn (t := Finset.range 246) (fun k => k.val) ?_ ?_) (by simp)
    · intro k hk
      simp only [Finset.coe_filter, Finset.mem_univ, true_and, Set.mem_setOf_eq] at hk
      simpa using hlt k hk
    · intro a _ b _ h; exact Fin.ext h
  refine ⟨hc, ?_⟩
  by_contra hn
  push Not at hn
  have hsub : (Finset.univ.filter fun k : Fin 255 => k.val < cnt v + 1) ⊆
      (Finset.univ.filter fun k : Fin 255 => Ideal.ofBits .f32 (BitVec.ofNat 32 ((k.val + 1) * 2 ^ 23)) ≤ (v : EReal)) := by
    intro k hk
    simp only [Finset.mem_filter, Finset.mem_univ, true_and] at hk ⊢
    rw [thr _ (by omega)]
    have : (2 : ℝ) ^ ((k.val : ℤ) - 126) ≤ (2 : ℝ) ^ ((cnt v : ℤ) - 126) := zpow_le_zpow_right₀ (by norm_num) (by omega)
    exact_mod_cast le_trans this hn
  have h1 := Finset.card_le_card hsub
  rw [Fin.card_filter_val_lt] at h1
  change _ ≤ cnt v at h1
  omega

/-- The exponent word the kernel takes for a row whose threshold count is `n`. -/
def ew (n : ℕ) : BitVec 32 := if n = 0 ∨ n = 255 then 0#32 else BitVec.ofNat 32 n - 126#32

/-- The kernel's scales are inverse powers of two and the scaled row stays within the clip. -/
theorem kscale (A : ℝ) (h0 : 0 ≤ A) (hB : A ≤ B) : ∃ a b : ℝ, 0 < a ∧ a * b = 1 ∧ A * a ≤ 448 ∧
    Ideal.ofBits .f32 ((0#32 - ew (cnt ((A : EReal) * (r0 : EReal))) + 127#32) <<< 23) = (a : EReal) ∧
    Ideal.ofBits .f32 ((ew (cnt ((A : EReal) * (r0 : EReal))) + 127#32) <<< 23) = (b : EReal) := by
  rw [← EReal.coe_mul]
  have hv : A * r0 < 2 ^ 120 := by
    have : A * r0 ≤ B * r0 := mul_le_mul_of_nonneg_right hB (by norm_num [r0])
    refine lt_of_le_of_lt this ?_
    norm_num [B, r0]
  obtain ⟨hc, hlt⟩ := cnt_spec (A * r0) hv
  generalize cnt ((A * r0 : ℝ) : EReal) = n at hc hlt
  have key : ∀ (p q : ℕ), 1 ≤ p → p ≤ 254 → 1 ≤ q → q ≤ 254 → p + q = 254 →
      A * r0 < (2 : ℝ) ^ ((q : ℤ) - 127) →
      (0#32 - ew n + 127#32) <<< 23 = BitVec.ofNat 32 (p * 2 ^ 23) → (ew n + 127#32) <<< 23 = BitVec.ofNat 32 (q * 2 ^ 23) →
      ∃ a b : ℝ, 0 < a ∧ a * b = 1 ∧ A * a ≤ 448 ∧
      Ideal.ofBits .f32 ((0#32 - ew n + 127#32) <<< 23) = (a : EReal) ∧ Ideal.ofBits .f32 ((ew n + 127#32) <<< 23) = (b : EReal) := by
    intro p q hp hp' hq hq' hpq hlt e1 e2
    have hab : (2 : ℝ) ^ ((p : ℤ) - 127) * (2 : ℝ) ^ ((q : ℤ) - 127) = 1 := by
      rw [← zpow_add₀ (by norm_num), show ((p : ℤ) - 127 + ((q : ℤ) - 127)) = 0 by omega, zpow_zero]
    refine ⟨(2 : ℝ) ^ ((p : ℤ) - 127), (2 : ℝ) ^ ((q : ℤ) - 127), by positivity, hab, clip_of_lt A _ _ 0 (by positivity) hab h0 hlt, ?_, ?_⟩
    · rw [e1, pow_bits p hp hp']
    · rw [e2, pow_bits q hq hq']
  have sh : ∀ (y : BitVec 32) (b : ℕ), y = BitVec.ofNat 32 b → b < 256 → y <<< 23 = BitVec.ofNat 32 (b * 2 ^ 23) := by
    intro y b hy hb
    subst hy
    apply BitVec.eq_of_toNat_eq
    rw [BitVec.toNat_shiftLeft, BitVec.toNat_ofNat, BitVec.toNat_ofNat, Nat.shiftLeft_eq]
    omega
  by_cases hn : n = 0
  · subst hn
    refine key 127 127 (by norm_num) (by norm_num) (by norm_num) (by norm_num) (by norm_num) ?_ (by decide) (by decide)
    refine lt_of_lt_of_le hlt ?_
    exact zpow_le_zpow_right₀ (by norm_num) (by norm_num)
  · have he : ew n = BitVec.ofNat 32 n - 126#32 := by unfold ew; rw [if_neg (by omega)]
    refine key (253 - n) (n + 1) (by omega) (by omega) (by omega) (by omega) (by omega) ?_ (sh _ _ ?_ (by omega)) (sh _ _ ?_ (by omega))
    · refine lt_of_lt_of_eq hlt ?_
      congr 1; push_cast; ring
    · rw [he]
      apply BitVec.eq_of_toNat_eq
      simp only [BitVec.toNat_add, BitVec.toNat_sub, BitVec.toNat_ofNat]
      omega
    · rw [he]
      apply BitVec.eq_of_toNat_eq
      simp only [BitVec.toNat_add, BitVec.toNat_sub, BitVec.toNat_ofNat]
      omega

/-- The exponent the reference takes for a row of largest magnitude `A`. -/
def re (A : EReal) : EReal :=
  if A = 0 then 0 else Ideal.liftRound Int.floor (Ideal.div (Ideal.log (A * (r0 : EReal))) (Ideal.log ((2 : ℝ) : EReal))) + 1

theorem rscale (A : ℝ) (h0 : 0 ≤ A) : ∃ a b : ℝ, 0 < a ∧ a * b = 1 ∧ A * a ≤ 448 ∧
    Ideal.exp2 (0 - re (A : EReal)) = (a : EReal) ∧ Ideal.exp2 (re (A : EReal)) = (b : EReal) := by
  have key : ∀ e : ℝ, re (A : EReal) = (e : EReal) → A * r0 < (2 : ℝ) ^ e → ∃ a b : ℝ, 0 < a ∧ a * b = 1 ∧ A * a ≤ 448 ∧
      Ideal.exp2 (0 - re (A : EReal)) = (a : EReal) ∧ Ideal.exp2 (re (A : EReal)) = (b : EReal) := by
    intro e he hlt
    have hab : (2 : ℝ) ^ (-e) * (2 : ℝ) ^ e = 1 := by
      rw [← Real.rpow_add (by norm_num)]; simp
    refine ⟨(2 : ℝ) ^ (-e), (2 : ℝ) ^ e, by positivity, hab, clip_of_lt A _ _ 0 (by positivity) hab h0 hlt, ?_, ?_⟩
    · rw [he, zero_sub, ← EReal.coe_neg]; rfl
    · rw [he]; rfl
  rcases eq_or_lt_of_le h0 with h | h
  · refine key 0 ?_ ?_
    · unfold re; rw [if_pos (by exact_mod_cast h.symm)]; rfl
    · rw [← h]; norm_num
  · have hr : 0 < r0 := by norm_num [r0]
    have hv : 0 < A * r0 := mul_pos h hr
    have h2 : Real.log 2 ≠ 0 := (Real.log_pos (by norm_num)).ne'
    refine key ((⌊Real.log (A * r0) / Real.log 2⌋ : ℝ) + 1) ?_ ?_
    · unfold re
      rw [if_neg (by exact_mod_cast h.ne'), ← EReal.coe_mul]
      have l1 : Ideal.log ((A * r0 : ℝ) : EReal) = (Real.log (A * r0) : EReal) := by
        show (if A * r0 ≤ 0 then (⊥ : EReal) else (Real.log (A * r0) : EReal)) = _
        rw [if_neg (not_le.2 hv)]
      have l2 : Ideal.log ((2 : ℝ) : EReal) = (Real.log 2 : EReal) := by
        show (if (2 : ℝ) ≤ 0 then (⊥ : EReal) else (Real.log 2 : EReal)) = _
        rw [if_neg (by norm_num)]
      rw [l1, l2]
      unfold Ideal.div
      rw [if_neg (by exact_mod_cast h2), ← EReal.coe_inv, ← EReal.coe_mul, ← div_eq_mul_inv]
      rw [EReal.coe_add]
      rfl
    · have := Int.lt_floor_add_one (Real.log (A * r0) / Real.log 2)
      rw [div_lt_iff₀ (Real.log_pos (by norm_num))] at this
      rw [← Real.log_lt_log_iff hv (by positivity), Real.log_rpow (by norm_num)]
      exact this

/-- The kernel's row product. -/
theorem krow {K : ℕ} (hK : 0 < K) (x w : Fin K → EReal) (s : EReal) (hx : ∀ k, max (x k) (-x k) ≤ (B : EReal)) :
    (∑ k, min ((448 : ℝ) : EReal) (max ((-448 : ℝ) : EReal) (x k *
        Ideal.ofBits .f32 ((0#32 - ew (cnt (amax x * (r0 : EReal))) + 127#32) <<< 23))) * w k)
      * Ideal.ofBits .f32 ((ew (cnt (amax x * (r0 : EReal))) + 127#32) <<< 23) * s = (∑ k, x k * w k) * s := by
  obtain ⟨A, hA, h0, hB, hx'⟩ := amax_real hK x hx
  obtain ⟨a, b, ha, hab, hc, e1, e2⟩ := kscale A h0 hB
  rw [hA, e1, e2]
  exact row_eq x w s A a b ha hab hx' hc

/-- The reference's row product. -/
theorem rrow {K : ℕ} (hK : 0 < K) (x w : Fin K → EReal) (s : EReal) (hx : ∀ k, max (x k) (-x k) ≤ (B : EReal)) :
    (∑ k, min ((448 : ℝ) : EReal) (max ((-448 : ℝ) : EReal) (x k * Ideal.exp2 (0 - re (amax x)))) * w k)
      * Ideal.exp2 (re (amax x)) * s = (∑ k, x k * w k) * s := by
  obtain ⟨A, hA, h0, hB, hx'⟩ := amax_real hK x hx
  obtain ⟨a, b, ha, hab, hc, e1, e2⟩ := rscale A h0
  rw [hA, e1, e2]
  exact row_eq x w s A a b ha hab hx' hc

end Ev
-- ==== Proof.IElemA.lean ====
module

public import proofs.«01_k».proof.Proof.Ev
public import proofs.«01_k».proof.Proof.IBody
public import Idealize.ShloMosaic.Lib.Pointwise
public import Idealize.ShloMosaic.Lib.WordSum
public import Idealize.ShloMosaic.Lib.WordCmp

@[expose] public section

noncomputable section

/-! One element of a product block of the kernel, over the extended reals. -/

namespace Cert.KernelIdeal.Own

open Idealize.ShloMosaic
open Cert.KernelIdeal Cert.KernelIdeal.Gen

set_option maxHeartbeats 1000000

theorem shl23 (e : BitVec 32) : IntOp.shli ArithUnit.vector e 23#32 = e <<< 23 := by
  rfl

theorem pay6_ap (x : Vec Ideal S512x2816 .bf16) (i : Fin 512) (k : Fin 2816) :
    k0_pay6 x (ix2 i k) = min ((448 : ℝ) : EReal) (max ((-448 : ℝ) : EReal) (x (ix2 i k) *
        Ideal.ofBits .f32 ((0#32 - k0_pay5 x (ix2 i (0 : Fin 1)) + 127#32) <<< 23))) := by
  pointwise [k0_pay6, k0_pay4]
  rw [Ev.hi_bits, Ev.lo_bits, shl23]
  rfl

theorem pay39_ap (a : FVec Ideal S512x1 .f32) (b : Vec Ideal S512x2816 .fp8e4m3) (w : Vec Ideal S1x2816x256 .fp8e4m3) (s : Vec Ideal S1x1x256 .f32)
    (i : Fin 512) (j : Fin 256) :
    k0_pay39 a b w s (ix2 i j) = (∑ k : Fin 2816, b (ix2 i k) * w (ix3 (0 : Fin 1) k j)) * a (ix2 i (0 : Fin 1)) * s (ix3 (0 : Fin 1) (0 : Fin 1) j) := by
  pointwise [k0_pay39]

theorem codes_eq (x : Vec Ideal S512x2816 .bf16) : codes x = k0_pay6 x := by
  unfold codes k0_pay7
  funext y
  exact congrFun (shapeCast_self _ _) y

theorem rsc_ap (x : Vec Ideal S512x2816 .bf16) (i : Fin 512) :
    rsc x (ix2 i (0 : Fin 1)) = Ideal.ofBits .f32 ((k0_pay5 x (ix2 i (0 : Fin 1)) + 127#32) <<< 23) := by
  unfold rsc
  pointwise [k0_pay8]
  rw [shl23]
  rfl

theorem ldW_ap (w : Vec Ideal S1x2816x2816 .fp8e4m3) (n : Fin 11) (k : Fin 2816) (j : Fin 256) :
    View.ld w (rW n) (ix3 (0 : Fin 1) k j) = w (ix3 (0 : Fin 1) k (⟨256 * n.val + j.val, by omega⟩ : Fin 2816)) := by
  show w ((rW n).emb (ix3 (0 : Fin 1) k j)) = _
  congr 1
  funext a
  apply Fin.ext
  rw [Rect.emb_apply]
  match a with
  | ⟨0, _⟩ => rfl
  | ⟨1, _⟩ => show 0 + 1 * k.val = k.val; omega
  | ⟨2, _⟩ => show 256 * n.val + 1 * j.val = 256 * n.val + j.val; omega

theorem ldS_ap (w : Vec Ideal S1x1x2816 .f32) (n : Fin 11) (j : Fin 256) :
    View.ld w (rS n) (ix3 (0 : Fin 1) (0 : Fin 1) j) = w (ix3 (0 : Fin 1) (0 : Fin 1) (⟨256 * n.val + j.val, by omega⟩ : Fin 2816)) := by
  show w ((rS n).emb (ix3 (0 : Fin 1) (0 : Fin 1) j)) = _
  congr 1
  funext a
  apply Fin.ext
  rw [Rect.emb_apply]
  match a with
  | ⟨0, _⟩ => rfl
  | ⟨1, _⟩ => rfl
  | ⟨2, _⟩ => show 256 * n.val + 1 * j.val = 256 * n.val + j.val; omega

theorem ldO_ap (w : Vec Ideal S512x2816 .bf16) (n : Fin 11) (i : Fin 512) (j : Fin 256) :
    View.ld w (rO n) (ix2 i j) = w (ix2 i (⟨256 * n.val + j.val, by omega⟩ : Fin 2816)) := by
  show w ((rO n).emb (ix2 i j)) = _
  congr 1
  funext a
  apply Fin.ext
  rw [Rect.emb_apply]
  match a with
  | ⟨0, _⟩ => show 0 + 1 * i.val = i.val; omega
  | ⟨1, _⟩ => show 256 * n.val + 1 * j.val = 256 * n.val + j.val; omega

/-- Selecting between the product and what was there, by the row's bounds. -/
theorem maskPc_ap (l h : ℕ) (hl : l ≤ 512) (hh : h ≤ 512) (x : Vec Ideal S512x2816 .bf16) (w : Vec Ideal S1x2816x2816 .fp8e4m3) (ws : Vec Ideal S1x1x2816 .f32)
    (prev : Vec Ideal S512x2816 .bf16) (n : Fin 11) (i : Fin 512) (j : Fin 256) :
    maskPc (BitVec.ofNat 32 l) (BitVec.ofNat 32 h) x w ws prev n (ix2 i j)
      = if l ≤ i.val ∧ i.val < h then newPc x w ws n (ix2 i j) else prev (ix2 i (⟨256 * n.val + j.val, by omega⟩ : Fin 2816)) := by
  rw [← ldO_ap prev n i j]
  unfold maskPc
  pointwise [k0_pay3, k0_pay25]
  have hi : i.val < 512 := i.isLt
  rw [WordCmp.cmpi_sge_ofNat (by omega) (by omega), WordCmp.cmpi_slt_ofNat (by omega) (by omega)]
  by_cases h1 : l ≤ i.val
  · by_cases h2 : i.val < h
    · rw [if_pos ⟨h1, h2⟩, decide_eq_true h1, decide_eq_true h2]; rfl
    · rw [if_neg (fun q => h2 q.2), decide_eq_true h1, decide_eq_false h2]; rfl
  · by_cases h2 : i.val < h
    · rw [if_neg (fun q => h1 q.1), decide_eq_false h1, decide_eq_true h2]; rfl
    · rw [if_neg (fun q => h1 q.1), decide_eq_false h1, decide_eq_false h2]; rfl

theorem firstPc_ap (x : Vec Ideal S512x2816 .bf16) (w : Vec Ideal S1x2816x2816 .fp8e4m3) (ws : Vec Ideal S1x1x2816 .f32) (n : Fin 11) (i : Fin 512) (j : Fin 256) :
    firstPc x w ws n (ix2 i j) = newPc x w ws n (ix2 i j) := rfl

theorem outOf_ap (P : Fin 11 → FVec Ideal S512x256 .bf16) (i : Fin 512) (n : Fin 11) (j : Fin 256) :
    outOf P (ix2 i (⟨256 * n.val + j.val, by omega⟩ : Fin 2816)) = P n (ix2 i j) := by
  unfold outOf
  have e1 : (⟨((ix2 i (⟨256 * n.val + j.val, by omega⟩ : Fin 2816) : S512x2816.Idx) 1).val / 256, by
      have h : ((ix2 i (⟨256 * n.val + j.val, by omega⟩ : Fin 2816) : S512x2816.Idx) 1).val < 2816 := Fin.isLt _; omega⟩ : Fin 11) = n := by
    apply Fin.ext
    show (256 * n.val + j.val) / 256 = n.val
    omega
  have e2 : colIx (ix2 i (⟨256 * n.val + j.val, by omega⟩ : Fin 2816)) = ix2 i j := by
    funext a
    apply Fin.ext
    match a with
    | ⟨0, _⟩ => rfl
    | ⟨1, _⟩ => show (256 * n.val + j.val) % 256 = j.val; omega
  rw [e1, e2]

end Cert.KernelIdeal.Own
-- ==== Proof.IElemB.lean ====
module

public import proofs.«01_k».proof.Proof.Ev
public import proofs.«01_k».proof.Proof.IBody
public import Idealize.ShloMosaic.Lib.Pointwise
public import Idealize.ShloMosaic.Lib.WordSum
public import Idealize.ShloMosaic.Lib.WordCmp

@[expose] public section

noncomputable section

/-! One element of a product block of the kernel, over the extended reals. -/

namespace Cert.KernelIdeal.Own

open Idealize.ShloMosaic
open Cert.KernelIdeal Cert.KernelIdeal.Gen

set_option maxHeartbeats 1000000

/-- The rows' largest magnitudes. -/
def amaxV (x : Vec Ideal S512x2816 .bf16) : FVec Ideal S512x1 .f32 :=
  shapeCast S512x1 (multiReduction .maximumf [1] S512 (absf (k0_pay4 x)) 0xFF800000#32 reduces_S512x2816_S512 (.inl rfl) rfl) shapeCasts_S512_S512x1

/-- The comparisons of the scaled magnitudes with the thresholds. -/
def thrV (v : FVec Ideal S512x1 .f32) : IVec S512x255 1 :=
  cmpf .ole (broadcastTo S512x255 (bitcastToFloat .f32 (shli (addi (addi (iota .tc S1x255 32 [1] iota_S1x255_d1_w32) (broadcast S1x255 4294967170#32)) (broadcast S1x255 127#32)) (broadcast S1x255 23#32)) : FVec Ideal S1x255 .f32) broadcasts_S1x255_S512x255)
    (broadcastTo S512x255 (mulf v (broadcast S512x1 (Scalar.ofBits .f32 0x3B124925#32))) broadcasts_S512x1_S512x255)

/-- Their count per row. -/
def cntV (t : IVec S512x255 1) : IVec S512x1 32 :=
  shapeCast S512x1 (multiReductionI .add [1] S512 (extui 32 t natLt_1_32) 0#32 reduces_S512x255_S512 rfl) shapeCasts_S512_S512x1

/-- The exponent of a count. -/
def expV (c : IVec S512x1 32) : IVec S512x1 32 :=
  select (ori (cmpi .eq c (broadcast S512x1 0#32)) (cmpi .eq c (broadcast S512x1 255#32))) (broadcast S512x1 0#32) (subi c (broadcast S512x1 126#32))

theorem pay5_eq (x : Vec Ideal S512x2816 .bf16) : k0_pay5 x = expV (cntV (thrV (amaxV x))) := rfl

theorem amaxV_ap (x : Vec Ideal S512x2816 .bf16) (i : Fin 512) :
    amaxV x (ix2 i (0 : Fin 1)) = Ev.amax (fun k : Fin 2816 => x (ix2 i k)) := by
  pointwise [amaxV, k0_pay4]
  rw [Ev.ninf_bits]
  rfl

/-- The thresholds' words. -/
def thrW : IVec S1x255 32 :=
  shli (addi (addi (iota .tc S1x255 32 [1] iota_S1x255_d1_w32) (broadcast S1x255 4294967170#32)) (broadcast S1x255 127#32)) (broadcast S1x255 23#32)

theorem thr_word (k : ℕ) (hk : k < 255) : (BitVec.ofNat 32 k + 4294967170#32 + 127#32) <<< 23 = BitVec.ofNat 32 ((k + 1) * 2 ^ 23) := by
  apply BitVec.eq_of_toNat_eq
  rw [BitVec.toNat_shiftLeft, BitVec.toNat_add, BitVec.toNat_add, BitVec.toNat_ofNat, BitVec.toNat_ofNat, BitVec.toNat_ofNat, BitVec.toNat_ofNat, Nat.shiftLeft_eq]
  omega

theorem thrW_ap (k : Fin 255) : thrW (ix2 (0 : Fin 1) k) = BitVec.ofNat 32 ((k.val + 1) * 2 ^ 23) := by
  have e : thrW (ix2 (0 : Fin 1) k) = IntOp.shli ArithUnit.vector (BitVec.ofNat 32 (0 * 255 + k.val) + 4294967170#32 + 127#32) 23#32 := rfl
  rw [e, Nat.zero_mul, Nat.zero_add]
  exact thr_word k.val k.isLt

/-- The scaled magnitudes. -/
def scV (v : FVec Ideal S512x1 .f32) : FVec Ideal S512x1 .f32 := mulf v (broadcast S512x1 (Scalar.ofBits .f32 0x3B124925#32))

theorem scV_ap (v : FVec Ideal S512x1 .f32) (i : Fin 512) : scV v (ix2 i (0 : Fin 1)) = v (ix2 i (0 : Fin 1)) * (Ev.r0 : EReal) := by
  rw [← Ev.r0_bits]
  rfl

/-- The thresholds, and both sides of the comparison. -/
def thF : FVec Ideal S1x255 .f32 := bitcastToFloat .f32 thrW
def thB : FVec Ideal S512x255 .f32 := broadcastTo S512x255 thF broadcasts_S1x255_S512x255
def scB (v : FVec Ideal S512x1 .f32) : FVec Ideal S512x255 .f32 := broadcastTo S512x255 (scV v) broadcasts_S512x1_S512x255

theorem thrV_eq (v : FVec Ideal S512x1 .f32) : thrV v = cmpf .ole thB (scB v) := rfl
theorem cmp_at (A B : FVec Ideal S512x255 .f32) (y : S512x255.Idx) : cmpf .ole A B y = Ideal.cmp .ole (A y) (B y) := rfl
theorem thF_ap (k : Fin 255) : thF (ix2 (0 : Fin 1) k) = Ideal.ofBits .f32 (BitVec.ofNat 32 ((k.val + 1) * 2 ^ 23)) := by
  have e : thF (ix2 (0 : Fin 1) k) = Ideal.ofBits .f32 (thrW (ix2 (0 : Fin 1) k)) := rfl
  rw [e, thrW_ap]
theorem bc1 (x : FVec Ideal S1x255 .f32) (i : Fin 512) (k : Fin 255) :
    broadcastTo S512x255 x broadcasts_S1x255_S512x255 (ix2 i k) = x (ix2 (0 : Fin 1) k) :=
  broadcastTo_apply _ _ (ix2 i k) (ix2 (0 : Fin 1) k) (by intro a; match a with | ⟨0, _⟩ => rfl | ⟨1, _⟩ => rfl)
theorem bc2 (x : FVec Ideal S512x1 .f32) (i : Fin 512) (k : Fin 255) :
    broadcastTo S512x255 x broadcasts_S512x1_S512x255 (ix2 i k) = x (ix2 i (0 : Fin 1)) :=
  broadcastTo_apply _ _ (ix2 i k) (ix2 i (0 : Fin 1)) (by intro a; match a with | ⟨0, _⟩ => rfl | ⟨1, _⟩ => rfl)
theorem thB_ap (i : Fin 512) (k : Fin 255) : thB (ix2 i k) = Ideal.ofBits .f32 (BitVec.ofNat 32 ((k.val + 1) * 2 ^ 23)) :=
  (bc1 thF i k).trans (thF_ap k)
theorem scB_ap (v : FVec Ideal S512x1 .f32) (i : Fin 512) (k : Fin 255) : scB v (ix2 i k) = v (ix2 i (0 : Fin 1)) * (Ev.r0 : EReal) :=
  (bc2 (scV v) i k).trans (scV_ap v i)

theorem thrV_ap (v : FVec Ideal S512x1 .f32) (i : Fin 512) (k : Fin 255) :
    thrV v (ix2 i k) = Ideal.cmp .ole (Ideal.ofBits .f32 (BitVec.ofNat 32 ((k.val + 1) * 2 ^ 23))) (v (ix2 i (0 : Fin 1)) * (Ev.r0 : EReal)) := by
  rw [thrV_eq, cmp_at, thB_ap, scB_ap]

theorem cntV_ap (t : IVec S512x255 1) (i : Fin 512) :
    cntV t (ix2 i (0 : Fin 1)) = ∑ k : Fin 255, (t (ix2 i k)).setWidth 32 := by
  pointwise [cntV]
  rfl

theorem sum_bits {n : ℕ} (p : Fin n → Prop) [DecidablePred p] (s : Finset (Fin n)) :
    (∑ k ∈ s, (BitVec.ofBool (decide (p k))).setWidth 32) = BitVec.ofNat 32 (s.filter p).card := by
  induction s using Finset.induction_on with
  | empty => rfl
  | insert a s ha ih =>
    rw [Finset.sum_insert ha, ih, Finset.filter_insert]
    by_cases hp : p a
    · rw [if_pos hp, Finset.card_insert_of_notMem (fun q => ha (Finset.mem_filter.1 q).1), decide_eq_true hp, Nat.add_comm, BitVec.ofNat_add]
      rfl
    · rw [if_neg hp, decide_eq_false hp]
      show 0#32 + _ = _
      rw [BitVec.zero_add]

theorem cnt_word (v : FVec Ideal S512x1 .f32) (i : Fin 512) :
    cntV (thrV v) (ix2 i (0 : Fin 1)) = BitVec.ofNat 32 (Ev.cnt (v (ix2 i (0 : Fin 1)) * (Ev.r0 : EReal))) := by
  rw [cntV_ap]
  unfold Ev.cnt
  have e := sum_bits (fun k : Fin 255 => Ideal.ofBits .f32 (BitVec.ofNat 32 ((k.val + 1) * 2 ^ 23)) ≤ v (ix2 i (0 : Fin 1)) * (Ev.r0 : EReal)) Finset.univ
  refine Eq.trans (Finset.sum_congr rfl fun k _ => ?_) (e.trans ?_)
  · rw [thrV_ap, Ideal.cmp_ole]
  · congr!

theorem cnt_le (v : EReal) : Ev.cnt v ≤ 255 := by
  unfold Ev.cnt
  exact (Finset.card_filter_le _ _).trans (by simp)

theorem expV_ap (c : IVec S512x1 32) (i : Fin 512) (n : ℕ) (hn : n ≤ 255) (hc : c (ix2 i (0 : Fin 1)) = BitVec.ofNat 32 n) :
    expV c (ix2 i (0 : Fin 1)) = Ev.ew n := by
  have e : expV c (ix2 i (0 : Fin 1)) = Scalar.select (IntOp.ori (IntOp.cmpi .eq (c (ix2 i (0 : Fin 1))) (BitVec.ofNat 32 0)) (IntOp.cmpi .eq (c (ix2 i (0 : Fin 1))) (BitVec.ofNat 32 255))) 0#32 (c (ix2 i (0 : Fin 1)) - 126#32) := rfl
  rw [e, hc, WordCmp.cmpi_eq_ofNat (by omega) (by omega), WordCmp.cmpi_eq_ofNat (by omega) (by omega)]
  unfold Ev.ew
  by_cases h1 : n = 0
  · rw [if_pos (Or.inl h1), decide_eq_true h1, decide_eq_false (by omega)]; rfl
  · by_cases h2 : n = 255
    · rw [if_pos (Or.inr h2), decide_eq_false h1, decide_eq_true h2]; rfl
    · rw [if_neg (by omega), decide_eq_false h1, decide_eq_false h2]; rfl

/-- The exponent of a row. -/
theorem pay5_ap (x : Vec Ideal S512x2816 .bf16) (i : Fin 512) :
    k0_pay5 x (ix2 i (0 : Fin 1)) = Ev.ew (Ev.cnt (Ev.amax (fun k : Fin 2816 => x (ix2 i k)) * (Ev.r0 : EReal))) := by
  rw [pay5_eq]
  refine expV_ap _ i _ (cnt_le _) ?_
  rw [cnt_word, amaxV_ap]

end Cert.KernelIdeal.Own
-- ==== Proof.IElemC.lean ====
module

public import proofs.«01_k».proof.Proof.Ev
public import proofs.«01_k».proof.Proof.IElemA
public import proofs.«01_k».proof.Proof.IElemB
public import Idealize.ShloMosaic.Lib.Pointwise
public import Idealize.ShloMosaic.Lib.WordSum
public import Idealize.ShloMosaic.Lib.WordCmp

@[expose] public section

noncomputable section

/-! One element of a product block of the kernel, over the extended reals. -/

namespace Cert.KernelIdeal.Own

open Idealize.ShloMosaic
open Cert.KernelIdeal Cert.KernelIdeal.Gen

set_option maxHeartbeats 1000000

/-- A product entry: the row's codes, rescaled, give back the row's own product with the weights. -/
theorem newPc_ap (x : Vec Ideal S512x2816 .bf16) (w : Vec Ideal S1x2816x2816 .fp8e4m3) (ws : Vec Ideal S1x1x2816 .f32) (n : Fin 11) (i : Fin 512) (j : Fin 256)
    (hx : ∀ k : Fin 2816, max (x (ix2 i k)) (-(x (ix2 i k))) ≤ (Ev.B : EReal)) :
    newPc x w ws n (ix2 i j) = (∑ k : Fin 2816, x (ix2 i k) * w (ix3 (0 : Fin 1) k (⟨256 * n.val + j.val, by omega⟩ : Fin 2816)))
      * ws (ix3 (0 : Fin 1) (0 : Fin 1) (⟨256 * n.val + j.val, by omega⟩ : Fin 2816)) := by
  unfold newPc
  rw [pay39_ap, codes_eq, rsc_ap, ldS_ap, pay5_ap]
  refine Eq.trans ?_ (Ev.krow (by omega) (fun k : Fin 2816 => x (ix2 i k)) (fun k : Fin 2816 => w (ix3 (0 : Fin 1) k (⟨256 * n.val + j.val, by omega⟩ : Fin 2816))) _ hx)
  congr 2
  refine Finset.sum_congr rfl fun k _ => ?_
  rw [pay6_ap, ldW_ap, pay5_ap]

end Cert.KernelIdeal.Own
-- ==== Proof.TabsV.lean ====
module

public import proofs.«01_k».proof.Proof.Tabs

@[expose] public section

/-! Which rows of its tile a grid point has finished, and that every tile is finished. -/

namespace Tabs

variable {g : ℕ → ℕ}

/-- Whether row `r` is one of group `e`. -/
def In (g : ℕ → ℕ) (e r : ℕ) : Prop := C g e ≤ r ∧ r < C g (e + 1)

theorem In.le {e f r : ℕ} (h : In g e r) (hf : r < C g (f + 1)) : e ≤ f := by
  by_contra hn
  have := C_mono (g := g) (show f + 1 ≤ e by omega)
  have := h.1
  omega

theorem In.ge {e f r : ℕ} (h : In g e r) (hf : C g f ≤ r) : f ≤ e := by
  by_contra hn
  have := C_mono (g := g) (show e + 1 ≤ f by omega)
  have := h.2
  omega

variable (hC : C g 8 = 32768)
include hC

theorem exists_In {r : ℕ} (hr : r < 32768) : ∃ e, e < 8 ∧ In g e r := by
  by_contra hno
  have : ∀ k, k ≤ 8 → C g k ≤ r := by
    intro k
    induction k with
    | zero => intro _; rw [C_zero]; omega
    | succ k ih =>
      intro hk
      by_contra hlt
      exact hno ⟨k, by omega, ih (by omega), by omega⟩
  have := this 8 le_rfl
  omega

/-- At a tile's first point its rows belong to no group before the point's. -/
theorem first_own {t e r : ℕ} (hf : fst g t = 1) (hr : 512 * T g t ≤ r) (he : e ≤ E g t) (h : In g e r) : e = E g t := by
  have hlo : lo g t = 0 := by
    by_contra hn
    rw [fst, if_neg (fun q => hn q.2)] at hf
    omega
  unfold lo at hlo
  have := h.ge (show C g (E g t) ≤ r by omega)
  omega

theorem same_T {t : ℕ} (hf : fst g (t + 1) ≠ 1) : T g (t + 1) = T g t := by
  by_contra h
  exact hf (step hC h)

/-- A row between the bounds belongs to the point's own group. -/
theorem mask_own {t i e : ℕ} (hlh : lo g t < hi g t) (hi1 : lo g t ≤ i) (hi2 : i < hi g t) (hi3 : i < 512) (he : e ≤ E g t)
    (h : In g e (512 * T g t + i)) : e = E g t := by
  have ht : t < U g 8 := by
    by_contra hn
    rw [hi, if_neg hn] at hlh
    omega
  unfold lo at hi1
  have := h.ge (show C g (E g t) ≤ 512 * T g t + i by omega)
  omega

/-- Any other row was finished at the point before. -/
theorem mask_other {t i e : ℕ} (hf : fst g (t + 1) ≠ 1) (hi1 : ¬ (lo g (t + 1) ≤ i ∧ i < hi g (t + 1))) (hi3 : i < 512) (he : e ≤ E g (t + 1))
    (h : In g e (512 * T g (t + 1) + i)) : e ≤ E g t := by
  have hT := same_T hC hf
  by_cases ht : t + 1 < U g 8
  · have hlt : 512 * T g (t + 1) + i < C g (E g (t + 1)) := by
      by_contra hn
      apply hi1
      rw [hi, if_pos ht, lo]
      have := C_mono (g := g) (show e + 1 ≤ E g (t + 1) + 1 by omega)
      have := h.2
      omega
    rcases next hC ht with h1 | h1
    · omega
    · refine h.le ?_
      rw [← h1.2.1]; exact hlt
  · rw [stay_E hC (show U g 8 ≤ t + 1 by omega)] at he
    exact he

theorem uc70 : uc g 70 = U g 8 - 1 := by
  have := U8_le hC
  unfold uc; omega

theorem CE70 : C g (E g 70 + 1) = 32768 := by
  obtain ⟨h0, h1, h2⟩ := E_spec hC 70
  rw [uc70 hC] at h2
  have := C_of_U (g := g) (show E g 70 + 1 ≤ 8 by omega) (by omega)
  omega

theorem T70 : T g 70 = 63 := by
  obtain ⟨h0, h1, h2⟩ := E_spec hC 70
  have h3 := CE70 hC
  have h4 := U_mono (g := g) (show E g 70 + 1 ≤ 8 by omega)
  have h5 := U_succ (g := g) (E g 70)
  rw [n_pos (g_E hC 70), h3] at h5
  have h6 := uc70 hC
  have h7 := C_succ (g := g) (E g 70)
  have h8 := g_E hC 70
  have h9 := U8_pos hC
  unfold T
  omega

/-- At a tile's last point all its rows are finished. -/
theorem last_own {t e r : ℕ} (hl : t = 70 ∨ T g (t + 1) ≠ T g t) (hr : r < 512 * T g t + 512) (hr2 : r < 32768) (h : In g e r) : e ≤ E g t := by
  refine h.le ?_
  rcases hl with rfl | hl
  · rw [CE70 hC]; exact hr2
  · have ht : t + 1 < U g 8 := by
      by_contra hn
      exact hl (stay_T hC (by omega))
    have hs := T_spec hC (t + 1)
    have := C_succ (g := g) (E g t)
    have := g_E hC t
    rcases next hC ht with h1 | h1
    · rw [h1.1] at hs
      omega
    · omega

theorem T_succ_le (t : ℕ) : T g (t + 1) ≤ T g t + 1 := by
  by_cases ht : t + 1 < U g 8
  · rcases next hC ht with h1 | h1 <;> omega
  · rw [stay_T hC (by omega)]; omega

/-- Every tile has a last point. -/
theorem exists_last {q : ℕ} (hq : q < 64) : ∃ t, t < 71 ∧ T g t = q ∧ (t = 70 ∨ T g (t + 1) ≠ T g t) := by
  by_contra hno
  have : ∀ t, t ≤ 70 → T g t ≤ q ∧ (t = 70 → T g t ≤ q) := by
    intro t
    induction t with
    | zero => intro _; rw [T_zero hC]; omega
    | succ t ih =>
      intro ht
      have h1 := (ih (by omega)).1
      have h2 := T_succ_le hC t
      have : T g (t + 1) ≤ q := by
        by_contra hn
        exact hno ⟨t, by omega, by omega, .inr (by omega)⟩
      exact ⟨this, fun _ => this⟩
  have h3 := (this 70 le_rfl).1
  have h4 := T70 hC
  exact hno ⟨70, by omega, by omega, .inl rfl⟩

end Tabs
-- ==== Proof.IValue.lean ====
module

public import proofs.«01_k».proof.Proof.IBlk
public import proofs.«01_k».proof.Proof.IElemC
public import proofs.«01_k».proof.Proof.IDecode
public import proofs.«01_k».proof.Proof.TabsV
public import Idealize.ShloMosaic.Lib.Pipeline.ValueKit.Geometry
public import Idealize.ShloMosaic.Lib.Pipeline.TableIdle
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Stretches
public import Idealize.ShloMosaic.Lib.WordCmp
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

set_option maxHeartbeats 1000000

/-! What the kernel leaves in its result, over the extended reals. -/

/-- The product's entry at row `r` and column `j` when the row belongs to group `e`. -/
def rowval (X : Vec Ideal S32768x2816 .bf16) (Wt : Vec Ideal S8x2816x2816 .fp8e4m3) (Sc : FVec Ideal S8x2816 .f32) (e : Fin 8) (r : Fin 32768) (j : Fin 2816) : EReal :=
  (∑ k : Fin 2816, X (ix2 r k) * Wt (ix3 e k j)) * Sc (ix2 e j)

/-- Every entry is finite. -/
def FinX (X : Vec Ideal S32768x2816 .bf16) : Prop := ∀ (r : Fin 32768) (k : Fin 2816), max (X (ix2 r k)) (-(X (ix2 r k))) ≤ (Ev.B : EReal)

theorem col_split (j : Fin 2816) : ∃ (n : Fin 11) (k : Fin 256), j = (⟨256 * n.val + k.val, by omega⟩ : Fin 2816) :=
  ⟨⟨j.val / 256, by omega⟩, ⟨j.val % 256, by omega⟩, Fin.ext (by show j.val = 256 * (j.val / 256) + j.val % 256; omega)⟩

theorem idx_blk (y : S512x2816.Idx) : ∃ (i : Fin 512) (j : Fin 2816), y = ix2 i j :=
  ⟨y 0, y 1, by funext a; match a with | ⟨0, _⟩ => rfl | ⟨1, _⟩ => rfl⟩
theorem idx_arr (y : S32768x2816.Idx) : ∃ (i : Fin 32768) (j : Fin 2816), y = ix2 i j :=
  ⟨y 0, y 1, by funext a; match a with | ⟨0, _⟩ => rfl | ⟨1, _⟩ => rfl⟩

variable (m : (ℓ : Loc nD τ sig) → Buf (Elt Ideal) ℓ) (hO : Ok m) (hT : TabFacts (tbl m)) (c : Dev nD) (g : ℕ → ℕ)
  (hx : ∀ i : Fin 8, (V m 0 main_arg1 : IVec S8 32) (ValueIdx.ix1 i) = BitVec.ofNat 32 (g i.val)) (hC : Tabs.C g 8 = 32768)
  (hf : FinX (V m c main_arg0))

include hx hC in
theorem tile_nat (t : ℕ) (h : t < 71) : (tw (tbl m) 0 t h).toNat = Tabs.T g t := by
  have := Tabs.T_lt hC t
  rw [tw_tile m g hx hC, BitVec.toNat_ofNat, Nat.mod_eq_of_lt (by omega)]
include hx hC in
theorem ex_nat (t : ℕ) (h : t < 71) : (tw (tbl m) 1 t h).toNat = Tabs.E g t := by
  have := Tabs.E_lt hC t
  rw [tw_ex m g hx hC, BitVec.toNat_ofNat, Nat.mod_eq_of_lt (by omega)]

include hx hC in
theorem C1_iff (t : ℕ) (h : t < 71) : C1 m t h ↔ Tabs.fst g t = 1 := by
  unfold C1
  rw [cond1_iff, tw_first m g hx hC]
  have : Tabs.fst g t = 0 ∨ Tabs.fst g t = 1 := by unfold Tabs.fst; split <;> simp
  rcases this with e | e <;> rw [e] <;> decide

include hx hC in
theorem C2_iff (t : ℕ) (h : t < 71) (h1 : ¬ C1 m t h) : C2 m t h ↔ Tabs.lo g t < Tabs.hi g t := by
  have hl : Tabs.lo g t ≤ 512 := Nat.min_le_right _ _
  have hh : Tabs.hi g t ≤ 512 := by unfold Tabs.hi; split; exact Nat.min_le_right _ _; exact hl
  have hz : Tabs.fst g t = 0 := by
    rw [C1_iff m g hx hC] at h1
    unfold Tabs.fst at h1 ⊢
    split <;> simp_all
  unfold C2
  rw [cond2_iff, tw_first m g hx hC, tw_lo m g hx hC, tw_hi m g hx hC, hz]
  have e : IntOp.cmpi .slt (BitVec.ofNat 32 (Tabs.lo g t)) (BitVec.ofNat 32 (Tabs.hi g t)) = BitVec.ofBool (decide (Tabs.lo g t < Tabs.hi g t)) :=
    WordCmp.cmpi_slt_ofNat (w := 32) (by omega) (by omega)
  have e2 : IntOp.cmpi .slt (BitVec.ofNat 32 (Tabs.lo g t)) (BitVec.ofNat 32 (Tabs.hi g t)) = BitVec.ofBool ((BitVec.ofNat 32 (Tabs.lo g t)).slt (BitVec.ofNat 32 (Tabs.hi g t))) := rfl
  rw [e2] at e
  have e3 : (BitVec.ofNat 32 (Tabs.lo g t)).slt (BitVec.ofNat 32 (Tabs.hi g t)) = decide (Tabs.lo g t < Tabs.hi g t) := by
    revert e
    cases (BitVec.ofNat 32 (Tabs.lo g t)).slt (BitVec.ofNat 32 (Tabs.hi g t)) <;> cases decide (Tabs.lo g t < Tabs.hi g t) <;> decide
  rw [e3, decide_eq_true_iff]
  exact ⟨fun q => q.2, fun q => ⟨rfl, q⟩⟩

include hx hC hf in
theorem new_ap (t : ℕ) (h : t < 71) (n : Fin 11) (i : Fin 512) (j : Fin 256) (e : Fin 8) (he : e.val = Tabs.E g t) (r : Fin 32768) (hr : r.val = 512 * Tabs.T g t + i.val) :
    newPc (iblk m hO c 0 (pt m hO t h)) (iblk m hO c 1 (pt m hO t h)) (iblk m hO c 2 (pt m hO t h)) n (ix2 i j)
      = rowval (V m c main_arg0) (V m c main_arg2) (V m c main_arg3) e r (⟨256 * n.val + j.val, by omega⟩ : Fin 2816) := by
  have hT' := Tabs.T_lt hC t
  have ht : (tw (tbl m) 0 (pt m hO t h).val (ptlt m hO (pt m hO t h))).toNat = Tabs.T g t := tile_nat m g hx hC t h
  have hee : (tw (tbl m) 1 (pt m hO t h).val (ptlt m hO (pt m hO t h))).toNat = e.val := (ex_nat m g hx hC t h).trans he.symm
  have er : (⟨512 * Tabs.T g t + i.val, by omega⟩ : Fin 32768) = r := Fin.ext hr.symm
  have e0 : ∀ k : Fin 2816, (iblk m hO c 0 (pt m hO t h) : Vec Ideal S512x2816 .bf16) (ix2 i k) = (V m c main_arg0 : Vec Ideal S32768x2816 .bf16) (ix2 r k) := by
    intro k
    rw [iblk0_ap m hO c (pt m hO t h) _ hT' ht i k, er]
  refine (newPc_ap _ _ _ n i j ?_).trans ?_
  · intro k
    rw [e0]
    exact hf r k
  · unfold rowval
    exact congrArg₂ (fun a b : EReal => a * b) (Finset.sum_congr rfl fun k _ => congrArg₂ (fun a b : EReal => a * b) (e0 k) (iblk1_ap m hO c (pt m hO t h) e hee k _)) (iblk2_ap m hO c (pt m hO t h) e hee _)

include hT hx hC hf in
/-- Each point has the product's entries in the rows that are finished. -/
theorem aft_own (t : ℕ) (h : t < 71) (i : Fin 512) (j : Fin 2816) (e : Fin 8) (he : e.val ≤ Tabs.E g t) (r : Fin 32768) (hr : r.val = 512 * Tabs.T g t + i.val)
    (hin : Tabs.In g e.val r.val) : aft m hO c t h (ix2 i j) = rowval (V m c main_arg0) (V m c main_arg2) (V m c main_arg3) e r j := by
  induction t with
  | zero =>
    obtain ⟨n, k, rfl⟩ := col_split j
    have h1 : C1 m 0 h := (C1_iff m g hx hC 0 h).2 (Tabs.fst_zero hC)
    rw [aft_first m hO hT c 0 h h1, outOf_ap]
    refine (firstPc_ap _ _ _ n i k).trans ?_
    exact new_ap m hO c g hx hC hf 0 h n i k e (Tabs.first_own hC (Tabs.fst_zero hC) (by omega) he hin) r hr
  | succ t ih =>
    by_cases h1 : C1 m (t + 1) h
    · obtain ⟨n, k, rfl⟩ := col_split j
      have hf1 := (C1_iff m g hx hC (t + 1) h).1 h1
      rw [aft_first m hO hT c (t + 1) h h1, outOf_ap]
      refine (firstPc_ap _ _ _ n i k).trans ?_
      exact new_ap m hO c g hx hC hf (t + 1) h n i k e (Tabs.first_own hC hf1 (by omega) he hin) r hr
    · have hf1 : Tabs.fst g (t + 1) ≠ 1 := fun q => h1 ((C1_iff m g hx hC (t + 1) h).2 q)
      have hsT := Tabs.same_T hC hf1
      have hin' : Tabs.In g e.val (512 * Tabs.T g (t + 1) + i.val) := by rw [← hr]; exact hin
      by_cases h2 : C2 m (t + 1) h
      · obtain ⟨n, k, rfl⟩ := col_split j
        have hlh := (C2_iff m g hx hC (t + 1) h h1).1 h2
        have hl : Tabs.lo g (t + 1) ≤ 512 := Nat.min_le_right _ _
        have hh : Tabs.hi g (t + 1) ≤ 512 := by unfold Tabs.hi; split; exact Nat.min_le_right _ _; exact hl
        rw [aft_mask m hO c (t + 1) h (Nat.succ_ne_zero t) h1 h2, outOf_ap, tw_lo m g hx hC, tw_hi m g hx hC]
        refine (maskPc_ap _ _ hl hh _ _ _ _ n i k).trans ?_
        by_cases hi : Tabs.lo g (t + 1) ≤ i.val ∧ i.val < Tabs.hi g (t + 1)
        · rw [if_pos hi]
          exact new_ap m hO c g hx hC hf (t + 1) h n i k e (Tabs.mask_own hC hlh hi.1 hi.2 i.isLt he hin') r hr
        · rw [if_neg hi]
          exact ih (Nat.lt_of_succ_lt h) (Tabs.mask_other hC hf1 hi i.isLt he hin') (by rw [← hsT]; exact hr)
      · have hlh : ¬ Tabs.lo g (t + 1) < Tabs.hi g (t + 1) := fun q => h2 ((C2_iff m g hx hC (t + 1) h h1).2 q)
        rw [aft_carry m hO c (t + 1) h (Nat.succ_ne_zero t) h1 h2]
        exact ih (Nat.lt_of_succ_lt h) (Tabs.mask_other hC hf1 (by omega) i.isLt he hin') (by rw [← hsT]; exact hr)

include hx hC in
theorem flush_iff (t : Fin (cfgM m hO).N) : ((cfgM m hO).win 3).flush t = true ↔ (t.val = 70 ∨ Tabs.T g (t.val + 1) ≠ Tabs.T g t.val) := by
  have ht := ptlt m hO t
  have hN : grid0.N = 71 := N_0
  have ho : ((cfgM m hO).win 3).isOut = true := rfl
  rw [Pipeline.Window.flush_eq_flushF]
  unfold Pipeline.Window.flushF
  rw [ho, Bool.true_and, Bool.or_eq_true, decide_eq_true_iff, decide_eq_true_iff]
  constructor
  · rintro (h | ⟨h, a, ha⟩)
    · left
      have : t.val + 1 = grid0.N := h
      omega
    · right
      intro e
      apply ha
      rw [index3, index3, tile_nat m g hx hC, tile_nat m g hx hC]
      rw [e]
  · intro h
    by_cases h70 : t.val = 70
    · left
      show t.val + 1 = grid0.N
      omega
    · right
      have hlt : t.val + 1 < grid0.N := by omega
      refine ⟨hlt, (0 : Fin 2), ?_⟩
      rw [index3, index3, tile_nat m g hx hC, tile_nat m g hx hC]
      exact h.resolve_left h70

include hT hx hC hf in
/-- The kernel's result is any array that has each row's product with its group's weights. -/
theorem out_eq (G : Vec Ideal S32768x2816 .bf16)
    (hG : ∀ (r : Fin 32768) (j : Fin 2816) (e : Fin 8), Tabs.In g e.val r.val → rowval (V m c main_arg0) (V m c main_arg2) (V m c main_arg3) e r j = G (ix2 r j)) :
    (dats m hO 0 c).arrAt 3 (cfgM m hO).N = G := by
  refine (dats m hO 0 c).arrAt_eq_of_emb 3 G (fun t hfl y => ?_) (fun y => ?_)
  · have ht := ptlt m hO t
    have hT' := Tabs.T_lt hC t.val
    rw [flush_iff m hO g hx hC] at hfl
    obtain ⟨i, j, rfl⟩ := idx_blk y
    have hr : 512 * Tabs.T g t.val + i.val < 32768 := by omega
    obtain ⟨e, he8, hin⟩ := Tabs.exists_In hC hr
    have hemb : (((cfgM m hO).win 3).rect t).emb (ix2 i j) = ix2 (⟨512 * Tabs.T g t.val + i.val, hr⟩ : Fin 32768) j := by
      funext a
      apply Fin.ext
      refine (((cfgM m hO).win 3).rect_emb_val t (ix2 i j) a).trans ?_
      rw [index3, tile_nat m g hx hC]
      match a with
      | ⟨0, _⟩ => show Tabs.T g t.val * 512 + i.val = 512 * Tabs.T g t.val + i.val; omega
      | ⟨1, _⟩ => show 0 * 2816 + j.val = j.val; omega
    show (dats m hO 0 c).after 3 t (ix2 i j) = G ((((cfgM m hO).win 3).rect t).emb (ix2 i j))
    rw [hemb, after3, ← hG ⟨512 * Tabs.T g t.val + i.val, hr⟩ j ⟨e, he8⟩ hin]
    exact aft_own m hO hT c g hx hC hf t.val ht i j ⟨e, he8⟩ (Tabs.last_own hC hfl (by omega) hr hin) _ rfl hin
  · obtain ⟨r, j, rfl⟩ := idx_arr y
    obtain ⟨t, ht, hq, hl⟩ := Tabs.exists_last hC (show r.val / 512 < 64 by omega)
    refine ⟨pt m hO t ht, (flush_iff m hO g hx hC _).2 hl, ?_⟩
    have hemb : ix2 r j = (((cfgM m hO).win 3).rect (pt m hO t ht)).emb (ix2 (⟨r.val % 512, by omega⟩ : Fin 512) j) := by
      funext a
      apply Fin.ext
      refine Eq.trans ?_ (((cfgM m hO).win 3).rect_emb_val (pt m hO t ht) (ix2 (⟨r.val % 512, by omega⟩ : Fin 512) j) a).symm
      rw [index3, tile_nat m g hx hC]
      match a with
      | ⟨0, _⟩ => show r.val = Tabs.T g t * 512 + r.val % 512; omega
      | ⟨1, _⟩ => show j.val = 0 * 2816 + j.val; omega
    rw [hemb]
    exact View.emb_mem_set _ _

end Cert.KernelIdeal.Own
-- ==== Proof.IFin.lean ====
module

public import proofs.«01_k».proof.Proof.IValue
public import proofs.«01_k».proof.Proof.IRunL
public import Idealize.ShloMosaic.Lib.Pipeline.ValueKit.Geometry
public import Idealize.ShloMosaic.Lib.Pipeline.TableIdle
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Tactic.Stretches
public import Idealize.ShloMosaic.Lib.WordCmp
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

set_option maxHeartbeats 1000000

/-! Every run of the kernel, with its result named. -/

variable (m : (ℓ : Loc nD τ sig) → Buf (Elt Ideal) ℓ) (ρ : Dev nD → PrngReg) (hO : Ok m) (hT : TabFacts (tbl m))

include hO hT in
theorem run_val (v : (c : Dev nD) → Buf (Elt Ideal) ((c.tc : Thread nD τ).loc main_v77)) (hv : ∀ c, (dats m hO 0 c).arrAt 3 (cfgM m hO).N = v c) :
    θ_run defs (onTc (τ := τ) (main (F := Ideal))) ⟨m, fun _ => 0, ρ⟩ (fun r => ∀ c : Dev nD,
      r.2.mem ((c.tc : Thread nD τ).loc main_v77) = v c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => fun c => ⟨((h.1 c).1 3).trans (hv c), ((h.1 c).1 0).trans (((dats m hO 0 c).arrAt_in 0 rfl _).trans ((A_eq m hO c 0).trans (V_main_arg0 m c))),
      ((h.1 c).2 main_arg1 (rest1)).trans (V_main_arg1 m c),
      ((h.1 c).1 1).trans (((dats m hO 0 c).arrAt_in 1 rfl _).trans ((A_eq m hO c 1).trans (V_main_arg2 m c))),
      ((h.1 c).2 main_arg3 (rest3)).trans (V_main_arg3 m c)⟩) (run_post m ρ hO hT)

end Cert.KernelIdeal.Own
-- ==== Proof.RElem.lean ====
module

public import proofs.«01_k».proof.Proof.Ev
public import proofs.«01_k».proof.Proof.Gen.ReferenceIdeal.Frame
public import Idealize.ShloMosaic.Lib.Pointwise
public import Idealize.ShloMosaic.Lib.WordCmp

@[expose] public section

noncomputable section

/-! One element of the reference's result, over the extended reals. -/

namespace Cert.ReferenceIdeal.Own

open Idealize.ShloMosaic
open Cert.ReferenceIdeal Cert.ReferenceIdeal.Gen

set_option maxHeartbeats 1000000

/-- Whether a row's number of a group is `e`. -/
abbrev eqv (v : IVec S32768x1 32) (i : Fin 32768) (e : BitVec 32) : BitVec 1 := IntOp.cmpi .eq (v (ix2 i (0 : Fin 1))) e

theorem pay1_ap (a : FVec Ideal S32768x1 .f32) (b c : FVec Ideal S32768x2816 .f32) (i : Fin 32768) (j : Fin 2816) :
    k0_pay1 a b c (ix2 i j) = b (ix2 i j) * a (ix2 i (0 : Fin 1)) * c (ix2 i j) := by
  pointwise [k0_pay1]

theorem pay7_ap (i : Fin 32768) (j : Fin 2816) : (k0_pay7 : FVec Ideal S32768x2816 .f32) (ix2 i j) = Ideal.ofBits .f32 0x00000000#32 := rfl
theorem pay8_ap (i : Fin 32768) (j : Fin 2816) : (k0_pay8 : FVec Ideal S32768x2816 .f32) (ix2 i j) = Ideal.ofBits .f32 0x00000000#32 := rfl
theorem pay6_eq (v : Vec Ideal S32768x1 .i32) : k0_pay6 v = v := by
  funext y
  exact congrFun (shapeCast_self _ _) y

theorem pay15_ap (b : FVec Ideal S32768x2816 .fp8e4m3) (w : Vec Ideal S1x2816x2816 .fp8e4m3) (i : Fin 32768) (j : Fin 2816) :
    k0_pay15 b w (ix2 i j) = ∑ k : Fin 2816, b (ix2 i k) * w (ix3 (0 : Fin 1) k j) := by
  pointwise [k0_pay15]

theorem pay16_ap (v : IVec S32768x1 32) (i : Fin 32768) (j : Fin 2816) : k0_pay16 v (ix2 i j) = eqv v i 5#32 := by
  pointwise [k0_pay16]

theorem pay9_ap (x : Vec Ideal S32768x2816 .bf16) (w : Vec Ideal S1x2816x2816 .fp8e4m3) (i : Fin 32768) (j : Fin 2816) :
    k0_pay9 x w (ix2 i j) = ∑ k : Fin 2816, k0_pay5 x (ix2 i k) * w (ix3 (0 : Fin 1) k j) := by
  pointwise [k0_pay9]

theorem pay10_ap (v : Vec Ideal S32768x1 .i32) (i : Fin 32768) (j : Fin 2816) : k0_pay10 v (ix2 i j) = eqv v i 0#32 := by
  unfold k0_pay10
  rw [pay6_eq]
  pointwise

theorem pay11_ap (b : FVec Ideal S32768x2816 .fp8e4m3) (v : IVec S32768x1 32) (z p : FVec Ideal S32768x2816 .f32) (q : IVec S32768x2816 1) (w1 w2 : Vec Ideal S1x2816x2816 .fp8e4m3) (i : Fin 32768) (j : Fin 2816) :
    k0_pay11 b v z p q w1 w2 (ix2 i j) = Scalar.select (eqv v i 2#32) (∑ k : Fin 2816, b (ix2 i k) * w2 (ix3 (0 : Fin 1) k j))
      (Scalar.select (eqv v i 1#32) (∑ k : Fin 2816, b (ix2 i k) * w1 (ix3 (0 : Fin 1) k j)) (Scalar.select (q (ix2 i j)) (p (ix2 i j)) (z (ix2 i j)))) := by
  pointwise [k0_pay11]

theorem pay13_ap (b : FVec Ideal S32768x2816 .fp8e4m3) (v : IVec S32768x1 32) (z : FVec Ideal S32768x2816 .f32) (w1 w2 : Vec Ideal S1x2816x2816 .fp8e4m3) (i : Fin 32768) (j : Fin 2816) :
    k0_pay13 b v z w1 w2 (ix2 i j) = Scalar.select (eqv v i 4#32) (∑ k : Fin 2816, b (ix2 i k) * w2 (ix3 (0 : Fin 1) k j))
      (Scalar.select (eqv v i 3#32) (∑ k : Fin 2816, b (ix2 i k) * w1 (ix3 (0 : Fin 1) k j)) (z (ix2 i j))) := by
  pointwise [k0_pay13]

theorem pay17_ap (b : FVec Ideal S32768x2816 .fp8e4m3) (v : IVec S32768x1 32) (z p : FVec Ideal S32768x2816 .f32) (q : IVec S32768x2816 1) (w1 w2 : Vec Ideal S1x2816x2816 .fp8e4m3) (i : Fin 32768) (j : Fin 2816) :
    k0_pay17 b v z p q w1 w2 (ix2 i j) = Scalar.select (eqv v i 7#32) (∑ k : Fin 2816, b (ix2 i k) * w2 (ix3 (0 : Fin 1) k j))
      (Scalar.select (eqv v i 6#32) (∑ k : Fin 2816, b (ix2 i k) * w1 (ix3 (0 : Fin 1) k j)) (Scalar.select (q (ix2 i j)) (p (ix2 i j)) (z (ix2 i j)))) := by
  pointwise [k0_pay17]

theorem pay12_ap (v : IVec S32768x1 32) (z : FVec Ideal S32768x2816 .f32) (s0 s1 s2 : Vec Ideal S1x2816 .f32) (i : Fin 32768) (j : Fin 2816) :
    k0_pay12 v z s0 s1 s2 (ix2 i j) = Scalar.select (eqv v i 2#32) (s2 (ix2 (0 : Fin 1) j)) (Scalar.select (eqv v i 1#32) (s1 (ix2 (0 : Fin 1) j))
      (Scalar.select (eqv v i 0#32) (s0 (ix2 (0 : Fin 1) j)) (z (ix2 i j)))) := by
  pointwise [k0_pay12]

theorem pay14_ap (v : IVec S32768x1 32) (z : FVec Ideal S32768x2816 .f32) (s0 s1 : Vec Ideal S1x2816 .f32) (i : Fin 32768) (j : Fin 2816) :
    k0_pay14 v z s0 s1 (ix2 i j) = Scalar.select (eqv v i 4#32) (s1 (ix2 (0 : Fin 1) j))
      (Scalar.select (eqv v i 3#32) (s0 (ix2 (0 : Fin 1) j)) (z (ix2 i j))) := by
  pointwise [k0_pay14]

theorem pay18_ap (v : IVec S32768x1 32) (z : FVec Ideal S32768x2816 .f32) (s0 s1 s2 : Vec Ideal S1x2816 .f32) (i : Fin 32768) (j : Fin 2816) :
    k0_pay18 v z s0 s1 s2 (ix2 i j) = Scalar.select (eqv v i 7#32) (s2 (ix2 (0 : Fin 1) j)) (Scalar.select (eqv v i 6#32) (s1 (ix2 (0 : Fin 1) j))
      (Scalar.select (eqv v i 5#32) (s0 (ix2 (0 : Fin 1) j)) (z (ix2 i j)))) := by
  pointwise [k0_pay18]

/-- The rows' largest magnitudes. -/
def amaxV (x : Vec Ideal S32768x2816 .bf16) : FVec Ideal S32768x1 .f32 :=
  shapeCast S32768x1 (multiReduction .maximumf [1] S32768 (absf (k0_pay2 x)) 0xFF800000#32 reduces_S32768x2816_S32768 (.inl rfl) rfl) shapeCasts_S32768_S32768x1

/-- The exponents. -/
def expV (a : FVec Ideal S32768x1 .f32) : FVec Ideal S32768x1 .f32 :=
  select (cmpf .oeq a (broadcast S32768x1 (Scalar.ofBits .f32 0x00000000#32))) (broadcast S32768x1 (Scalar.ofBits .f32 0x00000000#32))
    (addf (floor (divf (log (mulf a (broadcast S32768x1 (Scalar.ofBits .f32 0x3B124925#32)))) (log (broadcast S32768x1 (Scalar.ofBits .f32 0x40000000#32)))))
      (broadcast S32768x1 (Scalar.ofBits .f32 0x3F800000#32)))

theorem pay3_eq (x : Vec Ideal S32768x2816 .bf16) : k0_pay3 x = expV (amaxV x) := rfl

theorem amaxV_ap (x : Vec Ideal S32768x2816 .bf16) (i : Fin 32768) :
    amaxV x (ix2 i (0 : Fin 1)) = Ev.amax (fun k : Fin 2816 => x (ix2 i k)) := by
  pointwise [amaxV, k0_pay2]
  rw [Ev.ninf_bits]
  rfl

theorem expV_ap (a : FVec Ideal S32768x1 .f32) (y : S32768x1.Idx) :
    expV a y = Scalar.select (Ideal.cmp .oeq (a y) (Ideal.ofBits .f32 0x00000000#32)) (Ideal.ofBits .f32 0x00000000#32)
      (Ideal.liftRound Int.floor (Ideal.div (Ideal.log (a y * Ideal.ofBits .f32 0x3B124925#32)) (Ideal.log (Ideal.ofBits .f32 0x40000000#32))) + Ideal.ofBits .f32 0x3F800000#32) := rfl

/-- The factor of a row: two to the negated exponent. -/
def facV (a : FVec Ideal S32768x1 .f32) : FVec Ideal S32768x1 .f32 := exp2 (subf (broadcast S32768x1 (Scalar.ofBits .f32 0x00000000#32)) a)

/-- The codes from the widened rows and their factors. -/
def codV (x : FVec Ideal S32768x2816 .f32) (a : FVec Ideal S32768x1 .f32) : FVec Ideal S32768x2816 .fp8e4m3 :=
  truncf .fp8e4m3 (minimumf (broadcast S32768x2816 (Scalar.ofBits .f32 0x43E00000#32)) (maximumf (broadcast S32768x2816 (Scalar.ofBits .f32 0xC3E00000#32))
    (mulf x (broadcastTo S32768x2816 a broadcasts_S32768x1_S32768x2816)))) bitsLt_fp8e4m3_f32

theorem pay5_eq (x : Vec Ideal S32768x2816 .bf16) : k0_pay5 x = codV (k0_pay2 x) (facV (k0_pay3 x)) := rfl

theorem facV_ap (a : FVec Ideal S32768x1 .f32) (y : S32768x1.Idx) : facV a y = Ideal.exp2 (Ideal.ofBits .f32 0x00000000#32 - a y) := rfl

theorem codV_ap (x : FVec Ideal S32768x2816 .f32) (a : FVec Ideal S32768x1 .f32) (i : Fin 32768) (k : Fin 2816) :
    codV x a (ix2 i k) = min (Ideal.ofBits .f32 0x43E00000#32) (max (Ideal.ofBits .f32 0xC3E00000#32) (x (ix2 i k) * a (ix2 i (0 : Fin 1)))) := by
  pointwise [codV]

theorem pay2_ap (x : Vec Ideal S32768x2816 .bf16) (y : S32768x2816.Idx) : k0_pay2 x y = x y := rfl

theorem one_bits : Ideal.ofBits .f32 0x3F800000#32 = (1 : EReal) := by
  have e : (0x3F800000#32).extractLsb' 23 8 = 127#8 := by decide
  have f : (0x3F800000#32).extractLsb' 0 23 = 0#23 := by decide
  have g : ((0x3F800000#32).extractLsb' 31 1 == 1#1) = false := by decide
  unfold Ideal.ofBits Ideal.ieee
  simp only [e, f, g, Nat.reduceAdd]
  norm_num [zpow_neg]

theorem pay3_ap (x : Vec Ideal S32768x2816 .bf16) (i : Fin 32768) : k0_pay3 x (ix2 i (0 : Fin 1)) = Ev.re (Ev.amax (fun k : Fin 2816 => x (ix2 i k))) := by
  rw [pay3_eq, expV_ap, amaxV_ap, Ev.zero_bits, Ev.two_bits, Ev.r0_bits, one_bits, Ev.re, Ideal.cmp_oeq]
  split_ifs with h
  · rw [decide_eq_true h]; rfl
  · rw [decide_eq_false h]; rfl

theorem pay5_ap (x : Vec Ideal S32768x2816 .bf16) (i : Fin 32768) (k : Fin 2816) :
    k0_pay5 x (ix2 i k) = min ((448 : ℝ) : EReal) (max ((-448 : ℝ) : EReal) (x (ix2 i k) * Ideal.exp2 (0 - Ev.re (Ev.amax (fun k : Fin 2816 => x (ix2 i k)))))) := by
  rw [pay5_eq, codV_ap, facV_ap, pay3_ap, pay2_ap, Ev.hi_bits, Ev.lo_bits, Ev.zero_bits]

theorem exp2_ap (a : FVec Ideal S32768x1 .f32) (y : S32768x1.Idx) : exp2 a y = Ideal.exp2 (a y) := rfl
theorem pay4_eq (x : Vec Ideal S32768x2816 .bf16) : k0_pay4 x = exp2 (k0_pay3 x) := rfl

theorem pay4_ap (x : Vec Ideal S32768x2816 .bf16) (i : Fin 32768) :
    k0_pay4 x (ix2 i (0 : Fin 1)) = Ideal.exp2 (Ev.re (Ev.amax (fun k : Fin 2816 => x (ix2 i k)))) := by
  rw [pay4_eq, exp2_ap, pay3_ap]

end Cert.ReferenceIdeal.Own
-- ==== Proof.RIds.lean ====
module

public import proofs.«01_k».proof.Proof.TabsV
public import proofs.«01_k».proof.Proof.Gen.ReferenceIdeal.Frame
public import Idealize.ShloMosaic.Lib.StableHlo.RunRead
public import Idealize.ShloMosaic.Lib.Routing.Words
public import Idealize.ShloMosaic.Lib.Routing.Ops
public import Idealize.ShloMosaic.Lib.Tactic
public import Idealize.ShloMosaic.Lib.WordCmp
public import Idealize.ShloMosaic.Lib.Pointwise

@[expose] public section

set_option maxRecDepth 16384

noncomputable section

/-! The group of every row, as the reference's host part counts it. -/

namespace Cert.ReferenceIdeal.Own

open Idealize.ShloMosaic Idealize.ShloMosaic.TcCoe Idealize.ShloMosaic.Tactic
open Cert.ReferenceIdeal Cert.ReferenceIdeal.Gen

variable {F : FTy → Type} [FloatOps F]

theorem after_app {τ : Topo} {sig : RefSig} {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => exact ih _

/-- The running sums of the group sizes. -/
def sums (x : IVec S8 32) : IVec S8 32 :=
  Host.reduceWindow IntOp.addi ![8] ![1] ![7] ![0] x (broadcastInDim S_ ![] bcast_S_S_ (constantI S_ 32 0#32)) reduceWindows_S8_S8_w8s1p7_0 h_S_

/-- Which rows lie at or after which of the first seven groups' ends. -/
def ends (s : IVec S8 32) : IVec S32768x7 1 :=
  cmpi .sge (broadcastInDim S32768x7 ![0, 1] bcast_S32768x1_S32768x7_0_1 (iotaInDim S32768x1 32 0))
    (broadcastInDim S32768x7 ![0, 1] bcast_S1x7_S32768x7_0_1 (broadcastInDim S1x7 ![1] bcast_S7_S1x7_1 (extractStridedSlice S7 ![0] s slices_S8_S7_0)))

/-- Every row's group. -/
def ids (s : IVec S8 32) : IVec S32768x1 32 :=
  broadcastInDim S32768x1 ![0] bcast_S32768_S32768x1_0
    (Host.reduce IntOp.addi (extui 32 (ends s) natLt_1_32) (constantI S_ 32 0#32) reducesTo_S32768x7_S32768_d1 h_S_)

theorem col_ap (w : IVec S32768 32) (r : Fin 32768) : broadcastInDim S32768x1 ![0] bcast_S32768_S32768x1_0 w (ix2 r (0 : Fin 1)) = w (ValueIdx.ix1 r) := by
  have h : w (ValueIdx.ix1 r) = w (ix1 r) := congrArg w (funext fun a => match a with | ⟨0, _⟩ => rfl)
  rw [h]
  pointwise

theorem sums_ap (x : IVec S8 32) (g : ℕ → ℕ) (hx : ∀ i : Fin 8, x (ValueIdx.ix1 i) = BitVec.ofNat 32 (g i.val)) (i : Fin 8) :
    sums x (ValueIdx.ix1 i) = BitVec.ofNat 32 (Tabs.C g (i.val + 1)) :=
  Routing.cumsum1 (N := 8) (Nm1 := 7) rfl x g hx _ (Routing.bc0 _ _ _) _ _ i

theorem ends_ap (s : IVec S8 32) (r : Fin 32768) (q : Fin 7) :
    ends s (ix2 r q) = IntOp.cmpi .sge (BitVec.ofNat 32 r.val) (s (ix1 (⟨q.val, by omega⟩ : Fin 8))) := by
  pointwise [ends]

theorem ids_ap (s : IVec S8 32) (g : ℕ → ℕ) (hC : Tabs.C g 8 = 32768) (hs : ∀ i : Fin 8, s (ValueIdx.ix1 i) = BitVec.ofNat 32 (Tabs.C g (i.val + 1)))
    (r : Fin 32768) (e : Fin 8) (hr : Tabs.In g e.val r.val) : ids s (ix2 r (0 : Fin 1)) = BitVec.ofNat 32 e.val := by
  have h1 : ids s (ix2 r (0 : Fin 1)) = Host.reduce IntOp.addi (extui 32 (ends s) natLt_1_32) (constantI S_ 32 0#32) reducesTo_S32768x7_S32768_d1 h_S_ (ValueIdx.ix1 r) := col_ap _ r
  rw [h1]
  refine (Routing.reduce_count (n := 32768) (m := 7) (by omega) (ends s) _ _ _ r (fun q => Tabs.C g (q + 1) ≤ r.val) fun q => ?_).trans ?_
  · have hle : Tabs.C g (q.val + 1) ≤ 32768 := hC ▸ Tabs.C_mono (by omega)
    have h2 : s (ix1 (⟨q.val, by omega⟩ : Fin 8)) = BitVec.ofNat 32 (Tabs.C g (q.val + 1)) := hs ⟨q.val, by omega⟩
    refine (Eq.congr_left (ends_ap s r q)).trans ?_
    rw [h2]
    exact WordCmp.cmpi_sge_ofNat_eq_one_iff (w := 32) (by omega) (by omega)
  · refine congrArg (BitVec.ofNat 32) ?_
    have h3 : ∀ q, q < 7 → (Tabs.C g (q + 1) ≤ r.val ↔ q < e.val) := fun q hq => by
      constructor
      · intro h
        have := hr.ge h
        omega
      · intro h
        exact (Tabs.C_mono (by omega)).trans hr.1
    have he : e.val ≤ 7 := by omega
    rw [← Routing.card_filter_fin]
    have h4 : (Finset.univ.filter fun q : Fin 7 => Tabs.C g (q.val + 1) ≤ r.val) = Finset.univ.filter fun q : Fin 7 => q.val < e.val :=
      Finset.filter_congr fun q _ => h3 q.val q.isLt
    rw [h4]
    revert he
    generalize e.val = n
    intro he
    interval_cases n <;> decide

theorem rd_v9 (m : (ℓ : Loc nD τ sig) → Buf (Elt F) ℓ) (c : Dev nD) : (V m c main_v9 : IVec S32768x1 32) = ids (sums (V m c main_arg1 : IVec S8 32)) := by
  rw [V_main_arg1]
  show StableHlo.after (List.flatten _) _ _ = _
  simp only [List.flatten_cons, List.flatten_nil, List.append_nil, after_app]
  have h0 : (m ((c : Thread nD τ).loc main_arg1) : IVec S8 32) = (fun b => m (c, b)) (Proc.devRef .tc main_arg1) := rfl
  rw [h0]
  generalize (fun b => m (c, b)) = W
  after_reads_simp
  all_goals try simp -implicitDefEqProofs only [StableHlo.TRef.toBuf, StableHlo.TRef.ofBuf, cast_cast, cast_eq]
  all_goals try rfl

end Cert.ReferenceIdeal.Own
-- ==== Proof.RValue.lean ====
module

public import proofs.«01_k».proof.Proof.RElem
public import proofs.«01_k».proof.Proof.RIds
public import Idealize.ShloMosaic.Lib.Pipeline.ValueKit

@[expose] public section

set_option maxRecDepth 16384

noncomputable section

/-! The reference's result, over the extended reals. -/

namespace Cert.ReferenceIdeal.Own

open Idealize.ShloMosaic Idealize.ShloMosaic.TcCoe Idealize.ShloMosaic.Tactic
open Cert.ReferenceIdeal Cert.ReferenceIdeal.Gen

set_option maxHeartbeats 1000000

theorem ldX_eq (x : Vec Ideal S32768x2816 .bf16) : View.ld x r0_0 = x := by
  funext y
  show x (r0_0.emb y) = x y
  refine congrArg x (funext fun a => Fin.ext ?_)
  rw [Rect.emb_apply]
  match a with
  | ⟨0, _⟩ => show 0 + 1 * _ = _; omega
  | ⟨1, _⟩ => show 0 + 1 * _ = _; omega

theorem ldI_eq (x : Vec Ideal S32768x1 .i32) : View.ld x r0_1 = x := by
  funext y
  show x (r0_1.emb y) = x y
  refine congrArg x (funext fun a => Fin.ext ?_)
  rw [Rect.emb_apply]
  match a with
  | ⟨0, _⟩ => show 0 + 1 * _ = _; omega
  | ⟨1, _⟩ => show 0 + 1 * _ = _; omega

theorem emb0 (i : Fin 32768) (j : Fin 2816) : r0_0.emb (ix2 i j) = ix2 i j := by
  refine funext fun a => Fin.ext ?_
  rw [Rect.emb_apply]
  match a with
  | ⟨0, _⟩ => show 0 + 1 * i.val = i.val; omega
  | ⟨1, _⟩ => show 0 + 1 * j.val = j.val; omega

theorem ldW0 (x : Vec Ideal S8x2816x2816 .fp8e4m3) (k j : Fin 2816) : View.ld x r0_2 (ix3 (0 : Fin 1) k j) = x (ix3 (0 : Fin 8) k j) := by
  show x (r0_2.emb (ix3 (0 : Fin 1) k j)) = _
  refine congrArg x (funext fun a => Fin.ext ?_)
  rw [Rect.emb_apply]
  match a with
  | ⟨0, _⟩ => rfl
  | ⟨1, _⟩ => show 0 + 1 * k.val = k.val; omega
  | ⟨2, _⟩ => show 0 + 1 * j.val = j.val; omega

theorem ldS0 (x : Vec Ideal S8x2816 .f32) (j : Fin 2816) : View.ld x r0_3 (ix2 (0 : Fin 1) j) = x (ix2 (0 : Fin 8) j) := by
  show x (r0_3.emb (ix2 (0 : Fin 1) j)) = _
  refine congrArg x (funext fun a => Fin.ext ?_)
  rw [Rect.emb_apply]
  match a with
  | ⟨0, _⟩ => rfl
  | ⟨1, _⟩ => show 0 + 1 * j.val = j.val; omega

theorem ldW1 (x : Vec Ideal S8x2816x2816 .fp8e4m3) (k j : Fin 2816) : View.ld x r0_4 (ix3 (0 : Fin 1) k j) = x (ix3 (1 : Fin 8) k j) := by
  show x (r0_4.emb (ix3 (0 : Fin 1) k j)) = _
  refine congrArg x (funext fun a => Fin.ext ?_)
  rw [Rect.emb_apply]
  match a with
  | ⟨0, _⟩ => rfl
  | ⟨1, _⟩ => show 0 + 1 * k.val = k.val; omega
  | ⟨2, _⟩ => show 0 + 1 * j.val = j.val; omega

theorem ldS1 (x : Vec Ideal S8x2816 .f32) (j : Fin 2816) : View.ld x r0_5 (ix2 (0 : Fin 1) j) = x (ix2 (1 : Fin 8) j) := by
  show x (r0_5.emb (ix2 (0 : Fin 1) j)) = _
  refine congrArg x (funext fun a => Fin.ext ?_)
  rw [Rect.emb_apply]
  match a with
  | ⟨0, _⟩ => rfl
  | ⟨1, _⟩ => show 0 + 1 * j.val = j.val; omega

theorem ldW2 (x : Vec Ideal S8x2816x2816 .fp8e4m3) (k j : Fin 2816) : View.ld x r0_6 (ix3 (0 : Fin 1) k j) = x (ix3 (2 : Fin 8) k j) := by
  show x (r0_6.emb (ix3 (0 : Fin 1) k j)) = _
  refine congrArg x (funext fun a => Fin.ext ?_)
  rw [Rect.emb_apply]
  match a with
  | ⟨0, _⟩ => rfl
  | ⟨1, _⟩ => show 0 + 1 * k.val = k.val; omega
  | ⟨2, _⟩ => show 0 + 1 * j.val = j.val; omega

theorem ldS2 (x : Vec Ideal S8x2816 .f32) (j : Fin 2816) : View.ld x r0_7 (ix2 (0 : Fin 1) j) = x (ix2 (2 : Fin 8) j) := by
  show x (r0_7.emb (ix2 (0 : Fin 1) j)) = _
  refine congrArg x (funext fun a => Fin.ext ?_)
  rw [Rect.emb_apply]
  match a with
  | ⟨0, _⟩ => rfl
  | ⟨1, _⟩ => show 0 + 1 * j.val = j.val; omega

theorem ldW3 (x : Vec Ideal S8x2816x2816 .fp8e4m3) (k j : Fin 2816) : View.ld x r0_8 (ix3 (0 : Fin 1) k j) = x (ix3 (3 : Fin 8) k j) := by
  show x (r0_8.emb (ix3 (0 : Fin 1) k j)) = _
  refine congrArg x (funext fun a => Fin.ext ?_)
  rw [Rect.emb_apply]
  match a with
  | ⟨0, _⟩ => rfl
  | ⟨1, _⟩ => show 0 + 1 * k.val = k.val; omega
  | ⟨2, _⟩ => show 0 + 1 * j.val = j.val; omega

theorem ldS3 (x : Vec Ideal S8x2816 .f32) (j : Fin 2816) : View.ld x r0_9 (ix2 (0 : Fin 1) j) = x (ix2 (3 : Fin 8) j) := by
  show x (r0_9.emb (ix2 (0 : Fin 1) j)) = _
  refine congrArg x (funext fun a => Fin.ext ?_)
  rw [Rect.emb_apply]
  match a with
  | ⟨0, _⟩ => rfl
  | ⟨1, _⟩ => show 0 + 1 * j.val = j.val; omega

theorem ldW4 (x : Vec Ideal S8x2816x2816 .fp8e4m3) (k j : Fin 2816) : View.ld x r0_10 (ix3 (0 : Fin 1) k j) = x (ix3 (4 : Fin 8) k j) := by
  show x (r0_10.emb (ix3 (0 : Fin 1) k j)) = _
  refine congrArg x (funext fun a => Fin.ext ?_)
  rw [Rect.emb_apply]
  match a with
  | ⟨0, _⟩ => rfl
  | ⟨1, _⟩ => show 0 + 1 * k.val = k.val; omega
  | ⟨2, _⟩ => show 0 + 1 * j.val = j.val; omega

theorem ldS4 (x : Vec Ideal S8x2816 .f32) (j : Fin 2816) : View.ld x r0_11 (ix2 (0 : Fin 1) j) = x (ix2 (4 : Fin 8) j) := by
  show x (r0_11.emb (ix2 (0 : Fin 1) j)) = _
  refine congrArg x (funext fun a => Fin.ext ?_)
  rw [Rect.emb_apply]
  match a with
  | ⟨0, _⟩ => rfl
  | ⟨1, _⟩ => show 0 + 1 * j.val = j.val; omega

theorem ldW5 (x : Vec Ideal S8x2816x2816 .fp8e4m3) (k j : Fin 2816) : View.ld x r0_12 (ix3 (0 : Fin 1) k j) = x (ix3 (5 : Fin 8) k j) := by
  show x (r0_12.emb (ix3 (0 : Fin 1) k j)) = _
  refine congrArg x (funext fun a => Fin.ext ?_)
  rw [Rect.emb_apply]
  match a with
  | ⟨0, _⟩ => rfl
  | ⟨1, _⟩ => show 0 + 1 * k.val = k.val; omega
  | ⟨2, _⟩ => show 0 + 1 * j.val = j.val; omega

theorem ldS5 (x : Vec Ideal S8x2816 .f32) (j : Fin 2816) : View.ld x r0_13 (ix2 (0 : Fin 1) j) = x (ix2 (5 : Fin 8) j) := by
  show x (r0_13.emb (ix2 (0 : Fin 1) j)) = _
  refine congrArg x (funext fun a => Fin.ext ?_)
  rw [Rect.emb_apply]
  match a with
  | ⟨0, _⟩ => rfl
  | ⟨1, _⟩ => show 0 + 1 * j.val = j.val; omega

theorem ldW6 (x : Vec Ideal S8x2816x2816 .fp8e4m3) (k j : Fin 2816) : View.ld x r0_14 (ix3 (0 : Fin 1) k j) = x (ix3 (6 : Fin 8) k j) := by
  show x (r0_14.emb (ix3 (0 : Fin 1) k j)) = _
  refine congrArg x (funext fun a => Fin.ext ?_)
  rw [Rect.emb_apply]
  match a with
  | ⟨0, _⟩ => rfl
  | ⟨1, _⟩ => show 0 + 1 * k.val = k.val; omega
  | ⟨2, _⟩ => show 0 + 1 * j.val = j.val; omega

theorem ldS6 (x : Vec Ideal S8x2816 .f32) (j : Fin 2816) : View.ld x r0_15 (ix2 (0 : Fin 1) j) = x (ix2 (6 : Fin 8) j) := by
  show x (r0_15.emb (ix2 (0 : Fin 1) j)) = _
  refine congrArg x (funext fun a => Fin.ext ?_)
  rw [Rect.emb_apply]
  match a with
  | ⟨0, _⟩ => rfl
  | ⟨1, _⟩ => show 0 + 1 * j.val = j.val; omega

theorem ldW7 (x : Vec Ideal S8x2816x2816 .fp8e4m3) (k j : Fin 2816) : View.ld x r0_16 (ix3 (0 : Fin 1) k j) = x (ix3 (7 : Fin 8) k j) := by
  show x (r0_16.emb (ix3 (0 : Fin 1) k j)) = _
  refine congrArg x (funext fun a => Fin.ext ?_)
  rw [Rect.emb_apply]
  match a with
  | ⟨0, _⟩ => rfl
  | ⟨1, _⟩ => show 0 + 1 * k.val = k.val; omega
  | ⟨2, _⟩ => show 0 + 1 * j.val = j.val; omega

theorem ldS7 (x : Vec Ideal S8x2816 .f32) (j : Fin 2816) : View.ld x r0_17 (ix2 (0 : Fin 1) j) = x (ix2 (7 : Fin 8) j) := by
  show x (r0_17.emb (ix2 (0 : Fin 1) j)) = _
  refine congrArg x (funext fun a => Fin.ext ?_)
  rw [Rect.emb_apply]
  match a with
  | ⟨0, _⟩ => rfl
  | ⟨1, _⟩ => show 0 + 1 * j.val = j.val; omega

/-- One of eight values, chosen by comparing a word with the eight numbers. -/
def pick (v : BitVec 32) (p0 p1 p2 p3 p4 p5 p6 p7 z : EReal) : EReal :=
  Scalar.select (IntOp.cmpi .eq v 7#32) p7 (Scalar.select (IntOp.cmpi .eq v 6#32) p6 (Scalar.select (IntOp.cmpi .eq v 5#32) p5 (Scalar.select (IntOp.cmpi .eq v 4#32) p4 (Scalar.select (IntOp.cmpi .eq v 3#32) p3 (Scalar.select (IntOp.cmpi .eq v 2#32) p2 (Scalar.select (IntOp.cmpi .eq v 1#32) p1 (Scalar.select (IntOp.cmpi .eq v 0#32) p0 z)))))))

theorem pick0 (p0 p1 p2 p3 p4 p5 p6 p7 z : EReal) : pick (BitVec.ofNat 32 0) p0 p1 p2 p3 p4 p5 p6 p7 z = p0 := rfl
theorem pick1 (p0 p1 p2 p3 p4 p5 p6 p7 z : EReal) : pick (BitVec.ofNat 32 1) p0 p1 p2 p3 p4 p5 p6 p7 z = p1 := rfl
theorem pick2 (p0 p1 p2 p3 p4 p5 p6 p7 z : EReal) : pick (BitVec.ofNat 32 2) p0 p1 p2 p3 p4 p5 p6 p7 z = p2 := rfl
theorem pick3 (p0 p1 p2 p3 p4 p5 p6 p7 z : EReal) : pick (BitVec.ofNat 32 3) p0 p1 p2 p3 p4 p5 p6 p7 z = p3 := rfl
theorem pick4 (p0 p1 p2 p3 p4 p5 p6 p7 z : EReal) : pick (BitVec.ofNat 32 4) p0 p1 p2 p3 p4 p5 p6 p7 z = p4 := rfl
theorem pick5 (p0 p1 p2 p3 p4 p5 p6 p7 z : EReal) : pick (BitVec.ofNat 32 5) p0 p1 p2 p3 p4 p5 p6 p7 z = p5 := rfl
theorem pick6 (p0 p1 p2 p3 p4 p5 p6 p7 z : EReal) : pick (BitVec.ofNat 32 6) p0 p1 p2 p3 p4 p5 p6 p7 z = p6 := rfl
theorem pick7 (p0 p1 p2 p3 p4 p5 p6 p7 z : EReal) : pick (BitVec.ofNat 32 7) p0 p1 p2 p3 p4 p5 p6 p7 z = p7 := rfl

theorem row_fin (x0 : Vec Ideal S32768x2816 .bf16) (x2 : Vec Ideal S8x2816x2816 .fp8e4m3) (x3 : Vec Ideal S8x2816 .f32)
    (r : Fin 32768) (j : Fin 2816) (e : Fin 8) (hx : ∀ k : Fin 2816, max (x0 (ix2 r k)) (-(x0 (ix2 r k))) ≤ (Ev.B : EReal)) (p s : EReal)
    (hp : p = ∑ k : Fin 2816, k0_pay5 x0 (ix2 r k) * x2 (ix3 e k j)) (hs : s = x3 (ix2 e j)) :
    p * k0_pay4 x0 (ix2 r (0 : Fin 1)) * s = (∑ k : Fin 2816, x0 (ix2 r k) * x2 (ix3 e k j)) * x3 (ix2 e j) := by
  rw [hp, hs, pay4_ap]
  refine Eq.trans ?_ (Ev.rrow (by norm_num) (fun k : Fin 2816 => x0 (ix2 r k)) (fun k => x2 (ix3 e k j)) (x3 (ix2 e j)) hx)
  refine congrArg (fun q : EReal => q * Ideal.exp2 (Ev.re (Ev.amax fun k : Fin 2816 => x0 (ix2 r k))) * x3 (ix2 e j)) ?_
  exact Finset.sum_congr rfl fun k _ => congrArg (fun q : EReal => q * x2 (ix3 e k j)) (pay5_ap x0 r k)

theorem chainW (x0 : Vec Ideal S32768x2816 .bf16) (x1 : IVec S32768x1 32) (x2 : Vec Ideal S8x2816x2816 .fp8e4m3) (r : Fin 32768) (j : Fin 2816) :
    k0_pay17 (k0_pay5 x0) x1 (k0_pay13 (k0_pay5 x0) x1 (k0_pay11 (k0_pay5 x0) x1 (k0_pay7 (F := Ideal)) (k0_pay9 x0 (View.ld x2 r0_2)) (k0_pay10 (F := Ideal) x1) (View.ld x2 r0_4) (View.ld x2 r0_6)) (View.ld x2 r0_8) (View.ld x2 r0_10)) (k0_pay15 (k0_pay5 x0) (View.ld x2 r0_12)) (k0_pay16 x1) (View.ld x2 r0_14) (View.ld x2 r0_16) (ix2 r j)
      = pick (x1 (ix2 r (0 : Fin 1))) (∑ k : Fin 2816, k0_pay5 x0 (ix2 r k) * View.ld x2 r0_2 (ix3 (0 : Fin 1) k j)) (∑ k : Fin 2816, k0_pay5 x0 (ix2 r k) * View.ld x2 r0_4 (ix3 (0 : Fin 1) k j)) (∑ k : Fin 2816, k0_pay5 x0 (ix2 r k) * View.ld x2 r0_6 (ix3 (0 : Fin 1) k j)) (∑ k : Fin 2816, k0_pay5 x0 (ix2 r k) * View.ld x2 r0_8 (ix3 (0 : Fin 1) k j)) (∑ k : Fin 2816, k0_pay5 x0 (ix2 r k) * View.ld x2 r0_10 (ix3 (0 : Fin 1) k j)) (∑ k : Fin 2816, k0_pay5 x0 (ix2 r k) * View.ld x2 r0_12 (ix3 (0 : Fin 1) k j)) (∑ k : Fin 2816, k0_pay5 x0 (ix2 r k) * View.ld x2 r0_14 (ix3 (0 : Fin 1) k j)) (∑ k : Fin 2816, k0_pay5 x0 (ix2 r k) * View.ld x2 r0_16 (ix3 (0 : Fin 1) k j)) (Ideal.ofBits .f32 0x00000000#32) := by
  rw [pay17_ap, pay16_ap, pay15_ap, pay13_ap, pay11_ap, pay10_ap, pay9_ap, pay7_ap]
  rfl

theorem chainS (x1 : IVec S32768x1 32) (x3 : Vec Ideal S8x2816 .f32) (r : Fin 32768) (j : Fin 2816) :
    k0_pay18 x1 (k0_pay14 x1 (k0_pay12 x1 (k0_pay8 (F := Ideal)) (View.ld x3 r0_3) (View.ld x3 r0_5) (View.ld x3 r0_7)) (View.ld x3 r0_9) (View.ld x3 r0_11)) (View.ld x3 r0_13) (View.ld x3 r0_15) (View.ld x3 r0_17) (ix2 r j)
      = pick (x1 (ix2 r (0 : Fin 1))) (View.ld x3 r0_3 (ix2 (0 : Fin 1) j)) (View.ld x3 r0_5 (ix2 (0 : Fin 1) j)) (View.ld x3 r0_7 (ix2 (0 : Fin 1) j)) (View.ld x3 r0_9 (ix2 (0 : Fin 1) j)) (View.ld x3 r0_11 (ix2 (0 : Fin 1) j)) (View.ld x3 r0_13 (ix2 (0 : Fin 1) j)) (View.ld x3 r0_15 (ix2 (0 : Fin 1) j)) (View.ld x3 r0_17 (ix2 (0 : Fin 1) j)) (Ideal.ofBits .f32 0x00000000#32) := by
  rw [pay18_ap, pay14_ap, pay12_ap, pay8_ap]
  rfl

theorem out_ap (x0 : Vec Ideal S32768x2816 .bf16) (x1 : Vec Ideal S32768x1 .i32) (x2 : Vec Ideal S8x2816x2816 .fp8e4m3) (x3 : Vec Ideal S8x2816 .f32)
    (r : Fin 32768) (j : Fin 2816) (e : Fin 8) (he : (x1 : IVec S32768x1 32) (ix2 r (0 : Fin 1)) = BitVec.ofNat 32 e.val)
    (hx : ∀ k : Fin 2816, max (x0 (ix2 r k)) (-(x0 (ix2 r k))) ≤ (Ev.B : EReal)) :
    out0_4 x0 x1 x2 x3 (ix2 r j) = (∑ k : Fin 2816, x0 (ix2 r k) * x2 (ix3 e k j)) * x3 (ix2 e j) := by
  have hr : out0_4 x0 x1 x2 x3 (ix2 r j) = out0_4 x0 x1 x2 x3 (r0_0.emb (ix2 r j)) := by rw [emb0]
  rw [hr]
  unfold out0_4 k0_pay19 k0_pay20
  rw [View.canon_cons_emb, ldX_eq, ldI_eq, pay6_eq, pay1_ap, chainW, chainS, he]
  match e, he with
  | ⟨0, _⟩, _ => exact row_fin x0 x2 x3 r j 0 hx _ _ ((pick0 _ _ _ _ _ _ _ _ _).trans <| Finset.sum_congr rfl fun k _ => congrArg (fun q : EReal => k0_pay5 x0 (ix2 r k) * q) (ldW0 x2 k j)) ((pick0 _ _ _ _ _ _ _ _ _).trans <| ldS0 x3 j)
  | ⟨1, _⟩, _ => exact row_fin x0 x2 x3 r j 1 hx _ _ ((pick1 _ _ _ _ _ _ _ _ _).trans <| Finset.sum_congr rfl fun k _ => congrArg (fun q : EReal => k0_pay5 x0 (ix2 r k) * q) (ldW1 x2 k j)) ((pick1 _ _ _ _ _ _ _ _ _).trans <| ldS1 x3 j)
  | ⟨2, _⟩, _ => exact row_fin x0 x2 x3 r j 2 hx _ _ ((pick2 _ _ _ _ _ _ _ _ _).trans <| Finset.sum_congr rfl fun k _ => congrArg (fun q : EReal => k0_pay5 x0 (ix2 r k) * q) (ldW2 x2 k j)) ((pick2 _ _ _ _ _ _ _ _ _).trans <| ldS2 x3 j)
  | ⟨3, _⟩, _ => exact row_fin x0 x2 x3 r j 3 hx _ _ ((pick3 _ _ _ _ _ _ _ _ _).trans <| Finset.sum_congr rfl fun k _ => congrArg (fun q : EReal => k0_pay5 x0 (ix2 r k) * q) (ldW3 x2 k j)) ((pick3 _ _ _ _ _ _ _ _ _).trans <| ldS3 x3 j)
  | ⟨4, _⟩, _ => exact row_fin x0 x2 x3 r j 4 hx _ _ ((pick4 _ _ _ _ _ _ _ _ _).trans <| Finset.sum_congr rfl fun k _ => congrArg (fun q : EReal => k0_pay5 x0 (ix2 r k) * q) (ldW4 x2 k j)) ((pick4 _ _ _ _ _ _ _ _ _).trans <| ldS4 x3 j)
  | ⟨5, _⟩, _ => exact row_fin x0 x2 x3 r j 5 hx _ _ ((pick5 _ _ _ _ _ _ _ _ _).trans <| Finset.sum_congr rfl fun k _ => congrArg (fun q : EReal => k0_pay5 x0 (ix2 r k) * q) (ldW5 x2 k j)) ((pick5 _ _ _ _ _ _ _ _ _).trans <| ldS5 x3 j)
  | ⟨6, _⟩, _ => exact row_fin x0 x2 x3 r j 6 hx _ _ ((pick6 _ _ _ _ _ _ _ _ _).trans <| Finset.sum_congr rfl fun k _ => congrArg (fun q : EReal => k0_pay5 x0 (ix2 r k) * q) (ldW6 x2 k j)) ((pick6 _ _ _ _ _ _ _ _ _).trans <| ldS6 x3 j)
  | ⟨7, _⟩, _ => exact row_fin x0 x2 x3 r j 7 hx _ _ ((pick7 _ _ _ _ _ _ _ _ _).trans <| Finset.sum_congr rfl fun k _ => congrArg (fun q : EReal => k0_pay5 x0 (ix2 r k) * q) (ldW7 x2 k j)) ((pick7 _ _ _ _ _ _ _ _ _).trans <| ldS7 x3 j)

theorem idx_arr (y : S32768x2816.Idx) : ∃ (i : Fin 32768) (j : Fin 2816), y = ix2 i j :=
  ⟨y 0, y 1, funext fun a => match a with | ⟨0, _⟩ => rfl | ⟨1, _⟩ => rfl⟩

variable (m : (ℓ : Loc nD τ sig) → Buf (Elt Ideal) ℓ) (c : Dev nD)

theorem iblk0_eq (t : Fin cfg0.N) : (iblk m c 0 t : Vec Ideal S32768x2816 .bf16) = (V m c main_arg0 : Vec Ideal S32768x2816 .bf16) := by
  funext y
  show (V m c main_arg0 : Vec Ideal S32768x2816 .bf16) (((cfg0.win 0).rect t).emb y) = _
  refine congrArg (V m c main_arg0 : Vec Ideal S32768x2816 .bf16) (funext fun a => Fin.ext ?_)
  refine ((cfg0.win 0).rect_emb_val t y a).trans ?_
  match a with
  | ⟨0, _⟩ => show 0 * _ + _ = _; omega
  | ⟨1, _⟩ => show 0 * _ + _ = _; omega

theorem iblk1_eq (t : Fin cfg0.N) : (iblk m c 1 t : Vec Ideal S32768x1 .i32) = (V m c main_v9 : Vec Ideal S32768x1 .i32) := by
  funext y
  show (V m c main_v9 : Vec Ideal S32768x1 .i32) (((cfg0.win 1).rect t).emb y) = _
  refine congrArg (V m c main_v9 : Vec Ideal S32768x1 .i32) (funext fun a => Fin.ext ?_)
  refine ((cfg0.win 1).rect_emb_val t y a).trans ?_
  match a with
  | ⟨0, _⟩ => show 0 * _ + _ = _; omega
  | ⟨1, _⟩ => show 0 * _ + _ = _; omega

theorem iblk2_eq (t : Fin cfg0.N) : (iblk m c 2 t : Vec Ideal S8x2816x2816 .fp8e4m3) = (V m c main_arg2 : Vec Ideal S8x2816x2816 .fp8e4m3) := by
  funext y
  show (V m c main_arg2 : Vec Ideal S8x2816x2816 .fp8e4m3) (((cfg0.win 2).rect t).emb y) = _
  refine congrArg (V m c main_arg2 : Vec Ideal S8x2816x2816 .fp8e4m3) (funext fun a => Fin.ext ?_)
  refine ((cfg0.win 2).rect_emb_val t y a).trans ?_
  match a with
  | ⟨0, _⟩ => show 0 * _ + _ = _; omega
  | ⟨1, _⟩ => show 0 * _ + _ = _; omega
  | ⟨2, _⟩ => show 0 * _ + _ = _; omega

theorem iblk3_eq (t : Fin cfg0.N) : (iblk m c 3 t : Vec Ideal S8x2816 .f32) = (V m c main_arg3 : Vec Ideal S8x2816 .f32) := by
  funext y
  show (V m c main_arg3 : Vec Ideal S8x2816 .f32) (((cfg0.win 3).rect t).emb y) = _
  refine congrArg (V m c main_arg3 : Vec Ideal S8x2816 .f32) (funext fun a => Fin.ext ?_)
  refine ((cfg0.win 3).rect_emb_val t y a).trans ?_
  match a with
  | ⟨0, _⟩ => show 0 * _ + _ = _; omega
  | ⟨1, _⟩ => show 0 * _ + _ = _; omega

/-- The reference's result from its four input arrays. -/
theorem arr_eq : ((dats m 0 c).arrAt 4 cfg0.N : Vec Ideal S32768x2816 .bf16)
    = out0_4 (V m c main_arg0 : Vec Ideal S32768x2816 .bf16) (V m c main_v9 : Vec Ideal S32768x1 .i32) (V m c main_arg2 : Vec Ideal S8x2816x2816 .fp8e4m3) (V m c main_arg3 : Vec Ideal S8x2816 .f32) := by
  refine (dats m 0 c).arrAt_eq_of_covers 4 _ (by decide +kernel) (fun t hfl y => ?_)
  obtain ⟨i, j, rfl⟩ := idx_arr y
  have hemb : ((cfg0.win 4).rect t).emb (ix2 i j) = ix2 i j := by
    refine funext fun a => Fin.ext ?_
    refine ((cfg0.win 4).rect_emb_val t (ix2 i j) a).trans ?_
    match a with
    | ⟨0, _⟩ => show 0 * 32768 + i.val = i.val; omega
    | ⟨1, _⟩ => show 0 * 2816 + j.val = j.val; omega
  show (dats m 0 c).after 4 t (ix2 i j) = out0_4 _ _ _ _ (((cfg0.win 4).rect t).emb (ix2 i j))
  rw [hemb, after0_4]
  rw [iblk0_eq, iblk1_eq, iblk2_eq, iblk3_eq]

theorem val_ap (g : ℕ → ℕ) (hC : Tabs.C g 8 = 32768) (hx : ∀ i : Fin 8, (V m c main_arg1 : IVec S8 32) (ValueIdx.ix1 i) = BitVec.ofNat 32 (g i.val))
    (X : Vec Ideal S32768x2816 .bf16) (hX : (V m c main_arg0 : Vec Ideal S32768x2816 .bf16) = X)
    (hf : ∀ (r : Fin 32768) (k : Fin 2816), max (X (ix2 r k)) (-(X (ix2 r k))) ≤ (Ev.B : EReal))
    (r : Fin 32768) (j : Fin 2816) (e : Fin 8) (hin : Tabs.In g e.val r.val) :
    ((dats m 0 c).arrAt 4 cfg0.N : Vec Ideal S32768x2816 .bf16) (ix2 r j)
      = (∑ k : Fin 2816, X (ix2 r k) * (V m c main_arg2 : Vec Ideal S8x2816x2816 .fp8e4m3) (ix3 e k j)) * (V m c main_arg3 : Vec Ideal S8x2816 .f32) (ix2 e j) := by
  rw [arr_eq, hX]
  refine out_ap X _ _ _ r j e ?_ (hf r)
  rw [rd_v9]
  exact ids_ap _ g hC (sums_ap _ g hx) r e hin

end Cert.ReferenceIdeal.Own
-- ==== Proof.RFin.lean ====
module

public import proofs.«01_k».proof.Proof.RValue
public import Idealize.ShloMosaic.Lib.Pipeline.ValueKit

@[expose] public section

set_option maxRecDepth 16384

noncomputable section

/-! Every run of the reference, with its result named. -/

namespace Cert.ReferenceIdeal.Own

open Idealize.ShloMosaic Idealize.ShloMosaic.TcCoe Idealize.ShloMosaic.Tactic Idealize.SL.Sem
open Cert.ReferenceIdeal Cert.ReferenceIdeal.Gen

theorem run_val (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v10) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => fun c => ⟨(h.1 c).1 4, h.2 c⟩) (θ_run_and (run_main m ρ) (unchanged m ρ))

end Cert.ReferenceIdeal.Own
-- ==== Proof.lean ====
/- The kernel's frames at its own floats and at the ideal ones, the reference's, and the equation of the two at the ideal instance. -/
module

public import proofs.«01_k».proof.Defs
public import proofs.«01_k».proof.Proof.RunL
public import proofs.«01_k».proof.Proof.Decode
public import proofs.«01_k».proof.Proof.IRunL
public import proofs.«01_k».proof.Proof.IDecode
public import proofs.«01_k».proof.Proof.IFin
public import proofs.«01_k».proof.Proof.RFin
public import proofs.«01_k».proof.Proof.Gen.Kernel
public import proofs.«01_k».proof.Proof.Gen.Pre_groups
public import proofs.«01_k».proof.Proof.Gen.Pre_groups_and_finite
public import proofs.«01_k».proof.Proof.Gen.KernelIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

theorem and_one : ∀ a b : BitVec 1, IntOp.andi a b = 1#1 → a = 1#1 ∧ b = 1#1 := by decide

theorem groups_k {F : FTy → Type} [FloatOps F] (a0 a1 a2 a3) (h : Cert.Pre_groups.fn (F := F) a0 a1 a2 a3 = fun _ => 1#1) :
    Tabs.C (Cert.Kernel.Own.gw a1) 8 = 32768 := by
  have h0 := congrFun h ValueIdx.ix0
  obtain ⟨h12, h3⟩ := and_one _ _ h0
  obtain ⟨h1, h2⟩ := and_one _ _ h12
  exact Cert.Kernel.Own.groups_of a1 _ _ _ h1 h2 h3

theorem groups_i {F : FTy → Type} [FloatOps F] (a0 a1 a2 a3) (h : Cert.Pre_groups.fn (F := F) a0 a1 a2 a3 = fun _ => 1#1) :
    Tabs.C (Cert.KernelIdeal.Own.gw a1) 8 = 32768 := by
  have h0 := congrFun h ValueIdx.ix0
  obtain ⟨h12, h3⟩ := and_one _ _ h0
  obtain ⟨h1, h2⟩ := and_one _ _ h12
  exact Cert.KernelIdeal.Own.groups_of a1 _ _ _ h1 h2 h3

theorem groups_f {F : FTy → Type} [FloatOps F] (a0 a1 a2 a3) (h : Cert.Pre_groups_and_finite.fn (F := F) a0 a1 a2 a3 = fun _ => 1#1) :
    Tabs.C (Cert.KernelIdeal.Own.gw a1) 8 = 32768 := by
  have h0 := congrFun h ValueIdx.ix0
  obtain ⟨h123, _⟩ := and_one _ _ h0
  obtain ⟨h12, h3⟩ := and_one _ _ h123
  obtain ⟨h1, h2⟩ := and_one _ _ h12
  exact Cert.KernelIdeal.Own.groups_of a1 _ _ _ h1 h2 h3

theorem frame_k : quiescent_Kernel := by
  intro m g hp
  have hC := groups_k _ _ _ _ (hp 0)
  have hT := Cert.Kernel.Own.tabFacts m _ (fun i => (congrFun (Cert.Kernel.Own.V_main_arg1 m 0) _).trans (Cert.Kernel.Own.gw_ap _ i)) hC
  exact Cert.Kernel.Own.frame_of_tab m g (Cert.Kernel.Own.ok_of_facts _ hT) hT

theorem tab_i (m) (hC : Tabs.C (Cert.KernelIdeal.Own.gw (m (((0 : Dev Cert.KernelIdeal.nD).tc : Thread Cert.KernelIdeal.nD Cert.KernelIdeal.τ).loc Cert.KernelIdeal.main_arg1))) 8 = 32768) :
    Cert.KernelIdeal.Own.TabFacts (F := Ideal) (Cert.KernelIdeal.Own.tbl m) :=
  Cert.KernelIdeal.Own.tabFacts m _ (fun i => (congrFun (Cert.KernelIdeal.Own.V_main_arg1 m 0) _).trans (Cert.KernelIdeal.Own.gw_ap _ i)) hC

theorem frame_i : quiescent_KernelIdeal := by
  intro m g hp
  have hT := tab_i m (groups_i _ _ _ _ (hp 0))
  exact Cert.KernelIdeal.Own.frame_of_tab m g (Cert.KernelIdeal.Own.ok_of_facts _ hT) hT

theorem frame_if : quiescent_KernelIdeal_pre_groups_and_finite := by
  intro m g hp
  have hT := tab_i m (groups_f _ _ _ _ (hp 0))
  exact Cert.KernelIdeal.Own.frame_of_tab m g (Cert.KernelIdeal.Own.ok_of_facts _ hT) hT

theorem frame_r : quiescent_ReferenceIdeal := fun m g _ => Cert.ReferenceIdeal.Gen.frame m g

theorem frame_rf : quiescent_ReferenceIdeal_pre_groups_and_finite := fun m g _ => Cert.ReferenceIdeal.Gen.frame m g

theorem finite_f (a0 a1 a2 a3) (h : Cert.Pre_groups_and_finite.fn (F := Ideal) a0 a1 a2 a3 = fun _ => 1#1) :
    Cert.KernelIdeal.Own.FinX a0 := by
  intro r k
  have h0 := congrFun h ValueIdx.ix0
  obtain ⟨_, h4⟩ := and_one _ _ h0
  haveI : Subsingleton Cert.Pre_groups_and_finite.S_.Idx := ⟨fun a b => funext fun i => i.elim0⟩
  have h5 := Host.reduce_andi_all _ _ _ _ _ h4 (ix2 r k)
  have h6 : Ideal.cmp .ole (max (a0 (ix2 r k)) (-(a0 (ix2 r k)))) (Ideal.ofBits .f32 0x7F7F0000#32) = 1#1 := h5
  rw [Ev.B_bits, Ideal.cmp_ole] at h6
  by_contra hn
  rw [decide_eq_false hn] at h6
  exact absurd h6 (by decide)

set_option maxRecDepth 16384 in
theorem algebraic : algebraic_KernelIdeal_ReferenceIdeal_pre_groups_and_finite := by
  intro m g m' g' hp ha
  have hC := groups_f _ _ _ _ (hp 0)
  have hT := tab_i m hC
  have hx := fun i : Fin 8 => (congrFun (Cert.KernelIdeal.Own.V_main_arg1 m 0) (ValueIdx.ix1 i)).trans (Cert.KernelIdeal.Own.gw_ap _ i)
  refine ⟨fun c => (Cert.ReferenceIdeal.Gen.dats m' 0 c).arrAt 4 Cert.ReferenceIdeal.cfg0.N,
    Cert.KernelIdeal.Own.run_val m g (Cert.KernelIdeal.Own.ok_of_facts _ hT) hT _ fun c => ?_, Cert.ReferenceIdeal.Own.run_val m' g'⟩
  obtain ⟨e0, e1, e2, e3⟩ := ha c
  have f0 := (Cert.ReferenceIdeal.Gen.V_main_arg0 m' c).trans (e0.trans (Cert.KernelIdeal.Own.V_main_arg0 m c).symm)
  have f1 := (Cert.ReferenceIdeal.Gen.V_main_arg1 m' c).trans e1
  have f2 := (Cert.ReferenceIdeal.Gen.V_main_arg2 m' c).trans (e2.trans (Cert.KernelIdeal.Own.V_main_arg2 m c).symm)
  have f3 := (Cert.ReferenceIdeal.Gen.V_main_arg3 m' c).trans (e3.trans (Cert.KernelIdeal.Own.V_main_arg3 m c).symm)
  obtain rfl : c = 0 := Subsingleton.elim _ _
  have hf : Cert.KernelIdeal.Own.FinX (Cert.KernelIdeal.Own.V m 0 Cert.KernelIdeal.main_arg0) := by
    rw [Cert.KernelIdeal.Own.V_main_arg0]
    exact finite_f _ _ _ _ (hp 0)
  refine Cert.KernelIdeal.Own.out_eq m (Cert.KernelIdeal.Own.ok_of_facts _ hT) hT 0 _ hx hC hf _ fun r j e hin => ?_
  refine Eq.trans ?_ (Cert.ReferenceIdeal.Own.val_ap m' 0 _ hC (fun i => (congrFun f1 (ValueIdx.ix1 i)).trans (Cert.KernelIdeal.Own.gw_ap _ i)) _ f0 hf r j e hin).symm
  rw [f2, f3]
  rfl

end Cert.Proof

theorem Cert.Proof.claim : Cert.Claim :=
  ⟨Cert.Kernel.Gen.facts, Cert.KernelIdeal.Gen.facts, Cert.ReferenceIdeal.Gen.facts, Cert.Pre_groups.Gen.facts, Cert.Pre_groups_and_finite.Gen.facts,
    Cert.Proof.frame_k, Cert.Proof.frame_i, Cert.Proof.frame_if, Cert.Proof.frame_r, Cert.Proof.frame_rf, trivial, Cert.Proof.algebraic⟩

end
